-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320x7x32x64 : Shape := ⟨4, ![320, 7, 32, 64]⟩
abbrev S320x32x64x128 : Shape := ⟨4, ![320, 32, 64, 128]⟩
abbrev S320x32 : Shape := ⟨2, ![320, 32]⟩
abbrev S320x7x1x128 : Shape := ⟨4, ![320, 7, 1, 128]⟩
abbrev S320x7x32 : Shape := ⟨3, ![320, 7, 32]⟩
abbrev S32 : Shape := ⟨1, ![32]⟩
abbrev S320x7x128 : Shape := ⟨3, ![320, 7, 128]⟩
abbrev S1x32 : Shape := ⟨2, ![1, 32]⟩
abbrev S320x7x32x64x128 : Shape := ⟨5, ![320, 7, 32, 64, 128]⟩
abbrev S2x7x32x64 : Shape := ⟨4, ![2, 7, 32, 64]⟩
abbrev S2x32x64x128 : Shape := ⟨4, ![2, 32, 64, 128]⟩
abbrev S2x7x128 : Shape := ⟨3, ![2, 7, 128]⟩
abbrev S2x7x32 : Shape := ⟨3, ![2, 7, 32]⟩
abbrev S2x7x32x64x128 : Shape := ⟨5, ![2, 7, 32, 64, 128]⟩
abbrev S2x32x8x128 : Shape := ⟨4, ![2, 32, 8, 128]⟩
abbrev S2x2x8x128 : Shape := ⟨4, ![2, 2, 8, 128]⟩
abbrev S2x8x128 : Shape := ⟨3, ![2, 8, 128]⟩
abbrev S2x64x128 : Shape := ⟨3, ![2, 64, 128]⟩
abbrev S2x32x128 : Shape := ⟨3, ![2, 32, 128]⟩
abbrev S32x128 : Shape := ⟨2, ![32, 128]⟩
abbrev S1x96 : Shape := ⟨2, ![1, 96]⟩
abbrev S1x128 : Shape := ⟨2, ![1, 128]⟩
abbrev S8x128 : Shape := ⟨2, ![8, 128]⟩
abbrev S8 : Shape := ⟨1, ![8]⟩
abbrev S8x1 : Shape := ⟨2, ![8, 1]⟩
abbrev S1x7x32 : Shape := ⟨3, ![1, 7, 32]⟩
abbrev S7x32 : Shape := ⟨2, ![7, 32]⟩
abbrev S7x96 : Shape := ⟨2, ![7, 96]⟩
abbrev S7x128 : Shape := ⟨2, ![7, 128]⟩
abbrev S1x1x7x128 : Shape := ⟨4, ![1, 1, 7, 128]⟩
abbrev S1x8x128 : Shape := ⟨3, ![1, 8, 128]⟩
abbrev S1x1x32x64 : Shape := ⟨4, ![1, 1, 32, 64]⟩
abbrev S32x64 : Shape := ⟨2, ![32, 64]⟩
abbrev S64x32 : Shape := ⟨2, ![64, 32]⟩
abbrev S64x96 : Shape := ⟨2, ![64, 96]⟩
abbrev S64x128 : Shape := ⟨2, ![64, 128]⟩
abbrev S1x1x1x128 : Shape := ⟨4, ![1, 1, 1, 128]⟩
abbrev S1x64x128 : Shape := ⟨3, ![1, 64, 128]⟩
abbrev S1x7x128 : Shape := ⟨3, ![1, 7, 128]⟩
abbrev S1x1x64x128 : Shape := ⟨4, ![1, 1, 64, 128]⟩
abbrev S64x1 : Shape := ⟨2, ![64, 1]⟩
abbrev S8x8x128 : Shape := ⟨3, ![8, 8, 128]⟩
abbrev S1x1x8x128 : Shape := ⟨4, ![1, 1, 8, 128]⟩
abbrev S128 : Shape := ⟨1, ![128]⟩
abbrev S1x1x32 : Shape := ⟨3, ![1, 1, 32]⟩
abbrev S1x32x128 : Shape := ⟨3, ![1, 32, 128]⟩
abbrev S16x128 : Shape := ⟨2, ![16, 128]⟩
abbrev S16x2048 : Shape := ⟨2, ![16, 2048]⟩
abbrev S1x1x1x64x128 : Shape := ⟨5, ![1, 1, 1, 64, 128]⟩
abbrev S64x2048 : Shape := ⟨2, ![64, 2048]⟩
abbrev S16x64 : Shape := ⟨2, ![16, 64]⟩
abbrev S1x1x16x64 : Shape := ⟨4, ![1, 1, 16, 64]⟩
abbrev S1x16x128 : Shape := ⟨3, ![1, 16, 128]⟩

abbrev nBuf : Space → Nat
  | .hbm => 17
  | .vmem => 29
  | .smem => 0
  | _ => 0

abbrev bufTy : (tb : Table) → Fin (tcTables nBuf tb) → BufTy
  | .hbm, ⟨0, _⟩ => ⟨S320x7x32x64, .bf16⟩
  | .hbm, ⟨1, _⟩ => ⟨S320x32x64x128, .fp8e4m3⟩
  | .hbm, ⟨2, _⟩ => ⟨S320x32, .f32⟩
  | .hbm, ⟨3, _⟩ => ⟨S320x7x1x128, .bf16⟩
  | .hbm, ⟨4, _⟩ => ⟨S320x7x1x128, .bf16⟩
  | .hbm, ⟨5, _⟩ => ⟨S320x7x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S320x7x128, .bf16⟩
  | .hbm, ⟨10, _⟩ => ⟨S320x7x128, .bf16⟩
  | .hbm, ⟨11, _⟩ => ⟨S1x32, .f32⟩
  | .hbm, ⟨12, _⟩ => ⟨S1x32, .f32⟩
  | .hbm, ⟨13, _⟩ => ⟨S1x32, .f32⟩
  | .hbm, ⟨14, _⟩ => ⟨S320x7x32x64, .bf16⟩
  | .hbm, ⟨15, _⟩ => ⟨S320x7x32x64x128, .fp8e4m3⟩
  | .hbm, ⟨16, _⟩ => ⟨S320x7x32, .f32⟩
  | .local _ .vmem, ⟨0, _⟩ => ⟨S2x7x32x64, .bf16⟩
  | .local _ .vmem, ⟨1, _⟩ => ⟨S2x7x32x64, .bf16⟩
  | .local _ .vmem, ⟨2, _⟩ => ⟨S2x32x64x128, .fp8e4m3⟩
  | .local _ .vmem, ⟨3, _⟩ => ⟨S2x32x64x128, .fp8e4m3⟩
  | .local _ .vmem, ⟨4, _⟩ => ⟨S320x32, .f32⟩
  | .local _ .vmem, ⟨5, _⟩ => ⟨S2x7x128, .bf16⟩
  | .local _ .vmem, ⟨6, _⟩ => ⟨S2x7x128, .bf16⟩
  | .local _ .vmem, ⟨7, _⟩ => ⟨S2x7x128, .bf16⟩
  | .local _ .vmem, ⟨8, _⟩ => ⟨S2x7x128, .bf16⟩
  | .local _ .vmem, ⟨9, _⟩ => ⟨S2x7x32, .f32⟩
  | .local _ .vmem, ⟨10, _⟩ => ⟨S2x7x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S2x7x32x64, .bf16⟩
  | .local _ .vmem, ⟨15, _⟩ => ⟨S2x7x32x64, .bf16⟩
  | .local _ .vmem, ⟨16, _⟩ => ⟨S2x7x32x64x128, .fp8e4m3⟩
  | .local _ .vmem, ⟨17, _⟩ => ⟨S2x7x32x64x128, .fp8e4m3⟩
  | .local _ .vmem, ⟨18, _⟩ => ⟨S2x7x32, .f32⟩
  | .local _ .vmem, ⟨19, _⟩ => ⟨S2x7x32, .f32⟩
  | .local _ .vmem, ⟨20, _⟩ => ⟨S2x32x64x128, .f32⟩
  | .local _ .vmem, ⟨21, _⟩ => ⟨S2x32x8x128, .f32⟩
  | .local _ .vmem, ⟨22, _⟩ => ⟨S2x2x8x128, .f32⟩
  | .local _ .vmem, ⟨23, _⟩ => ⟨S2x8x128, .f32⟩
  | .local _ .vmem, ⟨24, _⟩ => ⟨S2x8x128, .f32⟩
  | .local _ .vmem, ⟨25, _⟩ => ⟨S2x64x128, .f32⟩
  | .local _ .vmem, ⟨26, _⟩ => ⟨S2x2x8x128, .f32⟩
  | .local _ .vmem, ⟨27, _⟩ => ⟨S2x32x128, .f32⟩
  | .local _ .vmem, ⟨28, _⟩ => ⟨S32x128, .f32⟩
  | _, _ => ⟨S320x7x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![160], ![false]⟩

def k0_off1 : Fin 3 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v58 : Index := Scalar.indexCast v56
  let c0_14 : Index := 0#32
  let c0_15 : Index := 0#32
  ![v58.toNat, 0, 0]
def k0_off2 (i : grid0.Coords) : Fin 2 → Nat :=
  let arg0 : BitVec 32 := BitVec.ofNat 32 (i 0).val
  let c2_i32_32 : BitVec 32 := 2#32
  let v91 : BitVec 32 := Scalar.muli arg0 c2_i32_32
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v92 : BitVec 32 := Scalar.addi v91 v56
  let v94 : Index := Scalar.indexCast v92
  let c0_33 : Index := 0#32
  ![v94.toNat, 0]
def k0_off3 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v104 : Index := Scalar.indexCast v56
  let c0_38 : Index := 0#32
  let c0_39 : Index := 0#32
  let c0_40 : Index := 0#32
  ![v104.toNat, 0, 0, 0]
def k0_off4 : Fin 3 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v118 : Index := Scalar.indexCast v56
  let c0_49 : Index := 0#32
  let c0_50 : Index := 0#32
  ![v118.toNat, 0, 0]
def k0_off5 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v134 : Index := Scalar.indexCast v56
  let c0_65 : Index := 0#32
  let c0_66 : Index := 0#32
  let c0_67 : Index := 0#32
  ![v134.toNat, 0, 0, 0]
def k0_off6 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v165 : Index := Scalar.indexCast v56
  let c1_83 : Index := 1#32
  let c0_84 : Index := 0#32
  let c0_85 : Index := 0#32
  ![v165.toNat, 1, 0, 0]
def k0_off7 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v196 : Index := Scalar.indexCast v56
  let c2 : Index := 2#32
  let c0_101 : Index := 0#32
  let c0_102 : Index := 0#32
  ![v196.toNat, 2, 0, 0]
def k0_off8 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v227 : Index := Scalar.indexCast v56
  let c3 : Index := 3#32
  let c0_118 : Index := 0#32
  let c0_119 : Index := 0#32
  ![v227.toNat, 3, 0, 0]
def k0_off9 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v258 : Index := Scalar.indexCast v56
  let c4 : Index := 4#32
  let c0_135 : Index := 0#32
  let c0_136 : Index := 0#32
  ![v258.toNat, 4, 0, 0]
def k0_off10 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v289 : Index := Scalar.indexCast v56
  let c5 : Index := 5#32
  let c0_152 : Index := 0#32
  let c0_153 : Index := 0#32
  ![v289.toNat, 5, 0, 0]
def k0_off11 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v320 : Index := Scalar.indexCast v56
  let c6 : Index := 6#32
  let c0_169 : Index := 0#32
  let c0_170 : Index := 0#32
  ![v320.toNat, 6, 0, 0]
def k0_off12 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v351 : Index := Scalar.indexCast v56
  let c7 : Index := 7#32
  let c0_186 : Index := 0#32
  let c0_187 : Index := 0#32
  ![v351.toNat, 7, 0, 0]
def k0_off13 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v382 : Index := Scalar.indexCast v56
  let c8 : Index := 8#32
  let c0_203 : Index := 0#32
  let c0_204 : Index := 0#32
  ![v382.toNat, 8, 0, 0]
def k0_off14 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v413 : Index := Scalar.indexCast v56
  let c9 : Index := 9#32
  let c0_220 : Index := 0#32
  let c0_221 : Index := 0#32
  ![v413.toNat, 9, 0, 0]
def k0_off15 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v444 : Index := Scalar.indexCast v56
  let c10 : Index := 10#32
  let c0_237 : Index := 0#32
  let c0_238 : Index := 0#32
  ![v444.toNat, 10, 0, 0]
def k0_off16 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v475 : Index := Scalar.indexCast v56
  let c11 : Index := 11#32
  let c0_254 : Index := 0#32
  let c0_255 : Index := 0#32
  ![v475.toNat, 11, 0, 0]
def k0_off17 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v506 : Index := Scalar.indexCast v56
  let c12 : Index := 12#32
  let c0_271 : Index := 0#32
  let c0_272 : Index := 0#32
  ![v506.toNat, 12, 0, 0]
def k0_off18 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v537 : Index := Scalar.indexCast v56
  let c13 : Index := 13#32
  let c0_288 : Index := 0#32
  let c0_289 : Index := 0#32
  ![v537.toNat, 13, 0, 0]
def k0_off19 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v568 : Index := Scalar.indexCast v56
  let c14 : Index := 14#32
  let c0_305 : Index := 0#32
  let c0_306 : Index := 0#32
  ![v568.toNat, 14, 0, 0]
def k0_off20 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v599 : Index := Scalar.indexCast v56
  let c15 : Index := 15#32
  let c0_322 : Index := 0#32
  let c0_323 : Index := 0#32
  ![v599.toNat, 15, 0, 0]
def k0_off21 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v630 : Index := Scalar.indexCast v56
  let c16 : Index := 16#32
  let c0_339 : Index := 0#32
  let c0_340 : Index := 0#32
  ![v630.toNat, 16, 0, 0]
def k0_off22 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v661 : Index := Scalar.indexCast v56
  let c17 : Index := 17#32
  let c0_356 : Index := 0#32
  let c0_357 : Index := 0#32
  ![v661.toNat, 17, 0, 0]
def k0_off23 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v692 : Index := Scalar.indexCast v56
  let c18 : Index := 18#32
  let c0_373 : Index := 0#32
  let c0_374 : Index := 0#32
  ![v692.toNat, 18, 0, 0]
def k0_off24 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v723 : Index := Scalar.indexCast v56
  let c19 : Index := 19#32
  let c0_390 : Index := 0#32
  let c0_391 : Index := 0#32
  ![v723.toNat, 19, 0, 0]
def k0_off25 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v754 : Index := Scalar.indexCast v56
  let c20 : Index := 20#32
  let c0_407 : Index := 0#32
  let c0_408 : Index := 0#32
  ![v754.toNat, 20, 0, 0]
def k0_off26 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v785 : Index := Scalar.indexCast v56
  let c21 : Index := 21#32
  let c0_424 : Index := 0#32
  let c0_425 : Index := 0#32
  ![v785.toNat, 21, 0, 0]
def k0_off27 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v816 : Index := Scalar.indexCast v56
  let c22 : Index := 22#32
  let c0_441 : Index := 0#32
  let c0_442 : Index := 0#32
  ![v816.toNat, 22, 0, 0]
def k0_off28 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v847 : Index := Scalar.indexCast v56
  let c23 : Index := 23#32
  let c0_458 : Index := 0#32
  let c0_459 : Index := 0#32
  ![v847.toNat, 23, 0, 0]
def k0_off29 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v878 : Index := Scalar.indexCast v56
  let c24 : Index := 24#32
  let c0_475 : Index := 0#32
  let c0_476 : Index := 0#32
  ![v878.toNat, 24, 0, 0]
def k0_off30 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v909 : Index := Scalar.indexCast v56
  let c25 : Index := 25#32
  let c0_492 : Index := 0#32
  let c0_493 : Index := 0#32
  ![v909.toNat, 25, 0, 0]
def k0_off31 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v940 : Index := Scalar.indexCast v56
  let c26 : Index := 26#32
  let c0_509 : Index := 0#32
  let c0_510 : Index := 0#32
  ![v940.toNat, 26, 0, 0]
def k0_off32 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v971 : Index := Scalar.indexCast v56
  let c27 : Index := 27#32
  let c0_526 : Index := 0#32
  let c0_527 : Index := 0#32
  ![v971.toNat, 27, 0, 0]
def k0_off33 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v1002 : Index := Scalar.indexCast v56
  let c28 : Index := 28#32
  let c0_543 : Index := 0#32
  let c0_544 : Index := 0#32
  ![v1002.toNat, 28, 0, 0]
def k0_off34 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v1033 : Index := Scalar.indexCast v56
  let c29 : Index := 29#32
  let c0_560 : Index := 0#32
  let c0_561 : Index := 0#32
  ![v1033.toNat, 29, 0, 0]
def k0_off35 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v1064 : Index := Scalar.indexCast v56
  let c30 : Index := 30#32
  let c0_577 : Index := 0#32
  let c0_578 : Index := 0#32
  ![v1064.toNat, 30, 0, 0]
def k0_off36 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v1095 : Index := Scalar.indexCast v56
  let c31 : Index := 31#32
  let c0_594 : Index := 0#32
  let c0_595 : Index := 0#32
  ![v1095.toNat, 31, 0, 0]
def k0_off37 : Fin 3 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1126 : Index := Scalar.indexCast v57
  let c0_611 : Index := 0#32
  let c0_612 : Index := 0#32
  ![v1126.toNat, 0, 0]
def k0_off38 (i : grid0.Coords) : Fin 2 → Nat :=
  let arg0 : BitVec 32 := BitVec.ofNat 32 (i 0).val
  let c2_i32_630 : BitVec 32 := 2#32
  let v1159 : BitVec 32 := Scalar.muli arg0 c2_i32_630
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1160 : BitVec 32 := Scalar.addi v1159 v57
  let v1162 : Index := Scalar.indexCast v1160
  let c0_631 : Index := 0#32
  ![v1162.toNat, 0]
def k0_off39 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1172 : Index := Scalar.indexCast v57
  let c0_636 : Index := 0#32
  let c0_637 : Index := 0#32
  let c0_638 : Index := 0#32
  ![v1172.toNat, 0, 0, 0]
def k0_off40 : Fin 3 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1186 : Index := Scalar.indexCast v57
  let c0_647 : Index := 0#32
  let c0_648 : Index := 0#32
  ![v1186.toNat, 0, 0]
def k0_off41 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1202 : Index := Scalar.indexCast v57
  let c0_663 : Index := 0#32
  let c0_664 : Index := 0#32
  let c0_665 : Index := 0#32
  ![v1202.toNat, 0, 0, 0]
def k0_off42 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1233 : Index := Scalar.indexCast v57
  let c1_681 : Index := 1#32
  let c0_682 : Index := 0#32
  let c0_683 : Index := 0#32
  ![v1233.toNat, 1, 0, 0]
def k0_off43 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1264 : Index := Scalar.indexCast v57
  let c2_699 : Index := 2#32
  let c0_700 : Index := 0#32
  let c0_701 : Index := 0#32
  ![v1264.toNat, 2, 0, 0]
def k0_off44 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1295 : Index := Scalar.indexCast v57
  let c3_717 : Index := 3#32
  let c0_718 : Index := 0#32
  let c0_719 : Index := 0#32
  ![v1295.toNat, 3, 0, 0]
def k0_off45 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1326 : Index := Scalar.indexCast v57
  let c4_735 : Index := 4#32
  let c0_736 : Index := 0#32
  let c0_737 : Index := 0#32
  ![v1326.toNat, 4, 0, 0]
def k0_off46 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1357 : Index := Scalar.indexCast v57
  let c5_753 : Index := 5#32
  let c0_754 : Index := 0#32
  let c0_755 : Index := 0#32
  ![v1357.toNat, 5, 0, 0]
def k0_off47 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1388 : Index := Scalar.indexCast v57
  let c6_771 : Index := 6#32
  let c0_772 : Index := 0#32
  let c0_773 : Index := 0#32
  ![v1388.toNat, 6, 0, 0]
def k0_off48 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1419 : Index := Scalar.indexCast v57
  let c7_789 : Index := 7#32
  let c0_790 : Index := 0#32
  let c0_791 : Index := 0#32
  ![v1419.toNat, 7, 0, 0]
def k0_off49 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1450 : Index := Scalar.indexCast v57
  let c8_807 : Index := 8#32
  let c0_808 : Index := 0#32
  let c0_809 : Index := 0#32
  ![v1450.toNat, 8, 0, 0]
def k0_off50 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1481 : Index := Scalar.indexCast v57
  let c9_825 : Index := 9#32
  let c0_826 : Index := 0#32
  let c0_827 : Index := 0#32
  ![v1481.toNat, 9, 0, 0]
def k0_off51 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1512 : Index := Scalar.indexCast v57
  let c10_843 : Index := 10#32
  let c0_844 : Index := 0#32
  let c0_845 : Index := 0#32
  ![v1512.toNat, 10, 0, 0]
def k0_off52 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1543 : Index := Scalar.indexCast v57
  let c11_861 : Index := 11#32
  let c0_862 : Index := 0#32
  let c0_863 : Index := 0#32
  ![v1543.toNat, 11, 0, 0]
def k0_off53 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1574 : Index := Scalar.indexCast v57
  let c12_879 : Index := 12#32
  let c0_880 : Index := 0#32
  let c0_881 : Index := 0#32
  ![v1574.toNat, 12, 0, 0]
def k0_off54 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1605 : Index := Scalar.indexCast v57
  let c13_897 : Index := 13#32
  let c0_898 : Index := 0#32
  let c0_899 : Index := 0#32
  ![v1605.toNat, 13, 0, 0]
def k0_off55 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1636 : Index := Scalar.indexCast v57
  let c14_915 : Index := 14#32
  let c0_916 : Index := 0#32
  let c0_917 : Index := 0#32
  ![v1636.toNat, 14, 0, 0]
def k0_off56 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1667 : Index := Scalar.indexCast v57
  let c15_933 : Index := 15#32
  let c0_934 : Index := 0#32
  let c0_935 : Index := 0#32
  ![v1667.toNat, 15, 0, 0]
def k0_off57 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1698 : Index := Scalar.indexCast v57
  let c16_951 : Index := 16#32
  let c0_952 : Index := 0#32
  let c0_953 : Index := 0#32
  ![v1698.toNat, 16, 0, 0]
def k0_off58 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1729 : Index := Scalar.indexCast v57
  let c17_969 : Index := 17#32
  let c0_970 : Index := 0#32
  let c0_971 : Index := 0#32
  ![v1729.toNat, 17, 0, 0]
def k0_off59 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1760 : Index := Scalar.indexCast v57
  let c18_987 : Index := 18#32
  let c0_988 : Index := 0#32
  let c0_989 : Index := 0#32
  ![v1760.toNat, 18, 0, 0]
def k0_off60 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1791 : Index := Scalar.indexCast v57
  let c19_1005 : Index := 19#32
  let c0_1006 : Index := 0#32
  let c0_1007 : Index := 0#32
  ![v1791.toNat, 19, 0, 0]
def k0_off61 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1822 : Index := Scalar.indexCast v57
  let c20_1023 : Index := 20#32
  let c0_1024 : Index := 0#32
  let c0_1025 : Index := 0#32
  ![v1822.toNat, 20, 0, 0]
def k0_off62 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1853 : Index := Scalar.indexCast v57
  let c21_1041 : Index := 21#32
  let c0_1042 : Index := 0#32
  let c0_1043 : Index := 0#32
  ![v1853.toNat, 21, 0, 0]
def k0_off63 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1884 : Index := Scalar.indexCast v57
  let c22_1059 : Index := 22#32
  let c0_1060 : Index := 0#32
  let c0_1061 : Index := 0#32
  ![v1884.toNat, 22, 0, 0]
def k0_off64 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1915 : Index := Scalar.indexCast v57
  let c23_1077 : Index := 23#32
  let c0_1078 : Index := 0#32
  let c0_1079 : Index := 0#32
  ![v1915.toNat, 23, 0, 0]
def k0_off65 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1946 : Index := Scalar.indexCast v57
  let c24_1095 : Index := 24#32
  let c0_1096 : Index := 0#32
  let c0_1097 : Index := 0#32
  ![v1946.toNat, 24, 0, 0]
def k0_off66 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v1977 : Index := Scalar.indexCast v57
  let c25_1113 : Index := 25#32
  let c0_1114 : Index := 0#32
  let c0_1115 : Index := 0#32
  ![v1977.toNat, 25, 0, 0]
def k0_off67 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v2008 : Index := Scalar.indexCast v57
  let c26_1131 : Index := 26#32
  let c0_1132 : Index := 0#32
  let c0_1133 : Index := 0#32
  ![v2008.toNat, 26, 0, 0]
def k0_off68 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v2039 : Index := Scalar.indexCast v57
  let c27_1149 : Index := 27#32
  let c0_1150 : Index := 0#32
  let c0_1151 : Index := 0#32
  ![v2039.toNat, 27, 0, 0]
def k0_off69 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v2070 : Index := Scalar.indexCast v57
  let c28_1167 : Index := 28#32
  let c0_1168 : Index := 0#32
  let c0_1169 : Index := 0#32
  ![v2070.toNat, 28, 0, 0]
def k0_off70 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v2101 : Index := Scalar.indexCast v57
  let c29_1185 : Index := 29#32
  let c0_1186 : Index := 0#32
  let c0_1187 : Index := 0#32
  ![v2101.toNat, 29, 0, 0]
def k0_off71 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v2132 : Index := Scalar.indexCast v57
  let c30_1203 : Index := 30#32
  let c0_1204 : Index := 0#32
  let c0_1205 : Index := 0#32
  ![v2132.toNat, 30, 0, 0]
def k0_off72 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v2163 : Index := Scalar.indexCast v57
  let c31_1221 : Index := 31#32
  let c0_1222 : Index := 0#32
  let c0_1223 : Index := 0#32
  ![v2163.toNat, 31, 0, 0]
def k0_off73 : Fin 3 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v2567 : Index := Scalar.indexCast v56
  let c0_1427 : Index := 0#32
  let c0_1428 : Index := 0#32
  ![v2567.toNat, 0, 0]
def k0_off74 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v2629 : Index := Scalar.indexCast v56
  let c1_1454 : Index := 1#32
  let c0_1455 : Index := 0#32
  let c0_1456 : Index := 0#32
  ![v2629.toNat, 1, 0, 0]
@[reducible] def k0_t1_loop : Scf.Loop 32 :=
  let c0_i32_1465 : BitVec 32 := 0#32
  let c5_i32_1466 : BitVec 32 := 5#32
  let v2643 : BitVec 32 := Scalar.addi c0_i32_1465 c5_i32_1466
  let c1_i32_1467 : BitVec 32 := 1#32
  ⟨c0_i32_1465, v2643, c1_i32_1467⟩
def k0_off75 (k0_t1 : Fin k0_t1_loop.trips) : Fin 4 → Nat :=
  let c0_5083 : Index := 0#32
  let c0_5084 : Index := 0#32
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let c1_i32_5082 : BitVec 32 := 1#32
  let v8931 : BitVec 32 := Scalar.addi v8930 c1_i32_5082
  let v8932 : Index := Scalar.indexCast v8931
  let c0_5085 : Index := 0#32
  ![0, 0, v8932.toNat, 0]
def k0_off76 (k0_t1 : Fin k0_t1_loop.trips) : Fin 4 → Nat :=
  let c0_5086 : Index := 0#32
  let c1_5087 : Index := 1#32
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v8935 : Index := Scalar.indexCast v8930
  let c0_5088 : Index := 0#32
  ![0, 1, v8935.toNat, 0]
def k0_off77 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9039 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9040 : Index := Scalar.indexCast v8930
  let c0_5130 : Index := 0#32
  let c0_5131 : Index := 0#32
  let c0_5132 : Index := 0#32
  ![v9039.toNat, v9040.toNat, 0, 0, 0]
def k0_off78 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9089 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9090 : Index := Scalar.indexCast v8930
  let c1_5157 : Index := 1#32
  let c0_5158 : Index := 0#32
  let c0_5159 : Index := 0#32
  ![v9089.toNat, v9090.toNat, 1, 0, 0]
def k0_off79 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9139 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9140 : Index := Scalar.indexCast v8930
  let c2_5184 : Index := 2#32
  let c0_5185 : Index := 0#32
  let c0_5186 : Index := 0#32
  ![v9139.toNat, v9140.toNat, 2, 0, 0]
def k0_off80 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9189 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9190 : Index := Scalar.indexCast v8930
  let c3_5211 : Index := 3#32
  let c0_5212 : Index := 0#32
  let c0_5213 : Index := 0#32
  ![v9189.toNat, v9190.toNat, 3, 0, 0]
def k0_off81 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9239 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9240 : Index := Scalar.indexCast v8930
  let c4_5238 : Index := 4#32
  let c0_5239 : Index := 0#32
  let c0_5240 : Index := 0#32
  ![v9239.toNat, v9240.toNat, 4, 0, 0]
def k0_off82 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9289 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9290 : Index := Scalar.indexCast v8930
  let c5_5265 : Index := 5#32
  let c0_5266 : Index := 0#32
  let c0_5267 : Index := 0#32
  ![v9289.toNat, v9290.toNat, 5, 0, 0]
def k0_off83 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9339 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9340 : Index := Scalar.indexCast v8930
  let c6_5292 : Index := 6#32
  let c0_5293 : Index := 0#32
  let c0_5294 : Index := 0#32
  ![v9339.toNat, v9340.toNat, 6, 0, 0]
def k0_off84 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9389 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9390 : Index := Scalar.indexCast v8930
  let c7_5319 : Index := 7#32
  let c0_5320 : Index := 0#32
  let c0_5321 : Index := 0#32
  ![v9389.toNat, v9390.toNat, 7, 0, 0]
def k0_off85 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9439 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9440 : Index := Scalar.indexCast v8930
  let c8_5346 : Index := 8#32
  let c0_5347 : Index := 0#32
  let c0_5348 : Index := 0#32
  ![v9439.toNat, v9440.toNat, 8, 0, 0]
def k0_off86 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9489 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9490 : Index := Scalar.indexCast v8930
  let c9_5373 : Index := 9#32
  let c0_5374 : Index := 0#32
  let c0_5375 : Index := 0#32
  ![v9489.toNat, v9490.toNat, 9, 0, 0]
def k0_off87 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9539 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9540 : Index := Scalar.indexCast v8930
  let c10_5400 : Index := 10#32
  let c0_5401 : Index := 0#32
  let c0_5402 : Index := 0#32
  ![v9539.toNat, v9540.toNat, 10, 0, 0]
def k0_off88 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9589 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9590 : Index := Scalar.indexCast v8930
  let c11_5427 : Index := 11#32
  let c0_5428 : Index := 0#32
  let c0_5429 : Index := 0#32
  ![v9589.toNat, v9590.toNat, 11, 0, 0]
def k0_off89 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9639 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9640 : Index := Scalar.indexCast v8930
  let c12_5454 : Index := 12#32
  let c0_5455 : Index := 0#32
  let c0_5456 : Index := 0#32
  ![v9639.toNat, v9640.toNat, 12, 0, 0]
def k0_off90 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9689 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9690 : Index := Scalar.indexCast v8930
  let c13_5481 : Index := 13#32
  let c0_5482 : Index := 0#32
  let c0_5483 : Index := 0#32
  ![v9689.toNat, v9690.toNat, 13, 0, 0]
def k0_off91 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9739 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9740 : Index := Scalar.indexCast v8930
  let c14_5508 : Index := 14#32
  let c0_5509 : Index := 0#32
  let c0_5510 : Index := 0#32
  ![v9739.toNat, v9740.toNat, 14, 0, 0]
def k0_off92 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9789 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9790 : Index := Scalar.indexCast v8930
  let c15_5535 : Index := 15#32
  let c0_5536 : Index := 0#32
  let c0_5537 : Index := 0#32
  ![v9789.toNat, v9790.toNat, 15, 0, 0]
def k0_off93 (k0_t1 : Fin k0_t1_loop.trips) : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9824 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9825 : Index := Scalar.indexCast v8930
  let c0_5554 : Index := 0#32
  let c0_5555 : Index := 0#32
  ![v9824.toNat, v9825.toNat, 0, 0]
def k0_off94 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9860 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9861 : Index := Scalar.indexCast v8930
  let c16_5572 : Index := 16#32
  let c0_5573 : Index := 0#32
  let c0_5574 : Index := 0#32
  ![v9860.toNat, v9861.toNat, 16, 0, 0]
def k0_off95 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9910 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9911 : Index := Scalar.indexCast v8930
  let c17_5599 : Index := 17#32
  let c0_5600 : Index := 0#32
  let c0_5601 : Index := 0#32
  ![v9910.toNat, v9911.toNat, 17, 0, 0]
def k0_off96 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v9960 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v9961 : Index := Scalar.indexCast v8930
  let c18_5626 : Index := 18#32
  let c0_5627 : Index := 0#32
  let c0_5628 : Index := 0#32
  ![v9960.toNat, v9961.toNat, 18, 0, 0]
def k0_off97 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10010 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10011 : Index := Scalar.indexCast v8930
  let c19_5653 : Index := 19#32
  let c0_5654 : Index := 0#32
  let c0_5655 : Index := 0#32
  ![v10010.toNat, v10011.toNat, 19, 0, 0]
def k0_off98 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10060 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10061 : Index := Scalar.indexCast v8930
  let c20_5680 : Index := 20#32
  let c0_5681 : Index := 0#32
  let c0_5682 : Index := 0#32
  ![v10060.toNat, v10061.toNat, 20, 0, 0]
def k0_off99 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10110 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10111 : Index := Scalar.indexCast v8930
  let c21_5707 : Index := 21#32
  let c0_5708 : Index := 0#32
  let c0_5709 : Index := 0#32
  ![v10110.toNat, v10111.toNat, 21, 0, 0]
def k0_off100 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10160 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10161 : Index := Scalar.indexCast v8930
  let c22_5734 : Index := 22#32
  let c0_5735 : Index := 0#32
  let c0_5736 : Index := 0#32
  ![v10160.toNat, v10161.toNat, 22, 0, 0]
def k0_off101 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10210 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10211 : Index := Scalar.indexCast v8930
  let c23_5761 : Index := 23#32
  let c0_5762 : Index := 0#32
  let c0_5763 : Index := 0#32
  ![v10210.toNat, v10211.toNat, 23, 0, 0]
def k0_off102 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10260 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10261 : Index := Scalar.indexCast v8930
  let c24_5788 : Index := 24#32
  let c0_5789 : Index := 0#32
  let c0_5790 : Index := 0#32
  ![v10260.toNat, v10261.toNat, 24, 0, 0]
def k0_off103 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10310 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10311 : Index := Scalar.indexCast v8930
  let c25_5815 : Index := 25#32
  let c0_5816 : Index := 0#32
  let c0_5817 : Index := 0#32
  ![v10310.toNat, v10311.toNat, 25, 0, 0]
def k0_off104 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10360 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10361 : Index := Scalar.indexCast v8930
  let c26_5842 : Index := 26#32
  let c0_5843 : Index := 0#32
  let c0_5844 : Index := 0#32
  ![v10360.toNat, v10361.toNat, 26, 0, 0]
def k0_off105 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10410 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10411 : Index := Scalar.indexCast v8930
  let c27_5869 : Index := 27#32
  let c0_5870 : Index := 0#32
  let c0_5871 : Index := 0#32
  ![v10410.toNat, v10411.toNat, 27, 0, 0]
def k0_off106 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10460 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10461 : Index := Scalar.indexCast v8930
  let c28_5896 : Index := 28#32
  let c0_5897 : Index := 0#32
  let c0_5898 : Index := 0#32
  ![v10460.toNat, v10461.toNat, 28, 0, 0]
def k0_off107 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10510 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10511 : Index := Scalar.indexCast v8930
  let c29_5923 : Index := 29#32
  let c0_5924 : Index := 0#32
  let c0_5925 : Index := 0#32
  ![v10510.toNat, v10511.toNat, 29, 0, 0]
def k0_off108 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10560 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10561 : Index := Scalar.indexCast v8930
  let c30_5950 : Index := 30#32
  let c0_5951 : Index := 0#32
  let c0_5952 : Index := 0#32
  ![v10560.toNat, v10561.toNat, 30, 0, 0]
def k0_off109 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10610 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10611 : Index := Scalar.indexCast v8930
  let c31_5977 : Index := 31#32
  let c0_5978 : Index := 0#32
  let c0_5979 : Index := 0#32
  ![v10610.toNat, v10611.toNat, 31, 0, 0]
def k0_off110 (k0_t1 : Fin k0_t1_loop.trips) : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v10645 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v10646 : Index := Scalar.indexCast v8930
  let c16_5996 : Index := 16#32
  let c0_5997 : Index := 0#32
  ![v10645.toNat, v10646.toNat, 16, 0]
def k0_off111 (k0_t1 : Fin k0_t1_loop.trips) : Fin 3 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11037 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11038 : Index := Scalar.indexCast v8930
  let c0_6225 : Index := 0#32
  ![v11037.toNat, v11038.toNat, 0]
def k0_off112 (k0_t1 : Fin k0_t1_loop.trips) : Fin 4 → Nat :=
  let c1_6245 : Index := 1#32
  let c1_6246 : Index := 1#32
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let c1_i32_6244 : BitVec 32 := 1#32
  let v11093 : BitVec 32 := Scalar.addi v8930 c1_i32_6244
  let v11094 : Index := Scalar.indexCast v11093
  let c0_6247 : Index := 0#32
  ![1, 1, v11094.toNat, 0]
def k0_off113 (k0_t1 : Fin k0_t1_loop.trips) : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11103 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let c1_i32_6251 : BitVec 32 := 1#32
  let v11102 : BitVec 32 := Scalar.addi v8930 c1_i32_6251
  let v11104 : Index := Scalar.indexCast v11102
  let c0_6252 : Index := 0#32
  let c0_6253 : Index := 0#32
  ![v11103.toNat, v11104.toNat, 0, 0]
def k0_off114 (k0_t1 : Fin k0_t1_loop.trips) : Fin 4 → Nat :=
  let c1_6255 : Index := 1#32
  let c0_6256 : Index := 0#32
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let c1_i32_6251 : BitVec 32 := 1#32
  let v11102 : BitVec 32 := Scalar.addi v8930 c1_i32_6251
  let v11111 : Index := Scalar.indexCast v11102
  let c0_6257 : Index := 0#32
  ![1, 0, v11111.toNat, 0]
def k0_off115 (k0_t1 : Fin k0_t1_loop.trips) : Fin 4 → Nat :=
  let c1_6265 : Index := 1#32
  let c1_6266 : Index := 1#32
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11123 : Index := Scalar.indexCast v8930
  let c0_6267 : Index := 0#32
  ![1, 1, v11123.toNat, 0]
def k0_off116 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11227 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11228 : Index := Scalar.indexCast v8930
  let c0_6309 : Index := 0#32
  let c0_6310 : Index := 0#32
  let c0_6311 : Index := 0#32
  ![v11227.toNat, v11228.toNat, 0, 0, 0]
def k0_off117 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11277 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11278 : Index := Scalar.indexCast v8930
  let c1_6336 : Index := 1#32
  let c0_6337 : Index := 0#32
  let c0_6338 : Index := 0#32
  ![v11277.toNat, v11278.toNat, 1, 0, 0]
def k0_off118 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11327 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11328 : Index := Scalar.indexCast v8930
  let c2_6363 : Index := 2#32
  let c0_6364 : Index := 0#32
  let c0_6365 : Index := 0#32
  ![v11327.toNat, v11328.toNat, 2, 0, 0]
def k0_off119 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11377 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11378 : Index := Scalar.indexCast v8930
  let c3_6390 : Index := 3#32
  let c0_6391 : Index := 0#32
  let c0_6392 : Index := 0#32
  ![v11377.toNat, v11378.toNat, 3, 0, 0]
def k0_off120 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11427 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11428 : Index := Scalar.indexCast v8930
  let c4_6417 : Index := 4#32
  let c0_6418 : Index := 0#32
  let c0_6419 : Index := 0#32
  ![v11427.toNat, v11428.toNat, 4, 0, 0]
def k0_off121 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11477 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11478 : Index := Scalar.indexCast v8930
  let c5_6444 : Index := 5#32
  let c0_6445 : Index := 0#32
  let c0_6446 : Index := 0#32
  ![v11477.toNat, v11478.toNat, 5, 0, 0]
def k0_off122 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11527 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11528 : Index := Scalar.indexCast v8930
  let c6_6471 : Index := 6#32
  let c0_6472 : Index := 0#32
  let c0_6473 : Index := 0#32
  ![v11527.toNat, v11528.toNat, 6, 0, 0]
def k0_off123 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11577 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11578 : Index := Scalar.indexCast v8930
  let c7_6498 : Index := 7#32
  let c0_6499 : Index := 0#32
  let c0_6500 : Index := 0#32
  ![v11577.toNat, v11578.toNat, 7, 0, 0]
def k0_off124 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11627 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11628 : Index := Scalar.indexCast v8930
  let c8_6525 : Index := 8#32
  let c0_6526 : Index := 0#32
  let c0_6527 : Index := 0#32
  ![v11627.toNat, v11628.toNat, 8, 0, 0]
def k0_off125 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11677 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11678 : Index := Scalar.indexCast v8930
  let c9_6552 : Index := 9#32
  let c0_6553 : Index := 0#32
  let c0_6554 : Index := 0#32
  ![v11677.toNat, v11678.toNat, 9, 0, 0]
def k0_off126 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11727 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11728 : Index := Scalar.indexCast v8930
  let c10_6579 : Index := 10#32
  let c0_6580 : Index := 0#32
  let c0_6581 : Index := 0#32
  ![v11727.toNat, v11728.toNat, 10, 0, 0]
def k0_off127 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11777 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11778 : Index := Scalar.indexCast v8930
  let c11_6606 : Index := 11#32
  let c0_6607 : Index := 0#32
  let c0_6608 : Index := 0#32
  ![v11777.toNat, v11778.toNat, 11, 0, 0]
def k0_off128 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11827 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11828 : Index := Scalar.indexCast v8930
  let c12_6633 : Index := 12#32
  let c0_6634 : Index := 0#32
  let c0_6635 : Index := 0#32
  ![v11827.toNat, v11828.toNat, 12, 0, 0]
def k0_off129 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11877 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11878 : Index := Scalar.indexCast v8930
  let c13_6660 : Index := 13#32
  let c0_6661 : Index := 0#32
  let c0_6662 : Index := 0#32
  ![v11877.toNat, v11878.toNat, 13, 0, 0]
def k0_off130 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11927 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11928 : Index := Scalar.indexCast v8930
  let c14_6687 : Index := 14#32
  let c0_6688 : Index := 0#32
  let c0_6689 : Index := 0#32
  ![v11927.toNat, v11928.toNat, 14, 0, 0]
def k0_off131 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v11977 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v11978 : Index := Scalar.indexCast v8930
  let c15_6714 : Index := 15#32
  let c0_6715 : Index := 0#32
  let c0_6716 : Index := 0#32
  ![v11977.toNat, v11978.toNat, 15, 0, 0]
def k0_off132 (k0_t1 : Fin k0_t1_loop.trips) : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12012 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12013 : Index := Scalar.indexCast v8930
  let c0_6733 : Index := 0#32
  let c0_6734 : Index := 0#32
  ![v12012.toNat, v12013.toNat, 0, 0]
def k0_off133 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12048 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12049 : Index := Scalar.indexCast v8930
  let c16_6751 : Index := 16#32
  let c0_6752 : Index := 0#32
  let c0_6753 : Index := 0#32
  ![v12048.toNat, v12049.toNat, 16, 0, 0]
def k0_off134 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12098 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12099 : Index := Scalar.indexCast v8930
  let c17_6778 : Index := 17#32
  let c0_6779 : Index := 0#32
  let c0_6780 : Index := 0#32
  ![v12098.toNat, v12099.toNat, 17, 0, 0]
def k0_off135 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12148 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12149 : Index := Scalar.indexCast v8930
  let c18_6805 : Index := 18#32
  let c0_6806 : Index := 0#32
  let c0_6807 : Index := 0#32
  ![v12148.toNat, v12149.toNat, 18, 0, 0]
def k0_off136 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12198 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12199 : Index := Scalar.indexCast v8930
  let c19_6832 : Index := 19#32
  let c0_6833 : Index := 0#32
  let c0_6834 : Index := 0#32
  ![v12198.toNat, v12199.toNat, 19, 0, 0]
def k0_off137 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12248 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12249 : Index := Scalar.indexCast v8930
  let c20_6859 : Index := 20#32
  let c0_6860 : Index := 0#32
  let c0_6861 : Index := 0#32
  ![v12248.toNat, v12249.toNat, 20, 0, 0]
def k0_off138 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12298 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12299 : Index := Scalar.indexCast v8930
  let c21_6886 : Index := 21#32
  let c0_6887 : Index := 0#32
  let c0_6888 : Index := 0#32
  ![v12298.toNat, v12299.toNat, 21, 0, 0]
def k0_off139 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12348 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12349 : Index := Scalar.indexCast v8930
  let c22_6913 : Index := 22#32
  let c0_6914 : Index := 0#32
  let c0_6915 : Index := 0#32
  ![v12348.toNat, v12349.toNat, 22, 0, 0]
def k0_off140 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12398 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12399 : Index := Scalar.indexCast v8930
  let c23_6940 : Index := 23#32
  let c0_6941 : Index := 0#32
  let c0_6942 : Index := 0#32
  ![v12398.toNat, v12399.toNat, 23, 0, 0]
def k0_off141 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12448 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12449 : Index := Scalar.indexCast v8930
  let c24_6967 : Index := 24#32
  let c0_6968 : Index := 0#32
  let c0_6969 : Index := 0#32
  ![v12448.toNat, v12449.toNat, 24, 0, 0]
def k0_off142 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12498 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12499 : Index := Scalar.indexCast v8930
  let c25_6994 : Index := 25#32
  let c0_6995 : Index := 0#32
  let c0_6996 : Index := 0#32
  ![v12498.toNat, v12499.toNat, 25, 0, 0]
def k0_off143 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12548 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12549 : Index := Scalar.indexCast v8930
  let c26_7021 : Index := 26#32
  let c0_7022 : Index := 0#32
  let c0_7023 : Index := 0#32
  ![v12548.toNat, v12549.toNat, 26, 0, 0]
def k0_off144 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12598 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12599 : Index := Scalar.indexCast v8930
  let c27_7048 : Index := 27#32
  let c0_7049 : Index := 0#32
  let c0_7050 : Index := 0#32
  ![v12598.toNat, v12599.toNat, 27, 0, 0]
def k0_off145 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12648 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12649 : Index := Scalar.indexCast v8930
  let c28_7075 : Index := 28#32
  let c0_7076 : Index := 0#32
  let c0_7077 : Index := 0#32
  ![v12648.toNat, v12649.toNat, 28, 0, 0]
def k0_off146 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12698 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12699 : Index := Scalar.indexCast v8930
  let c29_7102 : Index := 29#32
  let c0_7103 : Index := 0#32
  let c0_7104 : Index := 0#32
  ![v12698.toNat, v12699.toNat, 29, 0, 0]
def k0_off147 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12748 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12749 : Index := Scalar.indexCast v8930
  let c30_7129 : Index := 30#32
  let c0_7130 : Index := 0#32
  let c0_7131 : Index := 0#32
  ![v12748.toNat, v12749.toNat, 30, 0, 0]
def k0_off148 (k0_t1 : Fin k0_t1_loop.trips) : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12798 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12799 : Index := Scalar.indexCast v8930
  let c31_7156 : Index := 31#32
  let c0_7157 : Index := 0#32
  let c0_7158 : Index := 0#32
  ![v12798.toNat, v12799.toNat, 31, 0, 0]
def k0_off149 (k0_t1 : Fin k0_t1_loop.trips) : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v12833 : Index := Scalar.indexCast v57
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let v12834 : Index := Scalar.indexCast v8930
  let c16_7175 : Index := 16#32
  let c0_7176 : Index := 0#32
  ![v12833.toNat, v12834.toNat, 16, 0]
def k0_off150 (k0_t1 : Fin k0_t1_loop.trips) : Fin 3 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v13226 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let c1_i32_7184 : BitVec 32 := 1#32
  let v12852 : BitVec 32 := Scalar.addi v8930 c1_i32_7184
  let v13227 : Index := Scalar.indexCast v12852
  let c0_7405 : Index := 0#32
  ![v13226.toNat, v13227.toNat, 0]
def k0_off151 (k0_t1 : Fin k0_t1_loop.trips) : Fin 4 → Nat :=
  let c0_7425 : Index := 0#32
  let c1_7426 : Index := 1#32
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let c1_i32_7184 : BitVec 32 := 1#32
  let v12852 : BitVec 32 := Scalar.addi v8930 c1_i32_7184
  let c1_i32_7424 : BitVec 32 := 1#32
  let v13282 : BitVec 32 := Scalar.addi v12852 c1_i32_7424
  let v13283 : Index := Scalar.indexCast v13282
  let c0_7427 : Index := 0#32
  ![0, 1, v13283.toNat, 0]
def k0_off152 (k0_t1 : Fin k0_t1_loop.trips) : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v13292 : Index := Scalar.indexCast v56
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let c1_i32_7184 : BitVec 32 := 1#32
  let v12852 : BitVec 32 := Scalar.addi v8930 c1_i32_7184
  let c1_i32_7431 : BitVec 32 := 1#32
  let v13291 : BitVec 32 := Scalar.addi v12852 c1_i32_7431
  let v13293 : Index := Scalar.indexCast v13291
  let c0_7432 : Index := 0#32
  let c0_7433 : Index := 0#32
  ![v13292.toNat, v13293.toNat, 0, 0]
def k0_off153 (k0_t1 : Fin k0_t1_loop.trips) : Fin 4 → Nat :=
  let c0_7435 : Index := 0#32
  let c0_7436 : Index := 0#32
  let c0_i32_5081 : BitVec 32 := 0#32
  let c0_i32_1465 : BitVec 32 := 0#32
  let c1_i32_1467 : BitVec 32 := 1#32
  let arg22 : BitVec 32 := Scf.iv c0_i32_1465 c1_i32_1467 k0_t1
  let c1_i32_5080 : BitVec 32 := 1#32
  let v8929 : BitVec 32 := Scalar.muli arg22 c1_i32_5080
  let v8930 : BitVec 32 := Scalar.addi c0_i32_5081 v8929
  let c1_i32_7184 : BitVec 32 := 1#32
  let v12852 : BitVec 32 := Scalar.addi v8930 c1_i32_7184
  let c1_i32_7431 : BitVec 32 := 1#32
  let v13291 : BitVec 32 := Scalar.addi v12852 c1_i32_7431
  let v13300 : Index := Scalar.indexCast v13291
  let c0_7437 : Index := 0#32
  ![0, 0, v13300.toNat, 0]
def k0_off154 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v2749 : Index := Scalar.indexCast v56
  let c5_1518 : Index := 5#32
  let c0_1519 : Index := 0#32
  let c0_1520 : Index := 0#32
  let c0_1521 : Index := 0#32
  ![v2749.toNat, 5, 0, 0, 0]
def k0_off155 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v2798 : Index := Scalar.indexCast v56
  let c5_1546 : Index := 5#32
  let c1_1547 : Index := 1#32
  let c0_1548 : Index := 0#32
  let c0_1549 : Index := 0#32
  ![v2798.toNat, 5, 1, 0, 0]
def k0_off156 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v2847 : Index := Scalar.indexCast v56
  let c5_1574 : Index := 5#32
  let c2_1575 : Index := 2#32
  let c0_1576 : Index := 0#32
  let c0_1577 : Index := 0#32
  ![v2847.toNat, 5, 2, 0, 0]
def k0_off157 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v2896 : Index := Scalar.indexCast v56
  let c5_1602 : Index := 5#32
  let c3_1603 : Index := 3#32
  let c0_1604 : Index := 0#32
  let c0_1605 : Index := 0#32
  ![v2896.toNat, 5, 3, 0, 0]
def k0_off158 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v2945 : Index := Scalar.indexCast v56
  let c5_1630 : Index := 5#32
  let c4_1631 : Index := 4#32
  let c0_1632 : Index := 0#32
  let c0_1633 : Index := 0#32
  ![v2945.toNat, 5, 4, 0, 0]
def k0_off159 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v2994 : Index := Scalar.indexCast v56
  let c5_1658 : Index := 5#32
  let c5_1659 : Index := 5#32
  let c0_1660 : Index := 0#32
  let c0_1661 : Index := 0#32
  ![v2994.toNat, 5, 5, 0, 0]
def k0_off160 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3043 : Index := Scalar.indexCast v56
  let c5_1686 : Index := 5#32
  let c6_1687 : Index := 6#32
  let c0_1688 : Index := 0#32
  let c0_1689 : Index := 0#32
  ![v3043.toNat, 5, 6, 0, 0]
def k0_off161 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3092 : Index := Scalar.indexCast v56
  let c5_1714 : Index := 5#32
  let c7_1715 : Index := 7#32
  let c0_1716 : Index := 0#32
  let c0_1717 : Index := 0#32
  ![v3092.toNat, 5, 7, 0, 0]
def k0_off162 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3141 : Index := Scalar.indexCast v56
  let c5_1742 : Index := 5#32
  let c8_1743 : Index := 8#32
  let c0_1744 : Index := 0#32
  let c0_1745 : Index := 0#32
  ![v3141.toNat, 5, 8, 0, 0]
def k0_off163 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3190 : Index := Scalar.indexCast v56
  let c5_1770 : Index := 5#32
  let c9_1771 : Index := 9#32
  let c0_1772 : Index := 0#32
  let c0_1773 : Index := 0#32
  ![v3190.toNat, 5, 9, 0, 0]
def k0_off164 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3239 : Index := Scalar.indexCast v56
  let c5_1798 : Index := 5#32
  let c10_1799 : Index := 10#32
  let c0_1800 : Index := 0#32
  let c0_1801 : Index := 0#32
  ![v3239.toNat, 5, 10, 0, 0]
def k0_off165 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3288 : Index := Scalar.indexCast v56
  let c5_1826 : Index := 5#32
  let c11_1827 : Index := 11#32
  let c0_1828 : Index := 0#32
  let c0_1829 : Index := 0#32
  ![v3288.toNat, 5, 11, 0, 0]
def k0_off166 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3337 : Index := Scalar.indexCast v56
  let c5_1854 : Index := 5#32
  let c12_1855 : Index := 12#32
  let c0_1856 : Index := 0#32
  let c0_1857 : Index := 0#32
  ![v3337.toNat, 5, 12, 0, 0]
def k0_off167 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3386 : Index := Scalar.indexCast v56
  let c5_1882 : Index := 5#32
  let c13_1883 : Index := 13#32
  let c0_1884 : Index := 0#32
  let c0_1885 : Index := 0#32
  ![v3386.toNat, 5, 13, 0, 0]
def k0_off168 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3435 : Index := Scalar.indexCast v56
  let c5_1910 : Index := 5#32
  let c14_1911 : Index := 14#32
  let c0_1912 : Index := 0#32
  let c0_1913 : Index := 0#32
  ![v3435.toNat, 5, 14, 0, 0]
def k0_off169 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3484 : Index := Scalar.indexCast v56
  let c5_1938 : Index := 5#32
  let c15_1939 : Index := 15#32
  let c0_1940 : Index := 0#32
  let c0_1941 : Index := 0#32
  ![v3484.toNat, 5, 15, 0, 0]
def k0_off170 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3518 : Index := Scalar.indexCast v56
  let c5_1958 : Index := 5#32
  let c0_1959 : Index := 0#32
  let c0_1960 : Index := 0#32
  ![v3518.toNat, 5, 0, 0]
def k0_off171 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3552 : Index := Scalar.indexCast v56
  let c5_1978 : Index := 5#32
  let c16_1979 : Index := 16#32
  let c0_1980 : Index := 0#32
  let c0_1981 : Index := 0#32
  ![v3552.toNat, 5, 16, 0, 0]
def k0_off172 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3601 : Index := Scalar.indexCast v56
  let c5_2006 : Index := 5#32
  let c17_2007 : Index := 17#32
  let c0_2008 : Index := 0#32
  let c0_2009 : Index := 0#32
  ![v3601.toNat, 5, 17, 0, 0]
def k0_off173 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3650 : Index := Scalar.indexCast v56
  let c5_2034 : Index := 5#32
  let c18_2035 : Index := 18#32
  let c0_2036 : Index := 0#32
  let c0_2037 : Index := 0#32
  ![v3650.toNat, 5, 18, 0, 0]
def k0_off174 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3699 : Index := Scalar.indexCast v56
  let c5_2062 : Index := 5#32
  let c19_2063 : Index := 19#32
  let c0_2064 : Index := 0#32
  let c0_2065 : Index := 0#32
  ![v3699.toNat, 5, 19, 0, 0]
def k0_off175 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3748 : Index := Scalar.indexCast v56
  let c5_2090 : Index := 5#32
  let c20_2091 : Index := 20#32
  let c0_2092 : Index := 0#32
  let c0_2093 : Index := 0#32
  ![v3748.toNat, 5, 20, 0, 0]
def k0_off176 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3797 : Index := Scalar.indexCast v56
  let c5_2118 : Index := 5#32
  let c21_2119 : Index := 21#32
  let c0_2120 : Index := 0#32
  let c0_2121 : Index := 0#32
  ![v3797.toNat, 5, 21, 0, 0]
def k0_off177 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3846 : Index := Scalar.indexCast v56
  let c5_2146 : Index := 5#32
  let c22_2147 : Index := 22#32
  let c0_2148 : Index := 0#32
  let c0_2149 : Index := 0#32
  ![v3846.toNat, 5, 22, 0, 0]
def k0_off178 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3895 : Index := Scalar.indexCast v56
  let c5_2174 : Index := 5#32
  let c23_2175 : Index := 23#32
  let c0_2176 : Index := 0#32
  let c0_2177 : Index := 0#32
  ![v3895.toNat, 5, 23, 0, 0]
def k0_off179 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3944 : Index := Scalar.indexCast v56
  let c5_2202 : Index := 5#32
  let c24_2203 : Index := 24#32
  let c0_2204 : Index := 0#32
  let c0_2205 : Index := 0#32
  ![v3944.toNat, 5, 24, 0, 0]
def k0_off180 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v3993 : Index := Scalar.indexCast v56
  let c5_2230 : Index := 5#32
  let c25_2231 : Index := 25#32
  let c0_2232 : Index := 0#32
  let c0_2233 : Index := 0#32
  ![v3993.toNat, 5, 25, 0, 0]
def k0_off181 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v4042 : Index := Scalar.indexCast v56
  let c5_2258 : Index := 5#32
  let c26_2259 : Index := 26#32
  let c0_2260 : Index := 0#32
  let c0_2261 : Index := 0#32
  ![v4042.toNat, 5, 26, 0, 0]
def k0_off182 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v4091 : Index := Scalar.indexCast v56
  let c5_2286 : Index := 5#32
  let c27_2287 : Index := 27#32
  let c0_2288 : Index := 0#32
  let c0_2289 : Index := 0#32
  ![v4091.toNat, 5, 27, 0, 0]
def k0_off183 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v4140 : Index := Scalar.indexCast v56
  let c5_2314 : Index := 5#32
  let c28_2315 : Index := 28#32
  let c0_2316 : Index := 0#32
  let c0_2317 : Index := 0#32
  ![v4140.toNat, 5, 28, 0, 0]
def k0_off184 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v4189 : Index := Scalar.indexCast v56
  let c5_2342 : Index := 5#32
  let c29_2343 : Index := 29#32
  let c0_2344 : Index := 0#32
  let c0_2345 : Index := 0#32
  ![v4189.toNat, 5, 29, 0, 0]
def k0_off185 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v4238 : Index := Scalar.indexCast v56
  let c5_2370 : Index := 5#32
  let c30_2371 : Index := 30#32
  let c0_2372 : Index := 0#32
  let c0_2373 : Index := 0#32
  ![v4238.toNat, 5, 30, 0, 0]
def k0_off186 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v4287 : Index := Scalar.indexCast v56
  let c5_2398 : Index := 5#32
  let c31_2399 : Index := 31#32
  let c0_2400 : Index := 0#32
  let c0_2401 : Index := 0#32
  ![v4287.toNat, 5, 31, 0, 0]
def k0_off187 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v4321 : Index := Scalar.indexCast v56
  let c5_2418 : Index := 5#32
  let c16_2419 : Index := 16#32
  let c0_2420 : Index := 0#32
  ![v4321.toNat, 5, 16, 0]
def k0_off188 : Fin 3 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v4711 : Index := Scalar.indexCast v57
  let c5_2649 : Index := 5#32
  let c0_2650 : Index := 0#32
  ![v4711.toNat, 5, 0]
def k0_off189 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v4773 : Index := Scalar.indexCast v57
  let c6_2676 : Index := 6#32
  let c0_2677 : Index := 0#32
  let c0_2678 : Index := 0#32
  ![v4773.toNat, 6, 0, 0]
def k0_off190 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v4892 : Index := Scalar.indexCast v57
  let c5_2736 : Index := 5#32
  let c0_2737 : Index := 0#32
  let c0_2738 : Index := 0#32
  let c0_2739 : Index := 0#32
  ![v4892.toNat, 5, 0, 0, 0]
def k0_off191 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v4941 : Index := Scalar.indexCast v57
  let c5_2764 : Index := 5#32
  let c1_2765 : Index := 1#32
  let c0_2766 : Index := 0#32
  let c0_2767 : Index := 0#32
  ![v4941.toNat, 5, 1, 0, 0]
def k0_off192 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v4990 : Index := Scalar.indexCast v57
  let c5_2792 : Index := 5#32
  let c2_2793 : Index := 2#32
  let c0_2794 : Index := 0#32
  let c0_2795 : Index := 0#32
  ![v4990.toNat, 5, 2, 0, 0]
def k0_off193 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5039 : Index := Scalar.indexCast v57
  let c5_2820 : Index := 5#32
  let c3_2821 : Index := 3#32
  let c0_2822 : Index := 0#32
  let c0_2823 : Index := 0#32
  ![v5039.toNat, 5, 3, 0, 0]
def k0_off194 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5088 : Index := Scalar.indexCast v57
  let c5_2848 : Index := 5#32
  let c4_2849 : Index := 4#32
  let c0_2850 : Index := 0#32
  let c0_2851 : Index := 0#32
  ![v5088.toNat, 5, 4, 0, 0]
def k0_off195 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5137 : Index := Scalar.indexCast v57
  let c5_2876 : Index := 5#32
  let c5_2877 : Index := 5#32
  let c0_2878 : Index := 0#32
  let c0_2879 : Index := 0#32
  ![v5137.toNat, 5, 5, 0, 0]
def k0_off196 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5186 : Index := Scalar.indexCast v57
  let c5_2904 : Index := 5#32
  let c6_2905 : Index := 6#32
  let c0_2906 : Index := 0#32
  let c0_2907 : Index := 0#32
  ![v5186.toNat, 5, 6, 0, 0]
def k0_off197 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5235 : Index := Scalar.indexCast v57
  let c5_2932 : Index := 5#32
  let c7_2933 : Index := 7#32
  let c0_2934 : Index := 0#32
  let c0_2935 : Index := 0#32
  ![v5235.toNat, 5, 7, 0, 0]
def k0_off198 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5284 : Index := Scalar.indexCast v57
  let c5_2960 : Index := 5#32
  let c8_2961 : Index := 8#32
  let c0_2962 : Index := 0#32
  let c0_2963 : Index := 0#32
  ![v5284.toNat, 5, 8, 0, 0]
def k0_off199 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5333 : Index := Scalar.indexCast v57
  let c5_2988 : Index := 5#32
  let c9_2989 : Index := 9#32
  let c0_2990 : Index := 0#32
  let c0_2991 : Index := 0#32
  ![v5333.toNat, 5, 9, 0, 0]
def k0_off200 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5382 : Index := Scalar.indexCast v57
  let c5_3016 : Index := 5#32
  let c10_3017 : Index := 10#32
  let c0_3018 : Index := 0#32
  let c0_3019 : Index := 0#32
  ![v5382.toNat, 5, 10, 0, 0]
def k0_off201 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5431 : Index := Scalar.indexCast v57
  let c5_3044 : Index := 5#32
  let c11_3045 : Index := 11#32
  let c0_3046 : Index := 0#32
  let c0_3047 : Index := 0#32
  ![v5431.toNat, 5, 11, 0, 0]
def k0_off202 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5480 : Index := Scalar.indexCast v57
  let c5_3072 : Index := 5#32
  let c12_3073 : Index := 12#32
  let c0_3074 : Index := 0#32
  let c0_3075 : Index := 0#32
  ![v5480.toNat, 5, 12, 0, 0]
def k0_off203 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5529 : Index := Scalar.indexCast v57
  let c5_3100 : Index := 5#32
  let c13_3101 : Index := 13#32
  let c0_3102 : Index := 0#32
  let c0_3103 : Index := 0#32
  ![v5529.toNat, 5, 13, 0, 0]
def k0_off204 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5578 : Index := Scalar.indexCast v57
  let c5_3128 : Index := 5#32
  let c14_3129 : Index := 14#32
  let c0_3130 : Index := 0#32
  let c0_3131 : Index := 0#32
  ![v5578.toNat, 5, 14, 0, 0]
def k0_off205 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5627 : Index := Scalar.indexCast v57
  let c5_3156 : Index := 5#32
  let c15_3157 : Index := 15#32
  let c0_3158 : Index := 0#32
  let c0_3159 : Index := 0#32
  ![v5627.toNat, 5, 15, 0, 0]
def k0_off206 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5661 : Index := Scalar.indexCast v57
  let c5_3176 : Index := 5#32
  let c0_3177 : Index := 0#32
  let c0_3178 : Index := 0#32
  ![v5661.toNat, 5, 0, 0]
def k0_off207 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5695 : Index := Scalar.indexCast v57
  let c5_3196 : Index := 5#32
  let c16_3197 : Index := 16#32
  let c0_3198 : Index := 0#32
  let c0_3199 : Index := 0#32
  ![v5695.toNat, 5, 16, 0, 0]
def k0_off208 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5744 : Index := Scalar.indexCast v57
  let c5_3224 : Index := 5#32
  let c17_3225 : Index := 17#32
  let c0_3226 : Index := 0#32
  let c0_3227 : Index := 0#32
  ![v5744.toNat, 5, 17, 0, 0]
def k0_off209 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5793 : Index := Scalar.indexCast v57
  let c5_3252 : Index := 5#32
  let c18_3253 : Index := 18#32
  let c0_3254 : Index := 0#32
  let c0_3255 : Index := 0#32
  ![v5793.toNat, 5, 18, 0, 0]
def k0_off210 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5842 : Index := Scalar.indexCast v57
  let c5_3280 : Index := 5#32
  let c19_3281 : Index := 19#32
  let c0_3282 : Index := 0#32
  let c0_3283 : Index := 0#32
  ![v5842.toNat, 5, 19, 0, 0]
def k0_off211 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5891 : Index := Scalar.indexCast v57
  let c5_3308 : Index := 5#32
  let c20_3309 : Index := 20#32
  let c0_3310 : Index := 0#32
  let c0_3311 : Index := 0#32
  ![v5891.toNat, 5, 20, 0, 0]
def k0_off212 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5940 : Index := Scalar.indexCast v57
  let c5_3336 : Index := 5#32
  let c21_3337 : Index := 21#32
  let c0_3338 : Index := 0#32
  let c0_3339 : Index := 0#32
  ![v5940.toNat, 5, 21, 0, 0]
def k0_off213 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v5989 : Index := Scalar.indexCast v57
  let c5_3364 : Index := 5#32
  let c22_3365 : Index := 22#32
  let c0_3366 : Index := 0#32
  let c0_3367 : Index := 0#32
  ![v5989.toNat, 5, 22, 0, 0]
def k0_off214 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v6038 : Index := Scalar.indexCast v57
  let c5_3392 : Index := 5#32
  let c23_3393 : Index := 23#32
  let c0_3394 : Index := 0#32
  let c0_3395 : Index := 0#32
  ![v6038.toNat, 5, 23, 0, 0]
def k0_off215 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v6087 : Index := Scalar.indexCast v57
  let c5_3420 : Index := 5#32
  let c24_3421 : Index := 24#32
  let c0_3422 : Index := 0#32
  let c0_3423 : Index := 0#32
  ![v6087.toNat, 5, 24, 0, 0]
def k0_off216 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v6136 : Index := Scalar.indexCast v57
  let c5_3448 : Index := 5#32
  let c25_3449 : Index := 25#32
  let c0_3450 : Index := 0#32
  let c0_3451 : Index := 0#32
  ![v6136.toNat, 5, 25, 0, 0]
def k0_off217 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v6185 : Index := Scalar.indexCast v57
  let c5_3476 : Index := 5#32
  let c26_3477 : Index := 26#32
  let c0_3478 : Index := 0#32
  let c0_3479 : Index := 0#32
  ![v6185.toNat, 5, 26, 0, 0]
def k0_off218 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v6234 : Index := Scalar.indexCast v57
  let c5_3504 : Index := 5#32
  let c27_3505 : Index := 27#32
  let c0_3506 : Index := 0#32
  let c0_3507 : Index := 0#32
  ![v6234.toNat, 5, 27, 0, 0]
def k0_off219 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v6283 : Index := Scalar.indexCast v57
  let c5_3532 : Index := 5#32
  let c28_3533 : Index := 28#32
  let c0_3534 : Index := 0#32
  let c0_3535 : Index := 0#32
  ![v6283.toNat, 5, 28, 0, 0]
def k0_off220 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v6332 : Index := Scalar.indexCast v57
  let c5_3560 : Index := 5#32
  let c29_3561 : Index := 29#32
  let c0_3562 : Index := 0#32
  let c0_3563 : Index := 0#32
  ![v6332.toNat, 5, 29, 0, 0]
def k0_off221 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v6381 : Index := Scalar.indexCast v57
  let c5_3588 : Index := 5#32
  let c30_3589 : Index := 30#32
  let c0_3590 : Index := 0#32
  let c0_3591 : Index := 0#32
  ![v6381.toNat, 5, 30, 0, 0]
def k0_off222 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v6430 : Index := Scalar.indexCast v57
  let c5_3616 : Index := 5#32
  let c31_3617 : Index := 31#32
  let c0_3618 : Index := 0#32
  let c0_3619 : Index := 0#32
  ![v6430.toNat, 5, 31, 0, 0]
def k0_off223 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v6464 : Index := Scalar.indexCast v57
  let c5_3636 : Index := 5#32
  let c16_3637 : Index := 16#32
  let c0_3638 : Index := 0#32
  ![v6464.toNat, 5, 16, 0]
def k0_off224 : Fin 3 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v6854 : Index := Scalar.indexCast v56
  let c6_3867 : Index := 6#32
  let c0_3868 : Index := 0#32
  ![v6854.toNat, 6, 0]
def k0_off225 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7012 : Index := Scalar.indexCast v56
  let c6_3932 : Index := 6#32
  let c0_3933 : Index := 0#32
  let c0_3934 : Index := 0#32
  let c0_3935 : Index := 0#32
  ![v7012.toNat, 6, 0, 0, 0]
def k0_off226 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7033 : Index := Scalar.indexCast v56
  let c6_3945 : Index := 6#32
  let c1_3946 : Index := 1#32
  let c0_3947 : Index := 0#32
  let c0_3948 : Index := 0#32
  ![v7033.toNat, 6, 1, 0, 0]
def k0_off227 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7054 : Index := Scalar.indexCast v56
  let c6_3958 : Index := 6#32
  let c2_3959 : Index := 2#32
  let c0_3960 : Index := 0#32
  let c0_3961 : Index := 0#32
  ![v7054.toNat, 6, 2, 0, 0]
def k0_off228 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7075 : Index := Scalar.indexCast v56
  let c6_3971 : Index := 6#32
  let c3_3972 : Index := 3#32
  let c0_3973 : Index := 0#32
  let c0_3974 : Index := 0#32
  ![v7075.toNat, 6, 3, 0, 0]
def k0_off229 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7096 : Index := Scalar.indexCast v56
  let c6_3984 : Index := 6#32
  let c4_3985 : Index := 4#32
  let c0_3986 : Index := 0#32
  let c0_3987 : Index := 0#32
  ![v7096.toNat, 6, 4, 0, 0]
def k0_off230 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7117 : Index := Scalar.indexCast v56
  let c6_3997 : Index := 6#32
  let c5_3998 : Index := 5#32
  let c0_3999 : Index := 0#32
  let c0_4000 : Index := 0#32
  ![v7117.toNat, 6, 5, 0, 0]
def k0_off231 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7138 : Index := Scalar.indexCast v56
  let c6_4010 : Index := 6#32
  let c6_4011 : Index := 6#32
  let c0_4012 : Index := 0#32
  let c0_4013 : Index := 0#32
  ![v7138.toNat, 6, 6, 0, 0]
def k0_off232 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7159 : Index := Scalar.indexCast v56
  let c6_4023 : Index := 6#32
  let c7_4024 : Index := 7#32
  let c0_4025 : Index := 0#32
  let c0_4026 : Index := 0#32
  ![v7159.toNat, 6, 7, 0, 0]
def k0_off233 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7180 : Index := Scalar.indexCast v56
  let c6_4036 : Index := 6#32
  let c8_4037 : Index := 8#32
  let c0_4038 : Index := 0#32
  let c0_4039 : Index := 0#32
  ![v7180.toNat, 6, 8, 0, 0]
def k0_off234 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7201 : Index := Scalar.indexCast v56
  let c6_4049 : Index := 6#32
  let c9_4050 : Index := 9#32
  let c0_4051 : Index := 0#32
  let c0_4052 : Index := 0#32
  ![v7201.toNat, 6, 9, 0, 0]
def k0_off235 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7222 : Index := Scalar.indexCast v56
  let c6_4062 : Index := 6#32
  let c10_4063 : Index := 10#32
  let c0_4064 : Index := 0#32
  let c0_4065 : Index := 0#32
  ![v7222.toNat, 6, 10, 0, 0]
def k0_off236 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7243 : Index := Scalar.indexCast v56
  let c6_4075 : Index := 6#32
  let c11_4076 : Index := 11#32
  let c0_4077 : Index := 0#32
  let c0_4078 : Index := 0#32
  ![v7243.toNat, 6, 11, 0, 0]
def k0_off237 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7264 : Index := Scalar.indexCast v56
  let c6_4088 : Index := 6#32
  let c12_4089 : Index := 12#32
  let c0_4090 : Index := 0#32
  let c0_4091 : Index := 0#32
  ![v7264.toNat, 6, 12, 0, 0]
def k0_off238 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7285 : Index := Scalar.indexCast v56
  let c6_4101 : Index := 6#32
  let c13_4102 : Index := 13#32
  let c0_4103 : Index := 0#32
  let c0_4104 : Index := 0#32
  ![v7285.toNat, 6, 13, 0, 0]
def k0_off239 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7306 : Index := Scalar.indexCast v56
  let c6_4114 : Index := 6#32
  let c14_4115 : Index := 14#32
  let c0_4116 : Index := 0#32
  let c0_4117 : Index := 0#32
  ![v7306.toNat, 6, 14, 0, 0]
def k0_off240 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7327 : Index := Scalar.indexCast v56
  let c6_4127 : Index := 6#32
  let c15_4128 : Index := 15#32
  let c0_4129 : Index := 0#32
  let c0_4130 : Index := 0#32
  ![v7327.toNat, 6, 15, 0, 0]
def k0_off241 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7333 : Index := Scalar.indexCast v56
  let c6_4132 : Index := 6#32
  let c0_4133 : Index := 0#32
  let c0_4134 : Index := 0#32
  ![v7333.toNat, 6, 0, 0]
def k0_off242 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7367 : Index := Scalar.indexCast v56
  let c6_4152 : Index := 6#32
  let c16_4153 : Index := 16#32
  let c0_4154 : Index := 0#32
  let c0_4155 : Index := 0#32
  ![v7367.toNat, 6, 16, 0, 0]
def k0_off243 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7388 : Index := Scalar.indexCast v56
  let c6_4165 : Index := 6#32
  let c17_4166 : Index := 17#32
  let c0_4167 : Index := 0#32
  let c0_4168 : Index := 0#32
  ![v7388.toNat, 6, 17, 0, 0]
def k0_off244 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7409 : Index := Scalar.indexCast v56
  let c6_4178 : Index := 6#32
  let c18_4179 : Index := 18#32
  let c0_4180 : Index := 0#32
  let c0_4181 : Index := 0#32
  ![v7409.toNat, 6, 18, 0, 0]
def k0_off245 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7430 : Index := Scalar.indexCast v56
  let c6_4191 : Index := 6#32
  let c19_4192 : Index := 19#32
  let c0_4193 : Index := 0#32
  let c0_4194 : Index := 0#32
  ![v7430.toNat, 6, 19, 0, 0]
def k0_off246 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7451 : Index := Scalar.indexCast v56
  let c6_4204 : Index := 6#32
  let c20_4205 : Index := 20#32
  let c0_4206 : Index := 0#32
  let c0_4207 : Index := 0#32
  ![v7451.toNat, 6, 20, 0, 0]
def k0_off247 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7472 : Index := Scalar.indexCast v56
  let c6_4217 : Index := 6#32
  let c21_4218 : Index := 21#32
  let c0_4219 : Index := 0#32
  let c0_4220 : Index := 0#32
  ![v7472.toNat, 6, 21, 0, 0]
def k0_off248 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7493 : Index := Scalar.indexCast v56
  let c6_4230 : Index := 6#32
  let c22_4231 : Index := 22#32
  let c0_4232 : Index := 0#32
  let c0_4233 : Index := 0#32
  ![v7493.toNat, 6, 22, 0, 0]
def k0_off249 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7514 : Index := Scalar.indexCast v56
  let c6_4243 : Index := 6#32
  let c23_4244 : Index := 23#32
  let c0_4245 : Index := 0#32
  let c0_4246 : Index := 0#32
  ![v7514.toNat, 6, 23, 0, 0]
def k0_off250 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7535 : Index := Scalar.indexCast v56
  let c6_4256 : Index := 6#32
  let c24_4257 : Index := 24#32
  let c0_4258 : Index := 0#32
  let c0_4259 : Index := 0#32
  ![v7535.toNat, 6, 24, 0, 0]
def k0_off251 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7556 : Index := Scalar.indexCast v56
  let c6_4269 : Index := 6#32
  let c25_4270 : Index := 25#32
  let c0_4271 : Index := 0#32
  let c0_4272 : Index := 0#32
  ![v7556.toNat, 6, 25, 0, 0]
def k0_off252 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7577 : Index := Scalar.indexCast v56
  let c6_4282 : Index := 6#32
  let c26_4283 : Index := 26#32
  let c0_4284 : Index := 0#32
  let c0_4285 : Index := 0#32
  ![v7577.toNat, 6, 26, 0, 0]
def k0_off253 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7598 : Index := Scalar.indexCast v56
  let c6_4295 : Index := 6#32
  let c27_4296 : Index := 27#32
  let c0_4297 : Index := 0#32
  let c0_4298 : Index := 0#32
  ![v7598.toNat, 6, 27, 0, 0]
def k0_off254 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7619 : Index := Scalar.indexCast v56
  let c6_4308 : Index := 6#32
  let c28_4309 : Index := 28#32
  let c0_4310 : Index := 0#32
  let c0_4311 : Index := 0#32
  ![v7619.toNat, 6, 28, 0, 0]
def k0_off255 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7640 : Index := Scalar.indexCast v56
  let c6_4321 : Index := 6#32
  let c29_4322 : Index := 29#32
  let c0_4323 : Index := 0#32
  let c0_4324 : Index := 0#32
  ![v7640.toNat, 6, 29, 0, 0]
def k0_off256 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7661 : Index := Scalar.indexCast v56
  let c6_4334 : Index := 6#32
  let c30_4335 : Index := 30#32
  let c0_4336 : Index := 0#32
  let c0_4337 : Index := 0#32
  ![v7661.toNat, 6, 30, 0, 0]
def k0_off257 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7682 : Index := Scalar.indexCast v56
  let c6_4347 : Index := 6#32
  let c31_4348 : Index := 31#32
  let c0_4349 : Index := 0#32
  let c0_4350 : Index := 0#32
  ![v7682.toNat, 6, 31, 0, 0]
def k0_off258 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let v7688 : Index := Scalar.indexCast v56
  let c6_4352 : Index := 6#32
  let c16_4353 : Index := 16#32
  let c0_4354 : Index := 0#32
  ![v7688.toNat, 6, 16, 0]
def k0_off259 : Fin 3 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8078 : Index := Scalar.indexCast v57
  let c6_4583 : Index := 6#32
  let c0_4584 : Index := 0#32
  ![v8078.toNat, 6, 0]
def k0_off260 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8236 : Index := Scalar.indexCast v57
  let c6_4648 : Index := 6#32
  let c0_4649 : Index := 0#32
  let c0_4650 : Index := 0#32
  let c0_4651 : Index := 0#32
  ![v8236.toNat, 6, 0, 0, 0]
def k0_off261 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8257 : Index := Scalar.indexCast v57
  let c6_4661 : Index := 6#32
  let c1_4662 : Index := 1#32
  let c0_4663 : Index := 0#32
  let c0_4664 : Index := 0#32
  ![v8257.toNat, 6, 1, 0, 0]
def k0_off262 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8278 : Index := Scalar.indexCast v57
  let c6_4674 : Index := 6#32
  let c2_4675 : Index := 2#32
  let c0_4676 : Index := 0#32
  let c0_4677 : Index := 0#32
  ![v8278.toNat, 6, 2, 0, 0]
def k0_off263 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8299 : Index := Scalar.indexCast v57
  let c6_4687 : Index := 6#32
  let c3_4688 : Index := 3#32
  let c0_4689 : Index := 0#32
  let c0_4690 : Index := 0#32
  ![v8299.toNat, 6, 3, 0, 0]
def k0_off264 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8320 : Index := Scalar.indexCast v57
  let c6_4700 : Index := 6#32
  let c4_4701 : Index := 4#32
  let c0_4702 : Index := 0#32
  let c0_4703 : Index := 0#32
  ![v8320.toNat, 6, 4, 0, 0]
def k0_off265 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8341 : Index := Scalar.indexCast v57
  let c6_4713 : Index := 6#32
  let c5_4714 : Index := 5#32
  let c0_4715 : Index := 0#32
  let c0_4716 : Index := 0#32
  ![v8341.toNat, 6, 5, 0, 0]
def k0_off266 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8362 : Index := Scalar.indexCast v57
  let c6_4726 : Index := 6#32
  let c6_4727 : Index := 6#32
  let c0_4728 : Index := 0#32
  let c0_4729 : Index := 0#32
  ![v8362.toNat, 6, 6, 0, 0]
def k0_off267 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8383 : Index := Scalar.indexCast v57
  let c6_4739 : Index := 6#32
  let c7_4740 : Index := 7#32
  let c0_4741 : Index := 0#32
  let c0_4742 : Index := 0#32
  ![v8383.toNat, 6, 7, 0, 0]
def k0_off268 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8404 : Index := Scalar.indexCast v57
  let c6_4752 : Index := 6#32
  let c8_4753 : Index := 8#32
  let c0_4754 : Index := 0#32
  let c0_4755 : Index := 0#32
  ![v8404.toNat, 6, 8, 0, 0]
def k0_off269 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8425 : Index := Scalar.indexCast v57
  let c6_4765 : Index := 6#32
  let c9_4766 : Index := 9#32
  let c0_4767 : Index := 0#32
  let c0_4768 : Index := 0#32
  ![v8425.toNat, 6, 9, 0, 0]
def k0_off270 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8446 : Index := Scalar.indexCast v57
  let c6_4778 : Index := 6#32
  let c10_4779 : Index := 10#32
  let c0_4780 : Index := 0#32
  let c0_4781 : Index := 0#32
  ![v8446.toNat, 6, 10, 0, 0]
def k0_off271 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8467 : Index := Scalar.indexCast v57
  let c6_4791 : Index := 6#32
  let c11_4792 : Index := 11#32
  let c0_4793 : Index := 0#32
  let c0_4794 : Index := 0#32
  ![v8467.toNat, 6, 11, 0, 0]
def k0_off272 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8488 : Index := Scalar.indexCast v57
  let c6_4804 : Index := 6#32
  let c12_4805 : Index := 12#32
  let c0_4806 : Index := 0#32
  let c0_4807 : Index := 0#32
  ![v8488.toNat, 6, 12, 0, 0]
def k0_off273 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8509 : Index := Scalar.indexCast v57
  let c6_4817 : Index := 6#32
  let c13_4818 : Index := 13#32
  let c0_4819 : Index := 0#32
  let c0_4820 : Index := 0#32
  ![v8509.toNat, 6, 13, 0, 0]
def k0_off274 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8530 : Index := Scalar.indexCast v57
  let c6_4830 : Index := 6#32
  let c14_4831 : Index := 14#32
  let c0_4832 : Index := 0#32
  let c0_4833 : Index := 0#32
  ![v8530.toNat, 6, 14, 0, 0]
def k0_off275 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8551 : Index := Scalar.indexCast v57
  let c6_4843 : Index := 6#32
  let c15_4844 : Index := 15#32
  let c0_4845 : Index := 0#32
  let c0_4846 : Index := 0#32
  ![v8551.toNat, 6, 15, 0, 0]
def k0_off276 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8557 : Index := Scalar.indexCast v57
  let c6_4848 : Index := 6#32
  let c0_4849 : Index := 0#32
  let c0_4850 : Index := 0#32
  ![v8557.toNat, 6, 0, 0]
def k0_off277 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8591 : Index := Scalar.indexCast v57
  let c6_4868 : Index := 6#32
  let c16_4869 : Index := 16#32
  let c0_4870 : Index := 0#32
  let c0_4871 : Index := 0#32
  ![v8591.toNat, 6, 16, 0, 0]
def k0_off278 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8612 : Index := Scalar.indexCast v57
  let c6_4881 : Index := 6#32
  let c17_4882 : Index := 17#32
  let c0_4883 : Index := 0#32
  let c0_4884 : Index := 0#32
  ![v8612.toNat, 6, 17, 0, 0]
def k0_off279 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8633 : Index := Scalar.indexCast v57
  let c6_4894 : Index := 6#32
  let c18_4895 : Index := 18#32
  let c0_4896 : Index := 0#32
  let c0_4897 : Index := 0#32
  ![v8633.toNat, 6, 18, 0, 0]
def k0_off280 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8654 : Index := Scalar.indexCast v57
  let c6_4907 : Index := 6#32
  let c19_4908 : Index := 19#32
  let c0_4909 : Index := 0#32
  let c0_4910 : Index := 0#32
  ![v8654.toNat, 6, 19, 0, 0]
def k0_off281 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8675 : Index := Scalar.indexCast v57
  let c6_4920 : Index := 6#32
  let c20_4921 : Index := 20#32
  let c0_4922 : Index := 0#32
  let c0_4923 : Index := 0#32
  ![v8675.toNat, 6, 20, 0, 0]
def k0_off282 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8696 : Index := Scalar.indexCast v57
  let c6_4933 : Index := 6#32
  let c21_4934 : Index := 21#32
  let c0_4935 : Index := 0#32
  let c0_4936 : Index := 0#32
  ![v8696.toNat, 6, 21, 0, 0]
def k0_off283 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8717 : Index := Scalar.indexCast v57
  let c6_4946 : Index := 6#32
  let c22_4947 : Index := 22#32
  let c0_4948 : Index := 0#32
  let c0_4949 : Index := 0#32
  ![v8717.toNat, 6, 22, 0, 0]
def k0_off284 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8738 : Index := Scalar.indexCast v57
  let c6_4959 : Index := 6#32
  let c23_4960 : Index := 23#32
  let c0_4961 : Index := 0#32
  let c0_4962 : Index := 0#32
  ![v8738.toNat, 6, 23, 0, 0]
def k0_off285 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8759 : Index := Scalar.indexCast v57
  let c6_4972 : Index := 6#32
  let c24_4973 : Index := 24#32
  let c0_4974 : Index := 0#32
  let c0_4975 : Index := 0#32
  ![v8759.toNat, 6, 24, 0, 0]
def k0_off286 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8780 : Index := Scalar.indexCast v57
  let c6_4985 : Index := 6#32
  let c25_4986 : Index := 25#32
  let c0_4987 : Index := 0#32
  let c0_4988 : Index := 0#32
  ![v8780.toNat, 6, 25, 0, 0]
def k0_off287 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8801 : Index := Scalar.indexCast v57
  let c6_4998 : Index := 6#32
  let c26_4999 : Index := 26#32
  let c0_5000 : Index := 0#32
  let c0_5001 : Index := 0#32
  ![v8801.toNat, 6, 26, 0, 0]
def k0_off288 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8822 : Index := Scalar.indexCast v57
  let c6_5011 : Index := 6#32
  let c27_5012 : Index := 27#32
  let c0_5013 : Index := 0#32
  let c0_5014 : Index := 0#32
  ![v8822.toNat, 6, 27, 0, 0]
def k0_off289 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8843 : Index := Scalar.indexCast v57
  let c6_5024 : Index := 6#32
  let c28_5025 : Index := 28#32
  let c0_5026 : Index := 0#32
  let c0_5027 : Index := 0#32
  ![v8843.toNat, 6, 28, 0, 0]
def k0_off290 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8864 : Index := Scalar.indexCast v57
  let c6_5037 : Index := 6#32
  let c29_5038 : Index := 29#32
  let c0_5039 : Index := 0#32
  let c0_5040 : Index := 0#32
  ![v8864.toNat, 6, 29, 0, 0]
def k0_off291 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8885 : Index := Scalar.indexCast v57
  let c6_5050 : Index := 6#32
  let c30_5051 : Index := 30#32
  let c0_5052 : Index := 0#32
  let c0_5053 : Index := 0#32
  ![v8885.toNat, 6, 30, 0, 0]
def k0_off292 : Fin 5 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8906 : Index := Scalar.indexCast v57
  let c6_5063 : Index := 6#32
  let c31_5064 : Index := 31#32
  let c0_5065 : Index := 0#32
  let c0_5066 : Index := 0#32
  ![v8906.toNat, 6, 31, 0, 0]
def k0_off293 : Fin 4 → Nat :=
  let c0_i32_12 : BitVec 32 := 0#32
  let c0_i32_11 : BitVec 32 := 0#32
  let c1_i32 : BitVec 32 := 1#32
  let v54 : BitVec 32 := Scalar.muli c0_i32_11 c1_i32
  let v55 : BitVec 32 := Scalar.addi c0_i32_12 v54
  let c2_i32 : BitVec 32 := 2#32
  let v56 : BitVec 32 := Scalar.muli v55 c2_i32
  let c1_i32_13 : BitVec 32 := 1#32
  let v57 : BitVec 32 := Scalar.addi v56 c1_i32_13
  let v8912 : Index := Scalar.indexCast v57
  let c6_5068 : Index := 6#32
  let c16_5069 : Index := 16#32
  let c0_5070 : Index := 0#32
  ![v8912.toNat, 6, 16, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x7x32x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x32x64x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S320x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x7x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x7x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x7x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x7x32x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x7x32x64x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x7x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S320x7x32x64 : Shape := ⟨4, ![320, 7, 32, 64]⟩
abbrev S320x32x64x128 : Shape := ⟨4, ![320, 32, 64, 128]⟩
abbrev S320x32 : Shape := ⟨2, ![320, 32]⟩
abbrev S320x7x1x128 : Shape := ⟨4, ![320, 7, 1, 128]⟩
abbrev S320x7x32 : Shape := ⟨3, ![320, 7, 32]⟩
abbrev S32 : Shape := ⟨1, ![32]⟩
abbrev S1x32 : Shape := ⟨2, ![1, 32]⟩
abbrev S320x7x32x64x128 : Shape := ⟨5, ![320, 7, 32, 64, 128]⟩
abbrev S320x32x1x1 : Shape := ⟨4, ![320, 32, 1, 1]⟩
abbrev S320x1x32x64 : Shape := ⟨4, ![320, 1, 32, 64]⟩
abbrev S320x32x64 : Shape := ⟨3, ![320, 32, 64]⟩
abbrev S320x1x1x128 : Shape := ⟨4, ![320, 1, 1, 128]⟩
abbrev S320x1x128 : Shape := ⟨3, ![320, 1, 128]⟩
abbrev S320x1x32 : Shape := ⟨3, ![320, 1, 32]⟩
abbrev S320x32x1 : Shape := ⟨3, ![320, 32, 1]⟩
abbrev S320x32x64x1 : Shape := ⟨4, ![320, 32, 64, 1]⟩
abbrev S1x32x1 : Shape := ⟨3, ![1, 32, 1]⟩
abbrev S320x1x32x64x128 : Shape := ⟨5, ![320, 1, 32, 64, 128]⟩

abbrev nBuf : Space → Nat
  | .hbm => 15
  | .vmem => 12
  | .smem => 0
  | _ => 0

abbrev bufTy : (tb : Table) → Fin (tcTables nBuf tb) → BufTy
  | .hbm, ⟨0, _⟩ => ⟨S320x7x32x64, .bf16⟩
  | .hbm, ⟨1, _⟩ => ⟨S320x32x64x128, .fp8e4m3⟩
  | .hbm, ⟨2, _⟩ => ⟨S320x32, .f32⟩
  | .hbm, ⟨3, _⟩ => ⟨S320x7x1x128, .bf16⟩
  | .hbm, ⟨4, _⟩ => ⟨S320x7x1x128, .bf16⟩
  | .hbm, ⟨5, _⟩ => ⟨S320x7x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S320x7x32x64, .bf16⟩
  | .hbm, ⟨13, _⟩ => ⟨S320x7x32x64x128, .fp8e4m3⟩
  | .hbm, ⟨14, _⟩ => ⟨S320x7x32, .f32⟩
  | .local _ .vmem, ⟨0, _⟩ => ⟨S320x7x32x64, .bf16⟩
  | .local _ .vmem, ⟨1, _⟩ => ⟨S320x32x64x128, .fp8e4m3⟩
  | .local _ .vmem, ⟨2, _⟩ => ⟨S320x32, .f32⟩
  | .local _ .vmem, ⟨3, _⟩ => ⟨S320x7x1x128, .bf16⟩
  | .local _ .vmem, ⟨4, _⟩ => ⟨S320x7x1x128, .bf16⟩
  | .local _ .vmem, ⟨5, _⟩ => ⟨S320x7x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S320x7x32x64, .bf16⟩
  | .local _ .vmem, ⟨10, _⟩ => ⟨S320x7x32x64x128, .fp8e4m3⟩
  | .local _ .vmem, ⟨11, _⟩ => ⟨S320x7x32, .f32⟩
  | _, _ => ⟨S320x7x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S320x7x32x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x32x64x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x7x1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x7x1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x7x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S320x7x32x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S320x7x32x64x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S320x7x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelLoop.lean ====
/- The time loop of the kernel as printed: every trip leaves the staged inputs as they were. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit. -/
abbrev UU (nD : Nat) (τ : Topo) : Type := UR sig nD τ
/-- No loop variants. -/
abbrev 𝒱₀ : Variants := Variants.none

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
/-- Memref `M` held whole at `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 2000000 in
/-- The time loop at any trip: the staged tokens as they were, and the output blocks and the scratches at something. -/
@[sl_loop] noncomputable def loopInv_k0_t1 (c : Dev nD) (i : grid0.Coords) (arg1 : Memref sig .tc .vmem S2x7x32x64 .bf16) (harg1 : arg1.IsWhole) (arg2 : Memref sig .tc .vmem S2x32x64x128 .fp8e4m3) (harg2 : arg2.IsWhole) (arg3 : Memref sig .tc .vmem S320x32 .f32) (harg3 : arg3.IsWhole) (arg4 : Memref sig .tc .vmem S2x7x128 .bf16) (harg4 : arg4.IsWhole) (arg5 : Memref sig .tc .vmem S2x7x128 .bf16) (harg5 : arg5.IsWhole) (arg6 : Memref sig .tc .vmem S2x7x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S2x7x32x64 .bf16) (harg10 : arg10.IsWhole) (arg11 : Memref sig .tc .vmem S2x7x32x64x128 .fp8e4m3) (harg11 : arg11.IsWhole) (arg12 : Memref sig .tc .vmem S2x7x32 .f32) (harg12 : arg12.IsWhole) (arg13 : Memref sig .tc .vmem S2x32x64x128 .f32) (harg13 : arg13.IsWhole) (arg14 : Memref sig .tc .vmem S2x32x8x128 .f32) (harg14 : arg14.IsWhole) (arg15 : Memref sig .tc .vmem S2x2x8x128 .f32) (harg15 : arg15.IsWhole) (arg16 : Memref sig .tc .vmem S2x8x128 .f32) (harg16 : arg16.IsWhole) (arg17 : Memref sig .tc .vmem S2x8x128 .f32) (harg17 : arg17.IsWhole) (arg18 : Memref sig .tc .vmem S2x64x128 .f32) (harg18 : arg18.IsWhole) (arg19 : Memref sig .tc .vmem S2x2x8x128 .f32) (harg19 : arg19.IsWhole) (arg20 : Memref sig .tc .vmem S2x32x128 .f32) (harg20 : arg20.IsWhole) (arg21 : Memref sig .tc .vmem S32x128 .f32) (harg21 : arg21.IsWhole) (v56 : BitVec 32) (v57 : BitVec 32) (v2639 : FVec F S64x128 .f32) (f1 : Bf (F := F) c arg1) :
    Cert.Kernel.Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v56 v57 v2639 where
  inv := fun k acc => iprop(pt c arg1 f1 ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f))
  step := fun k acc => by
    unfold k0_t1_body
    iintro ⟨H1, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩
    sl_exec_parts
    sl_step
    isplitl [H1]; · iexact H1
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.Proof.Kernel

end
-- ==== Proof.KernelBody.lean ====
/- The body of the kernel as printed: it leaves the staged inputs as they were. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.KernelLoop
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

set_option maxHeartbeats 4000000 in
/-- The kernel's body, its twenty-one buffers held whole, runs to its end: the staged inputs as they were, the output
    blocks and the scratches at something. -/
theorem bodyRun (c : Dev nD) (i : grid0.Coords) (arg1 : Memref sig .tc .vmem S2x7x32x64 .bf16) (harg1 : arg1.IsWhole) (arg2 : Memref sig .tc .vmem S2x32x64x128 .fp8e4m3) (harg2 : arg2.IsWhole) (arg3 : Memref sig .tc .vmem S320x32 .f32) (harg3 : arg3.IsWhole) (arg4 : Memref sig .tc .vmem S2x7x128 .bf16) (harg4 : arg4.IsWhole) (arg5 : Memref sig .tc .vmem S2x7x128 .bf16) (harg5 : arg5.IsWhole) (arg6 : Memref sig .tc .vmem S2x7x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S2x7x32x64 .bf16) (harg10 : arg10.IsWhole) (arg11 : Memref sig .tc .vmem S2x7x32x64x128 .fp8e4m3) (harg11 : arg11.IsWhole) (arg12 : Memref sig .tc .vmem S2x7x32 .f32) (harg12 : arg12.IsWhole) (arg13 : Memref sig .tc .vmem S2x32x64x128 .f32) (harg13 : arg13.IsWhole) (arg14 : Memref sig .tc .vmem S2x32x8x128 .f32) (harg14 : arg14.IsWhole) (arg15 : Memref sig .tc .vmem S2x2x8x128 .f32) (harg15 : arg15.IsWhole) (arg16 : Memref sig .tc .vmem S2x8x128 .f32) (harg16 : arg16.IsWhole) (arg17 : Memref sig .tc .vmem S2x8x128 .f32) (harg17 : arg17.IsWhole) (arg18 : Memref sig .tc .vmem S2x64x128 .f32) (harg18 : arg18.IsWhole) (arg19 : Memref sig .tc .vmem S2x2x8x128 .f32) (harg19 : arg19.IsWhole) (arg20 : Memref sig .tc .vmem S2x32x128 .f32) (harg20 : arg20.IsWhole) (arg21 : Memref sig .tc .vmem S32x128 .f32) (harg21 : arg21.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21
      ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f)) -∗ Q ⟨⟩))
    ⊢ wp frame (wpE (defs₀ (F := F)) 𝒱₀ c none) Set.univ
        (cc0_mamba2_fp8_verify i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  iintro ⟨H1, H2, H3, H4, H5, H6, H7, H8, H9, H10, H11, H12, H13, H14, H15, H16, H17, H18, H19, H20, H21, Hk⟩
  sl_exec_parts
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

end Cert.Proof.Kernel

end
-- ==== Proof.KernelFrame.lean ====
/- The frame of the kernel as printed. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.KernelBody
public import Idealize.ShloMosaic.Lib.Pipeline.Frame
public import Idealize.ShloMosaic.Lib.Pipeline.FrameBody
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UU nD τ) ℕ

variable (m : (ℓ : Loc nD τ sig) → Buf (Elt F) ℓ) (ρ : Dev nD → PrngReg)

/-- A whole memref held at read contents `X`: its buffer held at contents that read `X`. -/
theorem owns_eq_pt (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

/-- The proof data: the arrays as the region finds them; every staged input left in place; the three outputs at
    contents the frame does not name (`fgt`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
  Φ _ := Pipeline.ΦA spec0 c
  q _ := fullShare
  owed _ := 0

/-- The outputs: windows 9, 10 and 11. -/
def fgt (w : Fin cfg0.W) : Bool := decide (9 ≤ w.val)

/-- The arrays as the region finds them. -/
theorem A_eq (c : Dev nD) (w : Fin cfg0.W) : (dats m 0 c).A w = V m c (Pipeline.arrRef spec0 w) := by
  dsimp only [dats]
/-- What window 0 holds after the body. -/
theorem after_0 (c : Dev nD) (t : Fin cfg0.N) : (dats m 0 c).after 0 t = iblk m c 0 t := by dsimp only [dats]
/-- What window 0 holds before it. -/
theorem before_0 (c : Dev nD) (t : Fin cfg0.N) (d) : (dats m 0 c).before 0 t d = iblk m c 0 t :=
  before0_0_of m (dats m 0 c) (A_eq m c 0) (after_0 m c) t d
/-- What window 1 holds after the body. -/
theorem after_1 (c : Dev nD) (t : Fin cfg0.N) : (dats m 0 c).after 1 t = iblk m c 1 t := by dsimp only [dats]
/-- What window 1 holds before it. -/
theorem before_1 (c : Dev nD) (t : Fin cfg0.N) (d) : (dats m 0 c).before 1 t d = iblk m c 1 t :=
  before0_1_of m (dats m 0 c) (A_eq m c 1) (after_1 m c) t d
/-- What window 2 holds after the body. -/
theorem after_2 (c : Dev nD) (t : Fin cfg0.N) : (dats m 0 c).after 2 t = iblk m c 2 t := by dsimp only [dats]
/-- What window 2 holds before it. -/
theorem before_2 (c : Dev nD) (t : Fin cfg0.N) (d) : (dats m 0 c).before 2 t d = iblk m c 2 t :=
  before0_2_of m (dats m 0 c) (A_eq m c 2) (after_2 m c) t d
/-- What window 3 holds after the body. -/
theorem after_3 (c : Dev nD) (t : Fin cfg0.N) : (dats m 0 c).after 3 t = iblk m c 3 t := by dsimp only [dats]
/-- What window 3 holds before it. -/
theorem before_3 (c : Dev nD) (t : Fin cfg0.N) (d) : (dats m 0 c).before 3 t d = iblk m c 3 t :=
  before0_3_of m (dats m 0 c) (A_eq m c 3) (after_3 m c) t d
/-- What window 4 holds after the body. -/
theorem after_4 (c : Dev nD) (t : Fin cfg0.N) : (dats m 0 c).after 4 t = iblk m c 4 t := by dsimp only [dats]
/-- What window 4 holds before it. -/
theorem before_4 (c : Dev nD) (t : Fin cfg0.N) (d) : (dats m 0 c).before 4 t d = iblk m c 4 t :=
  before0_4_of m (dats m 0 c) (A_eq m c 4) (after_4 m c) t d
/-- What window 5 holds after the body. -/
theorem after_5 (c : Dev nD) (t : Fin cfg0.N) : (dats m 0 c).after 5 t = iblk m c 5 t := by dsimp only [dats]
/-- What window 5 holds before it. -/
theorem before_5 (c : Dev nD) (t : Fin cfg0.N) (d) : (dats m 0 c).before 5 t d = iblk m c 5 t :=
  before0_5_of m (dats m 0 c) (A_eq m c 5) (after_5 m c) t d
/-- What window 6 holds after the body. -/
theorem after_6 (c : Dev nD) (t : Fin cfg0.N) : (dats m 0 c).after 6 t = iblk m c 6 t := by dsimp only [dats]
/-- What window 6 holds before it. -/
theorem before_6 (c : Dev nD) (t : Fin cfg0.N) (d) : (dats m 0 c).before 6 t d = iblk m c 6 t :=
  before0_6_of m (dats m 0 c) (A_eq m c 6) (after_6 m c) t d
/-- What window 7 holds after the body. -/
theorem after_7 (c : Dev nD) (t : Fin cfg0.N) : (dats m 0 c).after 7 t = iblk m c 7 t := by dsimp only [dats]
/-- What window 7 holds before it. -/
theorem before_7 (c : Dev nD) (t : Fin cfg0.N) (d) : (dats m 0 c).before 7 t d = iblk m c 7 t :=
  before0_7_of m (dats m 0 c) (A_eq m c 7) (after_7 m c) t d
/-- What window 8 holds after the body. -/
theorem after_8 (c : Dev nD) (t : Fin cfg0.N) : (dats m 0 c).after 8 t = iblk m c 8 t := by dsimp only [dats]
/-- What window 8 holds before it. -/
theorem before_8 (c : Dev nD) (t : Fin cfg0.N) (d) : (dats m 0 c).before 8 t d = iblk m c 8 t :=
  before0_8_of m (dats m 0 c) (A_eq m c 8) (after_8 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ X, owns (c : Thread nD τ) (st0_10 t) fullShare X)
    ∗ (∃ X, owns (c : Thread nD τ) (st0_11 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X)
    ∗ (∃ X, owns (c : Thread nD τ) (st0_10 t) fullShare X)
    ∗ (∃ X, owns (c : Thread nD τ) (st0_11 t) fullShare X))

set_option maxHeartbeats 1000000 in
/-- The body at any point: the staging buffers and the scratches taken apart, `bodyRun`, put together again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, after_0, after_1, after_2, after_3, after_4, after_5, after_6, after_7, after_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  simp only [owns_eq_pt c (M := st0_0 t) (hstage0_0 ((cfg0.slots t 0).cast nbuf0_0)), owns_eq_pt c (M := st0_1 t) (hstage0_1 ((cfg0.slots t 1).cast nbuf0_1)), owns_eq_pt c (M := st0_2 t) (hstage0_2 ((cfg0.slots t 2).cast nbuf0_2)), owns_eq_pt c (M := st0_3 t) (hstage0_3 ((cfg0.slots t 3).cast nbuf0_3)), owns_eq_pt c (M := st0_4 t) (hstage0_4 ((cfg0.slots t 4).cast nbuf0_4)), owns_eq_pt c (M := st0_5 t) (hstage0_5 ((cfg0.slots t 5).cast nbuf0_5)), owns_eq_pt c (M := st0_6 t) (hstage0_6 ((cfg0.slots t 6).cast nbuf0_6)), owns_eq_pt c (M := st0_7 t) (hstage0_7 ((cfg0.slots t 7).cast nbuf0_7)), owns_eq_pt c (M := st0_8 t) (hstage0_8 ((cfg0.slots t 8).cast nbuf0_8)), owns_eq_pt c (M := st0_9 t) (hstage0_9 ((cfg0.slots t 9).cast nbuf0_9)), owns_eq_pt c (M := st0_10 t) (hstage0_10 ((cfg0.slots t 10).cast nbuf0_10)), owns_eq_pt c (M := st0_11 t) (hstage0_11 ((cfg0.slots t 11).cast nbuf0_11))]
  iintro ⟨⟨⟨⟨%g0, S0⟩, ⟨%g1, S1⟩, ⟨%g2, S2⟩, ⟨%g3, S3⟩, ⟨%g4, S4⟩, ⟨%g5, S5⟩, ⟨%g6, S6⟩, ⟨%g7, S7⟩, ⟨%g8, S8⟩⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  iapply (bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) f0 f1 f2 f3 f4 f5 f6 f7 f8 f9 f10 f11 g0 g1 g2 g3 g4 g5 g6 g7 g8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, ⟨%e9, H9⟩, ⟨%e10, H10⟩, ⟨%e11, H11⟩, S0, S1, S2, S3, S4, S5, S6, S7, S8⟩
  isplitl [Hr S0 S1 S2 S3 S4 S5 S6 S7 S8]
  · isplitr [Hr]; swap; · iexact Hr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists _; iexists e9; isplitr; · ipureintro; rfl
    iexact H9
  isplitl [H10]
  · iexists _; iexists e10; isplitr; · ipureintro; rfl
    iexact H10
  iexists _; iexists e11; isplitr; · ipureintro; rfl
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point, the outputs forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: at the end every staged input and every other buffer of @main is as the region found it, and every
    semaphore counter is at zero. -/
theorem run_frame : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's array ends as it was launched. -/
theorem arr_in (c : Dev nD) (w : Fin cfg0.W) (hw : fgt w = false) (hin : (cfg0.win w).isOut = false)
    (X : Buf (Elt F) ((cfg0.win w).arr.view.loc (c.tc : Thread nD τ)))
    (h : ((dats m 0 c).toRForget fgt).ArrAt w cfg0.N X) : X = V m c (Pipeline.arrRef spec0 w) :=
  (((dats m 0 c).toRForget_arrAt_iff hw _ _).mp h).trans (((dats m 0 c).arrAt_in w hin _).trans (A_eq m c w))

/-- The frame: the nine arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
    (arr_in m c 0 rfl rfl _ ((h.1 c).1 0)).trans (V_main_arg0 m c),
    (arr_in m c 1 rfl rfl _ ((h.1 c).1 1)).trans (V_main_arg1 m c),
    (arr_in m c 2 rfl rfl _ ((h.1 c).1 2)).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    (arr_in m c 5 rfl rfl _ ((h.1 c).1 5)).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c)⟩, h.2⟩) (run_frame m ρ)

end Cert.Proof.Kernel

end
-- ==== Proof.Program.lean ====
/- The idealized kernel as a program in sections. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F]

/-- The kernel's twenty-one buffers: the nine staged inputs, the three output blocks, the nine scratches. -/
structure Refs where
  x : Memref sig .tc .vmem S2x7x32x64 .bf16
  hx : x.IsWhole
  codes : Memref sig .tc .vmem S2x32x64x128 .fp8e4m3
  hcodes : codes.IsWhole
  sscale : Memref sig .tc .vmem S320x32 .f32
  hsscale : sscale.IsWhole
  B : Memref sig .tc .vmem S2x7x128 .bf16
  hB : B.IsWhole
  C : Memref sig .tc .vmem S2x7x128 .bf16
  hC : C.IsWhole
  dt : Memref sig .tc .vmem S2x7x32 .f32
  hdt : dt.IsWhole
  bias : Memref sig .tc .vmem S1x32 .f32
  hbias : bias.IsWhole
  alog : Memref sig .tc .vmem S1x32 .f32
  halog : alog.IsWhole
  dskip : Memref sig .tc .vmem S1x32 .f32
  hdskip : dskip.IsWhole
  y : Memref sig .tc .vmem S2x7x32x64 .bf16
  hy : y.IsWhole
  out : Memref sig .tc .vmem S2x7x32x64x128 .fp8e4m3
  hout : out.IsWhole
  oscale : Memref sig .tc .vmem S2x7x32 .f32
  hoscale : oscale.IsWhole
  w : Memref sig .tc .vmem S2x32x64x128 .f32
  hw : w.IsWhole
  mx : Memref sig .tc .vmem S2x32x8x128 .f32
  hmx : mx.IsWhole
  gate : Memref sig .tc .vmem S2x2x8x128 .f32
  hgate : gate.IsWhole
  inv : Memref sig .tc .vmem S2x8x128 .f32
  hinv : inv.IsWhole
  dec : Memref sig .tc .vmem S2x8x128 .f32
  hdec : dec.IsWhole
  u : Memref sig .tc .vmem S2x64x128 .f32
  hu : u.IsWhole
  bc : Memref sig .tc .vmem S2x2x8x128 .f32
  hbc : bc.IsWhole
  scol : Memref sig .tc .vmem S2x32x128 .f32
  hscol : scol.IsWhole
  dcol : Memref sig .tc .vmem S32x128 .f32
  hdcol : dcol.IsWhole

/-- A program over the kernel's memory. -/
abbrev Pr (F : FTy → Type) [FloatOps F] (α : Type) : Type 1 := Prog (TpuEff nD τ sig (Elt F) Λ₀ .tc) α

/-! ### Where the accesses lie, at a symbolic stream, request, token and head -/

/-- A head's state lies within its scratch. -/
theorem inb_w {s h : ℕ} (hs : s < 2) (hh : h < 32) : ∀ a, (![s, h, 0, 0] : Fin 4 → ℕ) a + S1x1x64x128.size a ≤ S2x32x64x128.size a := by
  intro a; fin_cases a <;> simp <;> omega
/-- A rectangle that lies within its buffer. -/
theorem inb_mx {s h : ℕ} (hs : s < 2) (hh : h < 32) : ∀ a, (![s, h, 0, 0] : Fin 4 → ℕ) a + S1x1x8x128.size a ≤ S2x32x8x128.size a := by
  intro a; fin_cases a <;> simp <;> omega
/-- A rectangle that lies within its buffer. -/
theorem inb_row {s k t : ℕ} (hs : s < 2) (hk : k < 2) (ht : t < 7) : ∀ a, (![s, k, t, 0] : Fin 4 → ℕ) a + S1x1x1x128.size a ≤ S2x2x8x128.size a := by
  intro a; fin_cases a <;> simp <;> omega
/-- A rectangle that lies within its buffer. -/
theorem inb_rows {s k : ℕ} (hs : s < 2) (hk : k < 2) : ∀ a, (![s, k, 0, 0] : Fin 4 → ℕ) a + S1x1x7x128.size a ≤ S2x2x8x128.size a := by
  intro a; fin_cases a <;> simp <;> omega
/-- A rectangle that lies within its buffer. -/
theorem inb_tile {s : ℕ} (hs : s < 2) : ∀ a, (![s, 0, 0] : Fin 3 → ℕ) a + S1x8x128.size a ≤ S2x8x128.size a := by
  intro a; fin_cases a <;> simp <;> omega
/-- A rectangle that lies within its buffer. -/
theorem inb_u {s : ℕ} (hs : s < 2) : ∀ a, (![s, 0, 0] : Fin 3 → ℕ) a + S1x64x128.size a ≤ S2x64x128.size a := by
  intro a; fin_cases a <;> simp <;> omega
/-- A rectangle that lies within its buffer. -/
theorem inb_scol {s : ℕ} (hs : s < 2) : ∀ a, (![s, 0, 0] : Fin 3 → ℕ) a + S1x32x128.size a ≤ S2x32x128.size a := by
  intro a; fin_cases a <;> simp <;> omega
/-- A rectangle that lies within its buffer. -/
theorem inb_scolg {s r : ℕ} (hs : s < 2) (hr : r + 16 ≤ 32) : ∀ a, (![s, r, 0] : Fin 3 → ℕ) a + S1x16x128.size a ≤ S2x32x128.size a := by
  intro a; fin_cases a <;> simp <;> omega
/-- A rectangle that lies within its buffer. -/
theorem inb_dcolg {r : ℕ} (hr : r + 16 ≤ 32) : ∀ a, (![r, 0] : Fin 2 → ℕ) a + S16x128.size a ≤ S32x128.size a := by
  intro a; fin_cases a <;> simp <;> omega
/-- A rectangle that lies within its buffer. -/
theorem inb_x {b t : ℕ} (hb : b < 2) (ht : t < 7) : ∀ a, (![b, t, 0, 0] : Fin 4 → ℕ) a + S1x1x32x64.size a ≤ S2x7x32x64.size a := by
  intro a; fin_cases a <;> simp <;> omega
/-- A rectangle that lies within its buffer. -/
theorem inb_xg {b t r : ℕ} (hb : b < 2) (ht : t < 7) (hr : r + 16 ≤ 32) : ∀ a, (![b, t, r, 0] : Fin 4 → ℕ) a + S1x1x16x64.size a ≤ S2x7x32x64.size a := by
  intro a; fin_cases a <;> simp <;> omega
/-- A rectangle that lies within its buffer. -/
theorem inb_out {b t h : ℕ} (hb : b < 2) (ht : t < 7) (hh : h < 32) : ∀ a, (![b, t, h, 0, 0] : Fin 5 → ℕ) a + S1x1x1x64x128.size a ≤ S2x7x32x64x128.size a := by
  intro a; fin_cases a <;> simp <;> omega
/-- A rectangle that lies within its buffer. -/
theorem inb_oscale {b t : ℕ} (hb : b < 2) (ht : t < 7) : ∀ a, (![b, t, 0] : Fin 3 → ℕ) a + S1x1x32.size a ≤ S2x7x32.size a := by
  intro a; fin_cases a <;> simp <;> omega
/-- A rectangle that lies within its buffer. -/
theorem inb_dt {b : ℕ} (hb : b < 2) : ∀ a, (![b, 0, 0] : Fin 3 → ℕ) a + S1x7x32.size a ≤ S2x7x32.size a := by
  intro a; fin_cases a <;> simp <;> omega
/-- A rectangle that lies within its buffer. -/
theorem inb_bc {b : ℕ} (hb : b < 2) : ∀ a, (![b, 0, 0] : Fin 3 → ℕ) a + S1x7x128.size a ≤ S2x7x128.size a := by
  intro a; fin_cases a <;> simp <;> omega
/-- A rectangle that lies within its buffer. -/
theorem inb_ss {r : ℕ} (hr : r < 320) : ∀ a, (![r, 0] : Fin 2 → ℕ) a + S1x32.size a ≤ S320x32.size a := by
  intro a; fin_cases a <;> simp <;> omega

/-- The code block is stored at whole tiles. -/
theorem packed_out {b t h : ℕ} (hb : b < 2) (ht : t < 7) (hh : h < 32) :
    (Rect.unit (s := S2x7x32x64x128) ![b, t, h, 0, 0] S1x1x1x64x128.size (inb_out hb ht hh)).PackedRows (EltTy.packing .fp8e4m3) :=
  .inr ⟨by decide, rfl, .inl ⟨⟨0, rfl⟩, ⟨16, rfl⟩⟩⟩
/-- The output block is stored at whole tiles. -/
theorem packed_y {b t r : ℕ} (hb : b < 2) (ht : t < 7) (hr : r + 16 ≤ 32) (h2 : 2 ∣ r) :
    (Rect.unit (s := S2x7x32x64) ![b, t, r, 0] S1x1x16x64.size (inb_xg hb ht hr)).PackedRows (EltTy.packing .bf16) :=
  .inr ⟨by decide, rfl, .inl ⟨by obtain ⟨k, hk⟩ := h2; exact ⟨k, hk⟩, ⟨8, rfl⟩⟩⟩

/-- A lane lies within a tile. -/
theorem slice_lane8 {h : ℕ} (hh : h < 32) : S8x128.Slices ![0, h] S8x1 := by
  refine ⟨rfl, ?_⟩; intro a; fin_cases a <;> simp <;> omega
/-- A lane lies within a state. -/
theorem slice_lane64 {h : ℕ} (hh : h < 32) : S64x128.Slices ![0, h] S64x1 := by
  refine ⟨rfl, ?_⟩; intro a; fin_cases a <;> simp <;> omega

/-! ### The values one step computes -/

/-- Lane `h` of an eight-row tile, on all lanes. -/
def lane8 (v : FVec F S8x128 .f32) (h : ℕ) (hh : h < 32) : FVec F S8x128 .f32 :=
  broadcastTo S8x128 (shapeCast S8x1 (extractStridedSlice S8x1 ![0, h] v (slice_lane8 hh)) shapeCasts_S8x1_S8x1) broadcasts_S8x1_S8x128

/-- Lane `h` of a sixty-four-row tile, on all lanes. -/
def lane64 (v : FVec F S64x128 .f32) (h : ℕ) (hh : h < 32) : FVec F S64x128 .f32 :=
  broadcastTo S64x128 (shapeCast S64x1 (extractStridedSlice S64x1 ![0, h] v (slice_lane64 hh)) shapeCasts_S64x1_S64x1) broadcasts_S64x1_S64x128

/-- A head's state times an eight-row tile repeated down its rows. -/
def scaleTile (c : FVec F S64x128 .f32) (d : FVec F S8x128 .f32) : FVec F S64x128 .f32 :=
  shapeCast S64x128 (mulf (shapeCast S8x8x128 c shapeCasts_S64x128_S8x8x128) (broadcastTo S8x8x128 (shapeCast S1x8x128 d shapeCasts_S8x128_S1x8x128) broadcasts_S1x8x128_S8x8x128)) shapeCasts_S8x8x128_S64x128

/-- A head's next state: codes, decay tile, input tile, row of B. -/
def nextW (c : FVec F S64x128 .f32) (dec : FVec F S8x128 .f32) (u : FVec F S64x128 .f32) (bRow : FVec F S1x128 .f32) : FVec F S64x128 .f32 :=
  addf (scaleTile c dec) (mulf u (broadcastTo S64x128 bRow broadcasts_S1x128_S64x128))

/-- The largest magnitude of a head's state over its eight tiles. -/
def tileMax (w : FVec F S64x128 .f32) : FVec F S8x128 .f32 :=
  multiReduction .maximumf [0] S8x128 (shapeCast S8x8x128 (absf w) shapeCasts_S64x128_S8x8x128) 0xFF800000#32 reduces_S8x8x128_S8x128 (.inl rfl) rfl

/-- The codes of a state under a tile of inverse scales. -/
def toCodes (w : FVec F S64x128 .f32) (inv : FVec F S8x128 .f32) : FVec F S64x128 .fp8e4m3 :=
  truncf .fp8e4m3 (minimumf (broadcast S64x128 (Scalar.ofBits .f32 0x43E00000#32 : F .f32)) (maximumf (broadcast S64x128 (Scalar.ofBits .f32 0xC3E00000#32 : F .f32)) (scaleTile w inv))) bitsLt_fp8e4m3_f32

/-- Eight rows of a row's lanes, sublane `r` of block `k` holding lane `8 k + r`. -/
def rowToColTile (row : FVec F S8x128 .f32) (k : BitVec 32) : FVec F S8x128 .f32 :=
  broadcastTo S8x128 (shapeCast S8x1 (shapeCast S8x1 (multiReduction .add [1] S8
    (select (cmpi .eq (iota .tc S8x128 32 [1] iota_S8x128_d1_w32) (addi (iota .tc S8x128 32 [0] iota_S8x128_d0_w32) (broadcast S8x128 k))) row (broadcast S8x128 (Scalar.ofBits .f32 0x00000000#32 : F .f32)))
    0x00000000#32 reduces_S8x128_S8 (.inl rfl) rfl) shapeCasts_S8_S8x1) shapeCasts_S8x1_S8x1) broadcasts_S8x1_S8x128

/-- A row's first thirty-two lanes as a column. -/
def rowToCol (row : FVec F S8x128 .f32) : FVec F S32x128 .f32 :=
  concatenate S32x128 0 [⟨S8x128, rowToColTile row 0#32⟩, ⟨S8x128, rowToColTile row 8#32⟩, ⟨S8x128, rowToColTile row 16#32⟩, ⟨S8x128, rowToColTile row 24#32⟩] concatenates_S8x128_S8x128_S8x128_S8x128_S32x128_d0

/-- A row of thirty-two lanes, zero past them. -/
def padRow (v : FVec F S1x32 .f32) : FVec F S1x128 .f32 :=
  concatenate S1x128 1 [⟨S1x32, v⟩, ⟨S1x96, broadcast S1x96 (Scalar.ofBits .f32 0x00000000#32 : F .f32)⟩] concatenates_S1x32_S1x96_S1x128_d1

/-- One bit of the binary search for the exponent field of `m`. -/
def bitStep (m : FVec F S8x128 .f32) (k : BitVec 32) (fld : IVec S8x128 32) : IVec S8x128 32 :=
  select (cmpf .oge m (bitcastToFloat .f32 (shli (addi fld (broadcast S8x128 k)) (broadcast S8x128 23#32)))) (addi fld (broadcast S8x128 k)) fld

/-- The exponent field of `m`. -/
def expField (m : FVec F S8x128 .f32) : IVec S8x128 32 :=
  bitStep m 1#32 (bitStep m 2#32 (bitStep m 4#32 (bitStep m 8#32 (bitStep m 16#32 (bitStep m 32#32 (bitStep m 64#32 (bitStep m 128#32 (broadcast S8x128 0#32))))))))

/-- The exponent of the scale. -/
def expOf (m : FVec F S8x128 .f32) : IVec S8x128 32 :=
  select (ori (cmpi .eq (expField m) (broadcast S8x128 0#32)) (cmpi .eq (expField m) (broadcast S8x128 255#32))) (broadcast S8x128 0#32) (subi (expField m) (broadcast S8x128 126#32))

/-- The scale. -/
def scaleOf (m : FVec F S8x128 .f32) : FVec F S8x128 .f32 :=
  bitcastToFloat .f32 (shli (addi (expOf m) (broadcast S8x128 127#32)) (broadcast S8x128 23#32))

/-- The inverse scale. -/
def invOf (m : FVec F S8x128 .f32) : FVec F S8x128 .f32 :=
  bitcastToFloat .f32 (shli (subi (broadcast S8x128 127#32) (expOf m)) (broadcast S8x128 23#32))

/-- The largest magnitude of head `h`'s tile into lane `h` of `a`. -/
def putMax (h : ℕ) (v : Vec F S1x1x8x128 .f32) (a : FVec F S8x128 .f32) : FVec F S8x128 .f32 :=
  select (cmpi .eq (iota .tc S8x128 32 [1] iota_S8x128_d1_w32) (broadcast S8x128 (BitVec.ofNat 32 h)))
    (broadcastTo S8x128 (shapeCast S8x1 (shapeCast S8x1 (multiReduction .maximumf [1] S8 (shapeCast S8x128 v shapeCasts_S1x1x8x128_S8x128) 0xFF800000#32 reduces_S8x128_S8 (.inl rfl) rfl) shapeCasts_S8_S8x1) shapeCasts_S8x1_S8x1) broadcasts_S8x1_S8x128) a

/-- The rows' largest, on all rows, over 448. -/
def overMax (a : FVec F S8x128 .f32) : FVec F S8x128 .f32 :=
  mulf (broadcastTo S8x128 (shapeCast S1x128 (shapeCast S1x128 (multiReduction .maximumf [0] S128 a 0xFF800000#32 reduces_S8x128_S128 (.inl rfl) rfl) shapeCasts_S128_S1x128) shapeCasts_S1x128_S1x128) broadcasts_S1x128_S8x128)
    (broadcast S8x128 (Scalar.ofBits .f32 0x3B124925#32 : F .f32))

/-- The tokens' inputs, lane by head: `x` transposed and padded, times the row of gates. -/
def uOf (x : Vec F S1x1x32x64 .bf16) (g : Vec F S1x1x1x128 .f32) : FVec F S64x128 .f32 :=
  mulf (concatenate S64x128 1 [⟨S64x32, transpose S64x32 [1, 0] (extf .f32 (shapeCast S32x64 x shapeCasts_S1x1x32x64_S32x64) bitsLt_bf16_f32) transposes_S32x64_p1_0_S64x32⟩, ⟨S64x96, broadcast S64x96 (Scalar.ofBits .f32 0x00000000#32 : F .f32)⟩] concatenates_S64x32_S64x96_S64x128_d1)
    (broadcastTo S64x128 (shapeCast S1x128 g shapeCasts_S1x1x1x128_S1x128) broadcasts_S1x128_S64x128)

/-- One block of the dot's left side: row `k` of sixteen holds the row of C. -/
def lhsBlock (c : FVec F S1x128 .f32) (k : BitVec 32) : FVec F S16x128 .bf16 :=
  truncf .bf16 (select (cmpi .eq (iota .tc S16x128 32 [0] iota_S16x128_d0_w32) (broadcast S16x128 k))
    (broadcastTo S16x128 (shapeCast S1x128 c shapeCasts_S1x128_S1x128) broadcasts_S1x128_S16x128)
    (broadcast S16x128 (Scalar.ofBits .f32 0x00000000#32 : F .f32))) bitsLt_bf16_f32

/-- The dot's left side, block diagonal. -/
def lhsOf (c : FVec F S1x128 .f32) : FVec F S16x2048 .bf16 :=
  concatenate S16x2048 1 (List.ofFn fun k : Fin 16 => (⟨S16x128, lhsBlock c (BitVec.ofNat 32 k)⟩ : (s : Shape) × FVec F s .bf16)) (by exact concatenates_S16x128_S16x128_S16x128_S16x128_S16x128_S16x128_S16x128_S16x128_S16x128_S16x128_S16x128_S16x128_S16x128_S16x128_S16x128_S16x128_S16x2048_d1)

/-- Sixteen heads' codes side by side. -/
def catCodes (g : Fin 16 → FVec F S64x128 .fp8e4m3) : FVec F S64x2048 .fp8e4m3 :=
  concatenate S64x2048 1 (List.ofFn fun k : Fin 16 => (⟨S64x128, g k⟩ : (s : Shape) × FVec F s .fp8e4m3)) (by exact concatenates_S64x128_S64x128_S64x128_S64x128_S64x128_S64x128_S64x128_S64x128_S64x128_S64x128_S64x128_S64x128_S64x128_S64x128_S64x128_S64x128_S64x2048_d1)

/-- Sixteen heads' outputs. -/
def yOf (lhs : FVec F S16x2048 .bf16) (g : Fin 16 → FVec F S64x128 .fp8e4m3) (x : Vec F S1x1x16x64 .bf16) (sc : Vec F S1x16x128 .f32) (d : Vec F S16x128 .f32) : FVec F S16x64 .bf16 :=
  truncf .bf16 (addf
    (mulf (matmul dot_S16x2048_S64x2048_S16x64_1_1_0_0_n_n none lhs (catCodes g) (constant S16x64 .f32 0x00000000#32)) (extractStridedSlice S16x64 ![0, 0] (shapeCast S16x128 sc shapeCasts_S1x16x128_S16x128) slices_S16x128_o0_0_S16x64))
    (mulf (extractStridedSlice S16x64 ![0, 0] d slices_S16x128_o0_0_S16x64) (extf .f32 (shapeCast S16x64 x shapeCasts_S1x1x16x64_S16x64) bitsLt_bf16_f32))) bitsLt_bf16_f32

/-- Seven tokens' time steps with their bias, padded to the lanes. -/
def dtOf (dt : Vec F S1x7x32 .f32) (bias : Vec F S1x32 .f32) : FVec F S7x128 .f32 :=
  concatenate S7x128 1 [⟨S7x32, addf (shapeCast S7x32 dt shapeCasts_S1x7x32_S7x32) (broadcastTo S7x32 (shapeCast S1x32 bias shapeCasts_S1x32_S1x32) broadcasts_S1x32_S7x32)⟩, ⟨S7x96, (broadcast S7x96 (Scalar.ofBits .f32 0x00000000#32 : F .f32))⟩] concatenates_S7x32_S7x96_S7x128_d1

/-- The steps: softplus. -/
def deltaOf (d : FVec F S7x128 .f32) : FVec F S7x128 .f32 :=
  addf (maximumf d (broadcast S7x128 (Scalar.ofBits .f32 0x00000000#32 : F .f32))) (log1p (exp (subf (broadcast S7x128 (Scalar.ofBits .f32 0x00000000#32 : F .f32)) (absf d))))

/-- The decays. -/
def decayOf (delta : FVec F S7x128 .f32) (alog : Vec F S1x32 .f32) : FVec F S7x128 .f32 :=
  exp (mulf (subf (broadcast S7x128 (Scalar.ofBits .f32 0x00000000#32 : F .f32)) delta) (broadcastTo S7x128 (padRow (exp (shapeCast S1x32 alog shapeCasts_S1x32_S1x32))) broadcasts_S1x128_S7x128))

/-- The first decay times the scale the state came with, on eight rows. -/
def dec0Of (decay : FVec F S7x128 .f32) (ss : Vec F S1x32 .f32) : FVec F S8x128 .f32 :=
  broadcastTo S8x128 (shapeCast S1x128 (mulf (extractStridedSlice S1x128 ![0, 0] decay slices_S7x128_o0_0_S1x128) (padRow ss)) shapeCasts_S1x128_S1x128) broadcasts_S1x128_S8x128

/-- The skips as a column. -/
def dcolOf (d : Vec F S1x32 .f32) : FVec F S32x128 .f32 :=
  rowToCol (broadcastTo S8x128 (shapeCast S1x128 (padRow (shapeCast S1x32 d shapeCasts_S1x32_S1x32)) shapeCasts_S1x128_S1x128) broadcasts_S1x128_S8x128)

/-! ### The kernel's sections -/

/-- The state of head `h` advances by one token: its codes times the decay's lane, plus the input's lane times the row
    of B; the tiles' largest magnitude goes beside it. -/
def advance (R : Refs) (s : ℕ) (hs : s < 2) (h : ℕ) (hh : h < 32) (c : FVec F S64x128 .f32) (bRow : FVec F S1x128 .f32) : Pr F Unit := do
  let d : Vec F S1x8x128 .f32 ← Prog.lift (.load R.dec (Rect.unit (s := S2x8x128) ![s, 0, 0] S1x8x128.size (inb_tile hs)).toLoadRect (View.loadsAt_vmem h_S1x8x128))
  let u : Vec F S1x64x128 .f32 ← Prog.lift (.load R.u (Rect.unit (s := S2x64x128) ![s, 0, 0] S1x64x128.size (inb_u hs)).toLoadRect (View.loadsAt_vmem h_S1x64x128))
  let _ ← Prog.lift (.load R.w (Rect.unit (s := S2x32x64x128) ![s, h, 0, 0] S1x1x64x128.size (inb_w hs hh)).toLoadRect (View.loadsAt_vmem h_S1x1x64x128))
  Prog.lift (.store R.w (Rect.unit (s := S2x32x64x128) ![s, h, 0, 0] S1x1x64x128.size (inb_w hs hh)) (shapeCast S1x1x64x128 (nextW c (lane8 (shapeCast S8x128 d shapeCasts_S1x8x128_S8x128) h hh) (lane64 (shapeCast S64x128 u shapeCasts_S1x64x128_S64x128) h hh) bRow) shapeCasts_S64x128_S1x1x64x128) Finset.univ (View.stores_vmem_bits_univ h_S1x1x64x128 rfl) (.inl rfl))
  let _ ← Prog.lift (.load R.mx (Rect.unit (s := S2x32x8x128) ![s, h, 0, 0] S1x1x8x128.size (inb_mx hs hh)).toLoadRect (View.loadsAt_vmem h_S1x1x8x128))
  Prog.lift (.store R.mx (Rect.unit (s := S2x32x8x128) ![s, h, 0, 0] S1x1x8x128.size (inb_mx hs hh)) (shapeCast S1x1x8x128 (tileMax (nextW c (lane8 (shapeCast S8x128 d shapeCasts_S1x8x128_S8x128) h hh) (lane64 (shapeCast S64x128 u shapeCasts_S1x64x128_S64x128) h hh) bRow)) shapeCasts_S8x128_S1x1x8x128) Finset.univ (View.stores_vmem_bits_univ h_S1x1x8x128 rfl) (.inl rfl))

/-- The tokens' inputs, gated, into the stream's scratch. -/
def inputs (R : Refs) (s : ℕ) (hs : s < 2) (b : ℕ) (hb : b < 2) (t : ℕ) (ht : t < 7) : Pr F Unit := do
  let x : Vec F S1x1x32x64 .bf16 ← Prog.lift (.load R.x (Rect.unit (s := S2x7x32x64) ![b, t, 0, 0] S1x1x32x64.size (inb_x hb ht)).toLoadRect (View.loadsAt_vmem h_S1x1x32x64))
  let g : Vec F S1x1x1x128 .f32 ← Prog.lift (.load R.gate (Rect.unit (s := S2x2x8x128) ![s, 0, t, 0] S1x1x1x128.size (inb_row hs (by decide) ht)).toLoadRect (View.loadsAt_vmem h_S1x1x1x128))
  let _ ← Prog.lift (.load R.u (Rect.unit (s := S2x64x128) ![s, 0, 0] S1x64x128.size (inb_u hs)).toLoadRect (View.loadsAt_vmem h_S1x64x128))
  Prog.lift (.store R.u (Rect.unit (s := S2x64x128) ![s, 0, 0] S1x64x128.size (inb_u hs)) (shapeCast S1x64x128 (uOf x g) shapeCasts_S64x128_S1x64x128) Finset.univ (View.stores_vmem_bits_univ h_S1x64x128 rfl) (.inl rfl))

/-- `n` heads one after another from head `k`. -/
def heads (f : (h : ℕ) → h < 32 → Pr F Unit) : (n k : ℕ) → k + n ≤ 32 → Pr F Unit
  | 0, _, _ => pure ()
  | n + 1, k, hk => do f k (by omega); heads f n (k + 1) (by omega)

/-- The largest of `n` heads from head `k` into their lanes of `a`. -/
def maxHeads (R : Refs) (s : ℕ) (hs : s < 2) : (n k : ℕ) → k + n ≤ 32 → FVec F S8x128 .f32 → Pr F (FVec F S8x128 .f32)
  | 0, _, _, a => pure a
  | n + 1, k, hk, a => do
    let v : Vec F S1x1x8x128 .f32 ← Prog.lift (.load R.mx (Rect.unit (s := S2x32x8x128) ![s, k, 0, 0] S1x1x8x128.size (inb_mx hs (by omega))).toLoadRect (View.loadsAt_vmem h_S1x1x8x128))
    maxHeads R s hs n (k + 1) (by omega) (putMax k v a)

/-- A token's scale from the heads' largest `a`: its power of two to the output, the inverse and the column to the
    scratches. What it returns is the tile of scales. -/
def settle (R : Refs) (s : ℕ) (hs : s < 2) (b : ℕ) (hb : b < 2) (t : ℕ) (ht : t < 7) (a : FVec F S8x128 .f32) : Pr F (FVec F S8x128 .f32) := do
  let _ ← Prog.lift (.load R.oscale (Rect.unit (s := S2x7x32) ![b, t, 0] S1x1x32.size (inb_oscale hb ht)).toLoadRect (View.loadsAt_vmem h_S1x1x32))
  Prog.lift (.store R.oscale (Rect.unit (s := S2x7x32) ![b, t, 0] S1x1x32.size (inb_oscale hb ht)) (shapeCast S1x1x32 (extractStridedSlice S1x32 ![0, 0] (scaleOf (overMax a)) slices_S8x128_o0_0_S1x32) shapeCasts_S1x32_S1x1x32) Finset.univ (View.stores_vmem_bits_univ h_S1x1x32 rfl) (.inl rfl))
  let _ ← Prog.lift (.load R.inv (Rect.unit (s := S2x8x128) ![s, 0, 0] S1x8x128.size (inb_tile hs)).toLoadRect (View.loadsAt_vmem h_S1x8x128))
  Prog.lift (.store R.inv (Rect.unit (s := S2x8x128) ![s, 0, 0] S1x8x128.size (inb_tile hs)) (shapeCast S1x8x128 (invOf (overMax a)) shapeCasts_S8x128_S1x8x128) Finset.univ (View.stores_vmem_bits_univ h_S1x8x128 rfl) (.inl rfl))
  let _ ← Prog.lift (.load R.scol (Rect.unit (s := S2x32x128) ![s, 0, 0] S1x32x128.size (inb_scol hs)).toLoadRect (View.loadsAt_vmem h_S1x32x128))
  Prog.lift (.store R.scol (Rect.unit (s := S2x32x128) ![s, 0, 0] S1x32x128.size (inb_scol hs)) (shapeCast S1x32x128 (rowToCol (scaleOf (overMax a))) shapeCasts_S32x128_S1x32x128) Finset.univ (View.stores_vmem_bits_univ h_S1x32x128 rfl) (.inl rfl))
  pure (scaleOf (overMax a))

/-- The scale of the state: the largest of all heads, and what follows of it. -/
def reduce (R : Refs) (s : ℕ) (hs : s < 2) (b : ℕ) (hb : b < 2) (t : ℕ) (ht : t < 7) : Pr F (FVec F S8x128 .f32) := do
  let a ← maxHeads R s hs 32 0 (by decide) (broadcast S8x128 (Scalar.ofBits .f32 0x00000000#32 : F .f32))
  settle R s hs b hb t ht a

/-- The next decay times the scale. -/
def nextDec (R : Refs) (s : ℕ) (hs : s < 2) (t : ℕ) (ht : t < 7) (scale : FVec F S8x128 .f32) : Pr F Unit := do
  let g : Vec F S1x1x1x128 .f32 ← Prog.lift (.load R.gate (Rect.unit (s := S2x2x8x128) ![s, 1, t, 0] S1x1x1x128.size (inb_row hs (by decide) ht)).toLoadRect (View.loadsAt_vmem h_S1x1x1x128))
  let _ ← Prog.lift (.load R.dec (Rect.unit (s := S2x8x128) ![s, 0, 0] S1x8x128.size (inb_tile hs)).toLoadRect (View.loadsAt_vmem h_S1x8x128))
  Prog.lift (.store R.dec (Rect.unit (s := S2x8x128) ![s, 0, 0] S1x8x128.size (inb_tile hs)) (shapeCast S1x8x128 (mulf (broadcastTo S8x128 (shapeCast S1x128 g shapeCasts_S1x1x1x128_S1x128) broadcasts_S1x128_S8x128) scale) shapeCasts_S8x128_S1x8x128) Finset.univ (View.stores_vmem_bits_univ h_S1x8x128 rfl) (.inl rfl))

/-- What follows it while tokens are left: the next decay times the scale, the next inputs. -/
def prepare (R : Refs) (s : ℕ) (hs : s < 2) (b : ℕ) (hb : b < 2) (t : ℕ) (ht : t < 7) (scale : FVec F S8x128 .f32) : Pr F Unit := do
  nextDec R s hs t ht scale
  inputs R s hs b hb t ht

/-- Head `h`'s codes, to the output. -/
def quantHead (R : Refs) (s : ℕ) (hs : s < 2) (b : ℕ) (hb : b < 2) (t : ℕ) (ht : t < 7) (h : ℕ) (hh : h < 32) : Pr F (FVec F S64x128 .fp8e4m3) := do
  let i : Vec F S1x8x128 .f32 ← Prog.lift (.load R.inv (Rect.unit (s := S2x8x128) ![s, 0, 0] S1x8x128.size (inb_tile hs)).toLoadRect (View.loadsAt_vmem h_S1x8x128))
  let w : Vec F S1x1x64x128 .f32 ← Prog.lift (.load R.w (Rect.unit (s := S2x32x64x128) ![s, h, 0, 0] S1x1x64x128.size (inb_w hs hh)).toLoadRect (View.loadsAt_vmem h_S1x1x64x128))
  let _ ← Prog.lift (.load R.out (Rect.unit (s := S2x7x32x64x128) ![b, t, h, 0, 0] S1x1x1x64x128.size (inb_out hb ht hh)).toLoadRect (View.loadsAt_vmem h_S1x1x1x64x128))
  Prog.lift (.store R.out (Rect.unit (s := S2x7x32x64x128) ![b, t, h, 0, 0] S1x1x1x64x128.size (inb_out hb ht hh)) (shapeCast S1x1x1x64x128 (toCodes (shapeCast S64x128 w shapeCasts_S1x1x64x128_S64x128) (lane8 (shapeCast S8x128 i shapeCasts_S1x8x128_S8x128) h hh)) shapeCasts_S64x128_S1x1x1x64x128) Finset.univ (View.stores_vmem h_S1x1x1x64x128 (R.hout.storeExact_slice rfl _ (packed_out hb ht hh)) (fun _ => rfl)) (.inl rfl))
  pure (toCodes (shapeCast S64x128 w shapeCasts_S1x1x64x128_S64x128) (lane8 (shapeCast S8x128 i shapeCasts_S1x8x128_S8x128) h hh))

/-- The codes of `n` heads from head `k`, each followed by `f`, all of them handed to `rest`. -/
def quantHeads (R : Refs) (s : ℕ) (hs : s < 2) (b : ℕ) (hb : b < 2) (t : ℕ) (ht : t < 7)
    (f : (h : ℕ) → h < 32 → FVec F S64x128 .fp8e4m3 → Pr F Unit) :
    (n k : ℕ) → k + n ≤ 32 → ((Fin n → FVec F S64x128 .fp8e4m3) → Pr F Unit) → Pr F Unit
  | 0, _, _, rest => rest fun i => i.elim0
  | n + 1, k, hk, rest => do
    let c ← quantHead R s hs b hb t ht k (by omega)
    f k (by omega) c
    quantHeads R s hs b hb t ht f n (k + 1) (by omega) fun g => rest (Fin.cons (α := fun _ => FVec F S64x128 .fp8e4m3) c g)

/-- Sixteen heads' outputs from their codes `g`. -/
def output (R : Refs) (s : ℕ) (hs : s < 2) (b : ℕ) (hb : b < 2) (t : ℕ) (ht : t < 7)
    (lhs : FVec F S16x2048 .bf16) (r : ℕ) (hr : r + 16 ≤ 32) (h2 : 2 ∣ r) (g : Fin 16 → FVec F S64x128 .fp8e4m3) : Pr F Unit := do
  let x : Vec F S1x1x16x64 .bf16 ← Prog.lift (.load R.x (Rect.unit (s := S2x7x32x64) ![b, t, r, 0] S1x1x16x64.size (inb_xg hb ht hr)).toLoadRect (View.loadsAt_vmem h_S1x1x16x64))
  let sc : Vec F S1x16x128 .f32 ← Prog.lift (.load R.scol (Rect.unit (s := S2x32x128) ![s, r, 0] S1x16x128.size (inb_scolg hs hr)).toLoadRect (View.loadsAt_vmem h_S1x16x128))
  let d : Vec F S16x128 .f32 ← Prog.lift (.load R.dcol (Rect.unit (s := S32x128) ![r, 0] S16x128.size (inb_dcolg hr)).toLoadRect (View.loadsAt_vmem h_S16x128))
  let _ ← Prog.lift (.load R.y (Rect.unit (s := S2x7x32x64) ![b, t, r, 0] S1x1x16x64.size (inb_xg hb ht hr)).toLoadRect (View.loadsAt_vmem h_S1x1x16x64))
  Prog.lift (.store R.y (Rect.unit (s := S2x7x32x64) ![b, t, r, 0] S1x1x16x64.size (inb_xg hb ht hr)) (shapeCast S1x1x16x64 (yOf lhs g x sc d) shapeCasts_S16x64_S1x1x16x64) Finset.univ (View.stores_vmem h_S1x1x16x64 (R.hy.storeExact_slice rfl _ (packed_y hb ht hr h2)) (fun _ => rfl)) (.inl rfl))

/-- Sixteen heads from head `r`: their codes, the dot with the row of C, their outputs. -/
def group (R : Refs) (s : ℕ) (hs : s < 2) (b : ℕ) (hb : b < 2) (t : ℕ) (ht : t < 7)
    (f : (h : ℕ) → h < 32 → FVec F S64x128 .fp8e4m3 → Pr F Unit) (lhs : FVec F S16x2048 .bf16) (r : ℕ) (hr : r + 16 ≤ 32) (h2 : 2 ∣ r) : Pr F Unit := do
  quantHeads R s hs b hb t ht f 16 r hr (output R s hs b hb t ht lhs r hr h2)

/-- A token quantised, and the state advanced to the next. -/
def quantise (R : Refs) (s : ℕ) (hs : s < 2) (b : ℕ) (hb : b < 2) (t : ℕ) (ht : t < 7) (t' : ℕ) (ht' : t' < 7) : Pr F Unit := do
  let br : Vec F S1x1x1x128 .f32 ← Prog.lift (.load R.bc (Rect.unit (s := S2x2x8x128) ![s, 0, t', 0] S1x1x1x128.size (inb_row hs (by decide) ht')).toLoadRect (View.loadsAt_vmem h_S1x1x1x128))
  let c : Vec F S1x1x1x128 .f32 ← Prog.lift (.load R.bc (Rect.unit (s := S2x2x8x128) ![s, 1, t, 0] S1x1x1x128.size (inb_row hs (by decide) ht)).toLoadRect (View.loadsAt_vmem h_S1x1x1x128))
  group R s hs b hb t ht (fun h hh v => advance R s hs h hh (extf .f32 v bitsLt_fp8e4m3_f32) (shapeCast S1x128 br shapeCasts_S1x1x1x128_S1x128)) (lhsOf (shapeCast S1x128 c shapeCasts_S1x1x1x128_S1x128)) 0 (by decide) (by decide)
  group R s hs b hb t ht (fun h hh v => advance R s hs h hh (extf .f32 v bitsLt_fp8e4m3_f32) (shapeCast S1x128 br shapeCasts_S1x1x1x128_S1x128)) (lhsOf (shapeCast S1x128 c shapeCasts_S1x1x1x128_S1x128)) 16 (by decide) (by decide)

/-- The last token quantised. -/
def quantiseLast (R : Refs) (s : ℕ) (hs : s < 2) (b : ℕ) (hb : b < 2) (t : ℕ) (ht : t < 7) : Pr F Unit := do
  let c : Vec F S1x1x1x128 .f32 ← Prog.lift (.load R.bc (Rect.unit (s := S2x2x8x128) ![s, 1, t, 0] S1x1x1x128.size (inb_row hs (by decide) ht)).toLoadRect (View.loadsAt_vmem h_S1x1x1x128))
  group R s hs b hb t ht (fun _ _ _ => pure ()) (lhsOf (shapeCast S1x128 c shapeCasts_S1x1x1x128_S1x128)) 0 (by decide) (by decide)
  group R s hs b hb t ht (fun _ _ _ => pure ()) (lhsOf (shapeCast S1x128 c shapeCasts_S1x1x1x128_S1x128)) 16 (by decide) (by decide)

/-- One trip of the loop: token `t` of both streams, and the scale of token `t'` of the first. -/
def trip (R : Refs) (b₀ : ℕ) (hb₀ : b₀ < 2) (b₁ : ℕ) (hb₁ : b₁ < 2) (t : ℕ) (ht : t < 7) (t' : ℕ) (ht' : t' < 7) (t'' : ℕ) (ht'' : t'' < 7) : Pr F Unit := do
  quantise R 0 (by decide) b₀ hb₀ t ht t' ht'
  let sc₁ ← reduce R 1 (by decide) b₁ hb₁ t ht
  prepare R 1 (by decide) b₁ hb₁ t' ht' sc₁
  quantise R 1 (by decide) b₁ hb₁ t ht t' ht'
  let sc₀ ← reduce R 0 (by decide) b₀ hb₀ t' ht'
  prepare R 0 (by decide) b₀ hb₀ t'' ht'' sc₀

/-- The skips into their scratch. -/
def skips (R : Refs) : Pr F Unit := do
  let d : Vec F S1x32 .f32 ← Prog.lift (.load R.dskip (Rect.unit (s := S1x32) ![0, 0] S1x32.size (inb_S1x32_S1x32_0_0)).toLoadRect (View.loadsAt_vmem h_S1x32))
  let _ ← Prog.lift (.load R.dcol (Rect.unit (s := S32x128) ![0, 0] S32x128.size (inb_S32x128_S32x128_0_0)).toLoadRect (View.loadsAt_vmem h_S32x128))
  Prog.lift (.store R.dcol (Rect.unit (s := S32x128) ![0, 0] S32x128.size (inb_S32x128_S32x128_0_0)) (shapeCast S32x128 (dcolOf d) shapeCasts_S32x128_S32x128) Finset.univ (View.stores_vmem_bits_univ h_S32x128 rfl) (.inl rfl))

/-- A stream's gates and decays, and the first decay times the scale the state came with. -/
def gates (R : Refs) (s : ℕ) (hs : s < 2) (b : ℕ) (hb : b < 2) (r : ℕ) (hr : r < 320) : Pr F Unit := do
  let dt : Vec F S1x7x32 .f32 ← Prog.lift (.load R.dt (Rect.unit (s := S2x7x32) ![b, 0, 0] S1x7x32.size (inb_dt hb)).toLoadRect (View.loadsAt_vmem h_S1x7x32))
  let bias : Vec F S1x32 .f32 ← Prog.lift (.load R.bias (Rect.unit (s := S1x32) ![0, 0] S1x32.size (inb_S1x32_S1x32_0_0)).toLoadRect (View.loadsAt_vmem h_S1x32))
  let alog : Vec F S1x32 .f32 ← Prog.lift (.load R.alog (Rect.unit (s := S1x32) ![0, 0] S1x32.size (inb_S1x32_S1x32_0_0)).toLoadRect (View.loadsAt_vmem h_S1x32))
  let _ ← Prog.lift (.load R.gate (Rect.unit (s := S2x2x8x128) ![s, 0, 0, 0] S1x1x7x128.size (inb_rows hs (by decide))).toLoadRect (View.loadsAt_vmem h_S1x1x7x128))
  Prog.lift (.store R.gate (Rect.unit (s := S2x2x8x128) ![s, 0, 0, 0] S1x1x7x128.size (inb_rows hs (by decide))) (shapeCast S1x1x7x128 (deltaOf (dtOf dt bias)) shapeCasts_S7x128_S1x1x7x128) Finset.univ (View.stores_vmem_bits_univ h_S1x1x7x128 rfl) (.inl rfl))
  let _ ← Prog.lift (.load R.gate (Rect.unit (s := S2x2x8x128) ![s, 1, 0, 0] S1x1x7x128.size (inb_rows hs (by decide))).toLoadRect (View.loadsAt_vmem h_S1x1x7x128))
  Prog.lift (.store R.gate (Rect.unit (s := S2x2x8x128) ![s, 1, 0, 0] S1x1x7x128.size (inb_rows hs (by decide))) (shapeCast S1x1x7x128 (decayOf (deltaOf (dtOf dt bias)) alog) shapeCasts_S7x128_S1x1x7x128) Finset.univ (View.stores_vmem_bits_univ h_S1x1x7x128 rfl) (.inl rfl))
  let ss : Vec F S1x32 .f32 ← Prog.lift (.load R.sscale (Rect.unit (s := S320x32) ![r, 0] S1x32.size (inb_ss hr)).toLoadRect (View.loadsAt_vmem h_S1x32))
  let _ ← Prog.lift (.load R.dec (Rect.unit (s := S2x8x128) ![s, 0, 0] S1x8x128.size (inb_tile hs)).toLoadRect (View.loadsAt_vmem h_S1x8x128))
  Prog.lift (.store R.dec (Rect.unit (s := S2x8x128) ![s, 0, 0] S1x8x128.size (inb_tile hs)) (shapeCast S1x8x128 (dec0Of (decayOf (deltaOf (dtOf dt bias)) alog) ss) shapeCasts_S8x128_S1x8x128) Finset.univ (View.stores_vmem_bits_univ h_S1x8x128 rfl) (.inl rfl))

/-- A stream's rows of B and C. -/
def rowsBC (R : Refs) (s : ℕ) (hs : s < 2) (b : ℕ) (hb : b < 2) : Pr F Unit := do
  let bb : Vec F S1x7x128 .bf16 ← Prog.lift (.load R.B (Rect.unit (s := S2x7x128) ![b, 0, 0] S1x7x128.size (inb_bc hb)).toLoadRect (View.loadsAt_vmem h_S1x7x128))
  let _ ← Prog.lift (.load R.bc (Rect.unit (s := S2x2x8x128) ![s, 0, 0, 0] S1x1x7x128.size (inb_rows hs (by decide))).toLoadRect (View.loadsAt_vmem h_S1x1x7x128))
  Prog.lift (.store R.bc (Rect.unit (s := S2x2x8x128) ![s, 0, 0, 0] S1x1x7x128.size (inb_rows hs (by decide))) (shapeCast S1x1x7x128 (extf .f32 (shapeCast S7x128 bb shapeCasts_S1x7x128_S7x128) bitsLt_bf16_f32) shapeCasts_S7x128_S1x1x7x128) Finset.univ (View.stores_vmem_bits_univ h_S1x1x7x128 rfl) (.inl rfl))
  let cc : Vec F S1x7x128 .bf16 ← Prog.lift (.load R.C (Rect.unit (s := S2x7x128) ![b, 0, 0] S1x7x128.size (inb_bc hb)).toLoadRect (View.loadsAt_vmem h_S1x7x128))
  let _ ← Prog.lift (.load R.bc (Rect.unit (s := S2x2x8x128) ![s, 1, 0, 0] S1x1x7x128.size (inb_rows hs (by decide))).toLoadRect (View.loadsAt_vmem h_S1x1x7x128))
  Prog.lift (.store R.bc (Rect.unit (s := S2x2x8x128) ![s, 1, 0, 0] S1x1x7x128.size (inb_rows hs (by decide))) (shapeCast S1x1x7x128 (extf .f32 (shapeCast S7x128 cc shapeCasts_S1x7x128_S7x128) bitsLt_bf16_f32) shapeCasts_S7x128_S1x1x7x128) Finset.univ (View.stores_vmem_bits_univ h_S1x1x7x128 rfl) (.inl rfl))

/-- The state head `h` came with, advanced by the first token. -/
def enter (R : Refs) (s : ℕ) (hs : s < 2) (b : ℕ) (hb : b < 2) (bRow : FVec F S1x128 .f32) (h : ℕ) (hh : h < 32) : Pr F Unit := do
  let c : Vec F S1x1x64x128 .fp8e4m3 ← Prog.lift (.load R.codes (Rect.unit (s := S2x32x64x128) ![b, h, 0, 0] S1x1x64x128.size (inb_w hb hh)).toLoadRect (View.loadsAt_vmem h_S1x1x64x128))
  advance R s hs h hh (extf .f32 (shapeCast S64x128 c shapeCasts_S1x1x64x128_S64x128) bitsLt_fp8e4m3_f32) bRow

/-- A stream's gates, decays, first inputs and rows of B and C, and the state that came advanced by the first token. -/
def first (R : Refs) (s : ℕ) (hs : s < 2) (b : ℕ) (hb : b < 2) (r : ℕ) (hr : r < 320) : Pr F Unit := do
  gates R s hs b hb r hr
  inputs R s hs b hb 0 (by decide)
  rowsBC R s hs b hb
  let br : Vec F S1x1x1x128 .f32 ← Prog.lift (.load R.bc (Rect.unit (s := S2x2x8x128) ![s, 0, 0, 0] S1x1x1x128.size (inb_row hs (by decide) (by decide))).toLoadRect (View.loadsAt_vmem h_S1x1x1x128))
  heads (enter R s hs b hb (shapeCast S1x128 br shapeCasts_S1x1x1x128_S1x128)) 32 0 (by decide)

/-- The token of the loop's trip, as the kernel counts it. -/
def tokN (t : Fin k0_t1_loop.trips) : ℕ := (Scalar.addi 0#32 (Scalar.muli (Scf.iv 0#32 1#32 t) 1#32)).toNat
/-- The token after it. -/
def tokN1 (t : Fin k0_t1_loop.trips) : ℕ := (Scalar.addi (Scalar.addi 0#32 (Scalar.muli (Scf.iv 0#32 1#32 t) 1#32)) 1#32).toNat
/-- The token after that. -/
def tokN2 (t : Fin k0_t1_loop.trips) : ℕ := (Scalar.addi (Scalar.addi (Scalar.addi 0#32 (Scalar.muli (Scf.iv 0#32 1#32 t) 1#32)) 1#32) 1#32).toNat
/-- The token a trip works on. -/
theorem tokN_eq : ∀ t : Fin k0_t1_loop.trips, tokN t = t.val ∧ tokN1 t = t.val + 1 ∧ tokN2 t = t.val + 2 ∧ t.val < 5 := by decide +kernel

/-- The row of the scales a grid point's request `b` reads. -/
def rowN (i : grid0.Coords) (b : BitVec 32) : ℕ := (Scalar.indexCast (Scalar.addi (Scalar.muli (BitVec.ofNat 32 (i 0).val) 2#32) b)).toNat
/-- The rows of the batch that a grid point works on. -/
theorem rowN_eq : ∀ i : grid0.Coords, rowN i 0#32 = 2 * (i 0).val ∧ rowN i 1#32 = 2 * (i 0).val + 1 ∧ (i 0).val < 160 := by decide +kernel

/-- The loop's body. -/
def tripAt (R : Refs) (t : Fin k0_t1_loop.trips) : Pr F Unit :=
  trip R 0 (by decide) 1 (by decide) (tokN t) (by have := tokN_eq t; omega) (tokN1 t) (by have := tokN_eq t; omega) (tokN2 t) (by have := tokN_eq t; omega)

/-- Before the loop. -/
def before (i : grid0.Coords) (R : Refs) : Pr F Unit := do
  skips R
  first R 0 (by decide) 0 (by decide) (rowN i 0#32) (by have := rowN_eq i; omega)
  first R 1 (by decide) 1 (by decide) (rowN i 1#32) (by have := rowN_eq i; omega)
  let sc ← reduce R 0 (by decide) 0 (by decide) 0 (by decide)
  prepare R 0 (by decide) 0 (by decide) 1 (by decide) sc

/-- After it. -/
def after (R : Refs) : Pr F Unit := do
  quantise R 0 (by decide) 0 (by decide) 5 (by decide) 6 (by decide)
  let sc ← reduce R 1 (by decide) 1 (by decide) 5 (by decide)
  prepare R 1 (by decide) 1 (by decide) 6 (by decide) sc
  quantise R 1 (by decide) 1 (by decide) 5 (by decide) 6 (by decide)
  let _ ← reduce R 0 (by decide) 0 (by decide) 6 (by decide)
  quantiseLast R 0 (by decide) 0 (by decide) 6 (by decide)
  let _ ← reduce R 1 (by decide) 1 (by decide) 6 (by decide)
  quantiseLast R 1 (by decide) 1 (by decide) 6 (by decide)

/-- The whole body. -/
def whole (i : grid0.Coords) (R : Refs) : Pr F Unit := do
  before i R
  Scf.Loop.for k0_t1_loop k0_t1_ok ⟨⟩ (fun t _ => tripAt R t)
  after R

end Cert.Proof.KernelIdeal
-- ==== Proof.KernelIdealLoop.lean ====
/- Names for the idealized kernel's buffers on a core: what a memref's buffer holds, and the memref held whole. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit. -/
abbrev UU (nD : Nat) (τ : Topo) : Type := UR sig nD τ
/-- No loop variants. -/
abbrev 𝒱₀ : Variants := Variants.none

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
/-- Memref `M` held whole at `f`. -/
abbrev pt (c : Dev nD) {sp : Space} {S : Shape} {e : EltTy} (M : Memref sig .tc sp S e) (f : Bf (F := F) c M) : sProp 𝕄 :=
  M.view.loc (c : Thread nD τ) ↦{fullShare} f

end Cert.Proof.KernelIdeal

end
-- ==== Proof.Simulate.lean ====
/- Running the idealized kernel over what its buffers hold: the rules for a load, a store, and one program after another. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Program
public import proofs.«01_k».proof.Proof.KernelIdealLoop
public import Idealize.ShloMosaic.Lib.Memref
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- What a buffer holds at the elements of a rectangle of its shape. -/
def box {sh : Shape} {α : Type} (r : Rect sh) (X : sh.Idx → α) : r.shape.Idx → α := fun j => X (r.emb j)

/-- Memref `M` held whole, reading `X`. -/
def held (c : Dev nD) {sp : Space} {S : Shape} {e : EltTy} (M : Memref sig .tc sp S e) (X : Vec F S e) : sProp 𝕄 :=
  iprop(∃ f : Bf (F := F) c M, ⌜M.view.read (Elt F) f = X⌝ ∗ pt c M f)

/-- A buffer after a list of stores, the last first, reads as before it with the last one's rectangle replaced. -/
theorem read_writes_overlay {κ : Kind} {sp : Space} {S : Shape} {e : EltTy} (v : View sig κ sp S e) (f : v.ty.Contents (Elt F)) (r : Rect S)
    (w : r.shape.Idx → Elt F e) (L : List (View.Piece (Elt F) S e)) :
    v.read (Elt F) (v.writes (Elt F) f (⟨r, w⟩ :: L)) = r.overlay (v.read (Elt F) (v.writes (Elt F) f L)) w := by
  funext j
  by_cases h : j ∈ r.set
  · rw [← Rect.map_emb_univ] at h
    obtain ⟨i, -, rfl⟩ := Finset.mem_map.1 h
    rw [Rect.overlay_emb]; exact View.read_writes_cons_emb v f r w L i
  · rw [Rect.overlay_of_not_mem _ _ _ h]; exact View.read_writes_cons_miss v f ⟨r, w⟩ L j h

/-- What the kernel's buffers hold. -/
structure St (F : FTy → Type) [FloatOps F] where
  x : Vec F S2x7x32x64 .bf16
  codes : Vec F S2x32x64x128 .fp8e4m3
  sscale : Vec F S320x32 .f32
  B : Vec F S2x7x128 .bf16
  C : Vec F S2x7x128 .bf16
  dt : Vec F S2x7x32 .f32
  bias : Vec F S1x32 .f32
  alog : Vec F S1x32 .f32
  dskip : Vec F S1x32 .f32
  y : Vec F S2x7x32x64 .bf16
  out : Vec F S2x7x32x64x128 .fp8e4m3
  oscale : Vec F S2x7x32 .f32
  w : Vec F S2x32x64x128 .f32
  mx : Vec F S2x32x8x128 .f32
  gate : Vec F S2x2x8x128 .f32
  inv : Vec F S2x8x128 .f32
  dec : Vec F S2x8x128 .f32
  u : Vec F S2x64x128 .f32
  bc : Vec F S2x2x8x128 .f32
  scol : Vec F S2x32x128 .f32
  dcol : Vec F S32x128 .f32

/-- All twenty-one buffers held. -/
def All (c : Dev nD) (R : Refs) (S : St F) : sProp 𝕄 :=
  iprop(held c R.x S.x ∗ held c R.codes S.codes ∗ held c R.sscale S.sscale ∗ held c R.B S.B ∗ held c R.C S.C ∗ held c R.dt S.dt ∗ held c R.bias S.bias ∗ held c R.alog S.alog ∗ held c R.dskip S.dskip ∗ held c R.y S.y ∗ held c R.out S.out ∗ held c R.oscale S.oscale ∗ held c R.w S.w ∗ held c R.mx S.mx ∗ held c R.gate S.gate ∗ held c R.inv S.inv ∗ held c R.dec S.dec ∗ held c R.u S.u ∗ held c R.bc S.bc ∗ held c R.scol S.scol ∗ held c R.dcol S.dcol)

/-- One buffer of all of them held, and what it takes to hold all again with another value of it. -/
abbrev Focus (c : Dev nD) (R : Refs) {sp : Space} {sh : Shape} {e : EltTy} (M : Memref sig .tc sp sh e) (get : St F → Vec F sh e)
    (set : St F → Vec F sh e → St F) : Prop :=
  ∀ S : St F, All c R S ⊢ iprop(held c M (get S) ∗ (∀ X : Vec F sh e, held c M X -∗ All c R (set S X)))

/-- `x` holding `X`. -/
def St.setX (S : St F) (X : Vec F S2x7x32x64 .bf16) : St F := { S with x := X }

/-- The one buffer taken out of all of them, and put back. -/
theorem focus_x (c : Dev nD) (R : Refs) : Focus (F := F) c R R.x St.x St.setX := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_x]; · iexact H_x
  iintro %X H_x; dsimp only [St.setX]; iframe

/-- `codes` holding `X`. -/
def St.setCodes (S : St F) (X : Vec F S2x32x64x128 .fp8e4m3) : St F := { S with codes := X }

/-- The one buffer taken out of all of them, and put back. -/
theorem focus_codes (c : Dev nD) (R : Refs) : Focus (F := F) c R R.codes St.codes St.setCodes := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_codes]; · iexact H_codes
  iintro %X H_codes; dsimp only [St.setCodes]; iframe

/-- `sscale` holding `X`. -/
def St.setSscale (S : St F) (X : Vec F S320x32 .f32) : St F := { S with sscale := X }

/-- The one buffer taken out of all of them, and put back. -/
theorem focus_sscale (c : Dev nD) (R : Refs) : Focus (F := F) c R R.sscale St.sscale St.setSscale := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_sscale]; · iexact H_sscale
  iintro %X H_sscale; dsimp only [St.setSscale]; iframe

/-- `B` holding `X`. -/
def St.setRowB (S : St F) (X : Vec F S2x7x128 .bf16) : St F := { S with B := X }

/-- The one buffer taken out of all of them, and put back. -/
theorem focus_B (c : Dev nD) (R : Refs) : Focus (F := F) c R R.B St.B St.setRowB := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_B]; · iexact H_B
  iintro %X H_B; dsimp only [St.setRowB]; iframe

/-- `C` holding `X`. -/
def St.setRowC (S : St F) (X : Vec F S2x7x128 .bf16) : St F := { S with C := X }

/-- The one buffer taken out of all of them, and put back. -/
theorem focus_C (c : Dev nD) (R : Refs) : Focus (F := F) c R R.C St.C St.setRowC := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_C]; · iexact H_C
  iintro %X H_C; dsimp only [St.setRowC]; iframe

/-- `dt` holding `X`. -/
def St.setDt (S : St F) (X : Vec F S2x7x32 .f32) : St F := { S with dt := X }

/-- The one buffer taken out of all of them, and put back. -/
theorem focus_dt (c : Dev nD) (R : Refs) : Focus (F := F) c R R.dt St.dt St.setDt := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_dt]; · iexact H_dt
  iintro %X H_dt; dsimp only [St.setDt]; iframe

/-- `bias` holding `X`. -/
def St.setBias (S : St F) (X : Vec F S1x32 .f32) : St F := { S with bias := X }

/-- The one buffer taken out of all of them, and put back. -/
theorem focus_bias (c : Dev nD) (R : Refs) : Focus (F := F) c R R.bias St.bias St.setBias := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_bias]; · iexact H_bias
  iintro %X H_bias; dsimp only [St.setBias]; iframe

/-- `alog` holding `X`. -/
def St.setAlog (S : St F) (X : Vec F S1x32 .f32) : St F := { S with alog := X }

/-- The one buffer taken out of all of them, and put back. -/
theorem focus_alog (c : Dev nD) (R : Refs) : Focus (F := F) c R R.alog St.alog St.setAlog := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_alog]; · iexact H_alog
  iintro %X H_alog; dsimp only [St.setAlog]; iframe

/-- `dskip` holding `X`. -/
def St.setDskip (S : St F) (X : Vec F S1x32 .f32) : St F := { S with dskip := X }

/-- The one buffer taken out of all of them, and put back. -/
theorem focus_dskip (c : Dev nD) (R : Refs) : Focus (F := F) c R R.dskip St.dskip St.setDskip := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_dskip]; · iexact H_dskip
  iintro %X H_dskip; dsimp only [St.setDskip]; iframe

/-- `y` holding `X`. -/
def St.setY (S : St F) (X : Vec F S2x7x32x64 .bf16) : St F := { S with y := X }

/-- The one buffer taken out of all of them, and put back. -/
theorem focus_y (c : Dev nD) (R : Refs) : Focus (F := F) c R R.y St.y St.setY := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_y]; · iexact H_y
  iintro %X H_y; dsimp only [St.setY]; iframe

/-- `out` holding `X`. -/
def St.setOut (S : St F) (X : Vec F S2x7x32x64x128 .fp8e4m3) : St F := { S with out := X }

/-- The one buffer taken out of all of them, and put back. -/
theorem focus_out (c : Dev nD) (R : Refs) : Focus (F := F) c R R.out St.out St.setOut := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_out]; · iexact H_out
  iintro %X H_out; dsimp only [St.setOut]; iframe

/-- `oscale` holding `X`. -/
def St.setOscale (S : St F) (X : Vec F S2x7x32 .f32) : St F := { S with oscale := X }

/-- The one buffer taken out of all of them, and put back. -/
theorem focus_oscale (c : Dev nD) (R : Refs) : Focus (F := F) c R R.oscale St.oscale St.setOscale := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_oscale]; · iexact H_oscale
  iintro %X H_oscale; dsimp only [St.setOscale]; iframe

/-- `w` holding `X`. -/
def St.setW (S : St F) (X : Vec F S2x32x64x128 .f32) : St F := { S with w := X }

/-- The one buffer taken out of all of them, and put back. -/
theorem focus_w (c : Dev nD) (R : Refs) : Focus (F := F) c R R.w St.w St.setW := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_w]; · iexact H_w
  iintro %X H_w; dsimp only [St.setW]; iframe

/-- `mx` holding `X`. -/
def St.setMx (S : St F) (X : Vec F S2x32x8x128 .f32) : St F := { S with mx := X }

/-- The one buffer taken out of all of them, and put back. -/
theorem focus_mx (c : Dev nD) (R : Refs) : Focus (F := F) c R R.mx St.mx St.setMx := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_mx]; · iexact H_mx
  iintro %X H_mx; dsimp only [St.setMx]; iframe

/-- `gate` holding `X`. -/
def St.setGate (S : St F) (X : Vec F S2x2x8x128 .f32) : St F := { S with gate := X }

/-- The one buffer taken out of all of them, and put back. -/
theorem focus_gate (c : Dev nD) (R : Refs) : Focus (F := F) c R R.gate St.gate St.setGate := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_gate]; · iexact H_gate
  iintro %X H_gate; dsimp only [St.setGate]; iframe

/-- `inv` holding `X`. -/
def St.setInv (S : St F) (X : Vec F S2x8x128 .f32) : St F := { S with inv := X }

/-- The one buffer taken out of all of them, and put back. -/
theorem focus_inv (c : Dev nD) (R : Refs) : Focus (F := F) c R R.inv St.inv St.setInv := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_inv]; · iexact H_inv
  iintro %X H_inv; dsimp only [St.setInv]; iframe

/-- `dec` holding `X`. -/
def St.setDec (S : St F) (X : Vec F S2x8x128 .f32) : St F := { S with dec := X }

/-- The one buffer taken out of all of them, and put back. -/
theorem focus_dec (c : Dev nD) (R : Refs) : Focus (F := F) c R R.dec St.dec St.setDec := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_dec]; · iexact H_dec
  iintro %X H_dec; dsimp only [St.setDec]; iframe

/-- `u` holding `X`. -/
def St.setU (S : St F) (X : Vec F S2x64x128 .f32) : St F := { S with u := X }

/-- The one buffer taken out of all of them, and put back. -/
theorem focus_u (c : Dev nD) (R : Refs) : Focus (F := F) c R R.u St.u St.setU := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_u]; · iexact H_u
  iintro %X H_u; dsimp only [St.setU]; iframe

/-- `bc` holding `X`. -/
def St.setBc (S : St F) (X : Vec F S2x2x8x128 .f32) : St F := { S with bc := X }

/-- The one buffer taken out of all of them, and put back. -/
theorem focus_bc (c : Dev nD) (R : Refs) : Focus (F := F) c R R.bc St.bc St.setBc := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_bc]; · iexact H_bc
  iintro %X H_bc; dsimp only [St.setBc]; iframe

/-- `scol` holding `X`. -/
def St.setScol (S : St F) (X : Vec F S2x32x128 .f32) : St F := { S with scol := X }

/-- The one buffer taken out of all of them, and put back. -/
theorem focus_scol (c : Dev nD) (R : Refs) : Focus (F := F) c R R.scol St.scol St.setScol := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_scol]; · iexact H_scol
  iintro %X H_scol; dsimp only [St.setScol]; iframe

/-- `dcol` holding `X`. -/
def St.setDcol (S : St F) (X : Vec F S32x128 .f32) : St F := { S with dcol := X }

/-- The one buffer taken out of all of them, and put back. -/
theorem focus_dcol (c : Dev nD) (R : Refs) : Focus (F := F) c R R.dcol St.dcol St.setDcol := by
  intro S; unfold All; iintro ⟨H_x, H_codes, H_sscale, H_B, H_C, H_dt, H_bias, H_alog, H_dskip, H_y, H_out, H_oscale, H_w, H_mx, H_gate, H_inv, H_dec, H_u, H_bc, H_scol, H_dcol⟩
  isplitl [H_dcol]; · iexact H_dcol
  iintro %X H_dcol; dsimp only [St.setDcol]; iframe

/-- From the state `S` the program runs, and ends with a value and a state satisfying `Q`. -/
def Go {α : Type} (c : Dev nD) (R : Refs) (S : St F) (p : Pr F α) (Q : α → St F → Prop) : Prop :=
  ∀ K : α → sProp 𝕄, (∀ v S', Q v S' → All c R S' ⊢ K v) →
    All c R S ⊢ Idealize.SL.Sem.wp frame (wpE (defs₀ (F := F)) 𝒱₀ c none) Set.univ p K

/-- A value. -/
theorem Go.ret {α : Type} {c : Dev nD} {R : Refs} {S : St F} {Q : α → St F → Prop} {v : α} (h : Q v S) : Go c R S (pure v : Pr F α) Q := by
  intro K hK
  refine (hK v S h).trans ?_
  show _ ⊢ Idealize.SL.Sem.wp _ _ _ (Prog.ret v) _
  rw [wp_ret]; exact fupd_intro

/-- One program after another. -/
theorem Go.bind {α β : Type} {c : Dev nD} {R : Refs} {S : St F} {p : Pr F α} {k : α → Pr F β} {Q : α → St F → Prop} {Q' : β → St F → Prop}
    (h : Go c R S p Q) (hk : ∀ v S', Q v S' → Go c R S' (k v) Q') : Go c R S (p >>= k) Q' := by
  intro K hK
  rw [wp_bind]
  exact h _ fun v S' hv => hk v S' hv K hK

/-- A weaker end. -/
theorem Go.mono {α : Type} {c : Dev nD} {R : Refs} {S : St F} {p : Pr F α} {Q Q' : α → St F → Prop}
    (h : Go c R S p Q) (hQ : ∀ v S', Q v S' → Q' v S') : Go c R S p Q' :=
  fun K hK => h K fun v S' hv => hK v S' (hQ v S' hv)

/-- A load, by itself. -/
theorem Go.load₁ {c : Dev nD} {R : Refs} {S : St F} {sh : Shape} {e : EltTy} {M : Memref sig .tc .vmem sh e} {get : St F → Vec F sh e}
    {set : St F → Vec F sh e → St F} (foc : Focus c R M get set) (hset : ∀ S, set S (get S) = S) {r : Rect sh} {hl : M.view.LoadsAt r.toLoadRect} :
    Go c R S (Prog.lift (.load M r.toLoadRect hl) : Pr F _) (fun v S' => S' = S ∧ v = box r (get S)) := by
  intro K hK
  refine (foc S).trans ?_
  unfold held
  iintro ⟨⟨%f, %e, H⟩, Hk⟩
  iapply (wp_load_rect (defs := defs₀ (F := F)) 𝒱₀ (c : Thread nD τ) none Set.univ (f := f) (Finset.subset_univ _)) $$ [H]
  · iexact H
  iintro H
  rw [wp_ret]
  iapply fupd_intro
  have h1 := hK (box r (get S)) S ⟨rfl, rfl⟩
  have h2 : (M.access r).read (Elt F) f = box r (get S) := by rw [← e]; rfl
  rw [h2]
  iapply h1
  ihave Hk := Hk $$ %(get S) [H]
  · iexists f; isplitr
    · ipureintro; exact e
    · iexact H
  rw [hset]
  iexact Hk

/-- A store. -/
theorem Go.store {c : Dev nD} {R : Refs} {S : St F} {sh : Shape} {e : EltTy} {M : Memref sig .tc .vmem sh e} {get : St F → Vec F sh e}
    {set : St F → Vec F sh e → St F} (foc : Focus c R M get set) {r : Rect sh} {w : r.shape.Idx → Elt F e}
    {hx : (M.access r).Stores Finset.univ} {hm : Finset.univ = Finset.univ ∨ ∀ a, r.stride a = 1} {Q : PUnit → St F → Prop}
    (h : Q ⟨⟩ (set S (r.overlay (get S) w))) :
    Go c R S (Prog.lift (.store M r w Finset.univ hx hm) : Pr F _) Q := by
  intro K hK
  refine (foc S).trans ?_
  unfold held
  iintro ⟨⟨%f, %e, H⟩, Hk⟩
  iapply (wp_store_writes₀ (defs := defs₀ (F := F)) 𝒱₀ (c : Thread nD τ) none Set.univ (m := M) (r := r) (w := w) (hx := hx) (hm := hm) (f := f) (Finset.subset_univ _)) $$ [H]
  · iexact H
  iintro H
  rw [wp_ret]
  iapply fupd_intro
  have h1 := hK ⟨⟩ _ h
  iapply h1
  ihave Hk := Hk $$ %(r.overlay (get S) w) [H]
  · iexists _; isplitr
    rotate_left
    · iexact H
    · ipureintro
      rw [read_writes_overlay (F := F) _ _ _ _ []]; exact congrArg (fun X => r.overlay X w) e
  iexact Hk

/-- A load and what follows. -/
theorem Go.load {α : Type} {c : Dev nD} {R : Refs} {S : St F} {sh : Shape} {e : EltTy} {M : Memref sig .tc .vmem sh e} {get : St F → Vec F sh e}
    {set : St F → Vec F sh e → St F} (foc : Focus c R M get set) (hset : ∀ S, set S (get S) = S) {r : Rect sh} {hl : M.view.LoadsAt r.toLoadRect}
    {k : (r.shape.Idx → Elt F e) → Pr F α} {Q : α → St F → Prop} (h : Go c R S (k (box r (get S))) Q) :
    Go c R S ((Prog.lift (.load M r.toLoadRect hl) : Pr F _) >>= k) Q :=
  Go.bind (Go.load₁ foc hset) fun v S' hv => by obtain ⟨rfl, rfl⟩ := hv; exact h

end Cert.Proof.KernelIdeal
-- ==== Proof.State.lean ====
/- What the buffers of the idealized kernel hold, one stream at a time: what each store changes of a stream and what each load reads of it. -/
module

public import proofs.«01_k».proof.Proof.Simulate
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-- Inside the rectangle an overlay is what was laid there. -/
theorem overlay_pos {sh : Shape} {α : Type} {off size : Fin sh.rank → ℕ} {inb : ∀ a, off a + size a ≤ sh.size a} (X : sh.Idx → α)
    (V : (Rect.unit off size inb).shape.Idx → α) (j : sh.Idx) (i : (Rect.unit off size inb).shape.Idx) (h : ∀ a, (j a).val = off a + (i a).val) :
    (Rect.unit off size inb).overlay X V j = V i := by
  have : j = (Rect.unit off size inb).emb i := by
    funext a; apply Fin.ext; rw [h a]; simp
  rw [this, Rect.overlay_emb]

/-- Outside it, it is what was there before. -/
theorem overlay_neg {sh : Shape} {α : Type} {off size : Fin sh.rank → ℕ} {inb : ∀ a, off a + size a ≤ sh.size a} (X : sh.Idx → α)
    (V : (Rect.unit off size inb).shape.Idx → α) (j : sh.Idx) (a : Fin sh.rank) (h : (j a).val < off a ∨ off a + size a ≤ (j a).val) :
    (Rect.unit off size inb).overlay X V j = X j := by
  apply Rect.overlay_of_not_mem
  intro hm
  rw [← Rect.map_emb_univ] at hm
  obtain ⟨i, -, rfl⟩ := Finset.mem_map.1 hm
  have := (i a).isLt
  have h2 : ((Rect.unit off size inb).emb i a).val = off a + (i a).val := by simp
  have h3 : (i a).val < size a := this
  omega

/-- A rectangle read at an index is the array at the index moved by the offsets. -/
theorem box_at {sh : Shape} {α : Type} {off size : Fin sh.rank → ℕ} {inb : ∀ a, off a + size a ≤ sh.size a} (X : sh.Idx → α)
    (i : (Rect.unit off size inb).shape.Idx) (j : sh.Idx) (h : ∀ a, (j a).val = off a + (i a).val) :
    box (Rect.unit off size inb) X i = X j := by
  unfold box
  congr 1
  funext a; apply Fin.ext; rw [h a]; simp

attribute [local irreducible] Rect.overlay

/-- What one stream's part of the buffers holds, coordinate by coordinate. -/
structure Half where
  w : Fin 32 → Fin 64 → Fin 128 → EReal
  mx : Fin 32 → Fin 8 → Fin 128 → EReal
  dl : Fin 7 → Fin 128 → EReal
  dk : Fin 7 → Fin 128 → EReal
  inv : Fin 8 → Fin 128 → EReal
  dec : Fin 8 → Fin 128 → EReal
  u : Fin 64 → Fin 128 → EReal
  bB : Fin 7 → Fin 128 → EReal
  bC : Fin 7 → Fin 128 → EReal
  scol : Fin 32 → Fin 128 → EReal
  y : Fin 7 → Fin 32 → Fin 64 → EReal
  out : Fin 7 → Fin 32 → Fin 64 → Fin 128 → EReal
  osc : Fin 7 → Fin 32 → EReal

/-- What no section but the first writes. -/
structure Ins where
  x : Vec Ideal S2x7x32x64 .bf16
  codes : Vec Ideal S2x32x64x128 .fp8e4m3
  sscale : Vec Ideal S320x32 .f32
  B : Vec Ideal S2x7x128 .bf16
  C : Vec Ideal S2x7x128 .bf16
  dt : Vec Ideal S2x7x32 .f32
  bias : Vec Ideal S1x32 .f32
  alog : Vec Ideal S1x32 .f32
  dskip : Vec Ideal S1x32 .f32
  dcol : Vec Ideal S32x128 .f32

/-- Element `l` of row `t` of plane `k` of stream `s`. -/
def plane (k : Fin 2) (X : Vec Ideal S2x2x8x128 .f32) (s : Fin 2) (t : Fin 7) (l : Fin 128) : EReal := X (ix4 s k (⟨t.val, by omega⟩ : Fin 8) l)

/-- The inputs and the column of skips. -/
def ins (S : St Ideal) : Ins := ⟨S.x, S.codes, S.sscale, S.B, S.C, S.dt, S.bias, S.alog, S.dskip, S.dcol⟩

/-- Stream `s`'s part. -/
def half (s : Fin 2) (S : St Ideal) : Half where
  w h p n := S.w (ix4 s h p n)
  mx h r n := S.mx (ix4 s h r n)
  dl t l := plane 0 S.gate s t l
  dk t l := plane 1 S.gate s t l
  inv r l := S.inv (ix3 s r l)
  dec r l := S.dec (ix3 s r l)
  u p l := S.u (ix3 s p l)
  bB t l := plane 0 S.bc s t l
  bC t l := plane 1 S.bc s t l
  scol h l := S.scol (ix3 s h l)
  y t h p := S.y (ix4 s t h p)
  out t h p n := S.out (ix5 s t h p n)
  osc t h := S.oscale (ix3 s t h)

/-- A store to the states at an element. -/
theorem ov_setW (X : Vec Ideal S2x32x64x128 .f32) {s : ℕ} (hs : s < 2) (h : ℕ) (hh : h < 32) (V : (Rect.unit (s := S2x32x64x128) ![s, h, 0, 0] S1x1x64x128.size (inb_w hs hh)).shape.Idx → Elt Ideal .f32) (s' : Fin 2) (h' : Fin 32) (p : Fin 64) (n : Fin 128) :
    (Rect.unit (s := S2x32x64x128) ![s, h, 0, 0] S1x1x64x128.size (inb_w hs hh)).overlay X V (ix4 s' h' p n) = if hc : s'.val = s ∧ h'.val = h then V (ix4 (0 : Fin 1) (0 : Fin 1) p n) else X (ix4 s' h' p n) := by

  split_ifs with hc
  · refine overlay_pos _ _ _ _ ?_
    intro a; fin_cases a <;> simp <;> omega
  · by_cases c0 : s'.val = s
    · by_cases c1 : h'.val = h
      · exact absurd ⟨c0, c1⟩ hc
      · exact overlay_neg _ _ _ 1 (by simp; omega)
    · exact overlay_neg _ _ _ 0 (by simp; omega)

/-- What a store to the states makes of a stream. -/
theorem half_setW (S : St Ideal) (s' : Fin 2) {s : ℕ} (hs : s < 2) (h : ℕ) (hh : h < 32) (V : (Rect.unit (s := S2x32x64x128) ![s, h, 0, 0] S1x1x64x128.size (inb_w hs hh)).shape.Idx → Elt Ideal .f32) :
    half s' (S.setW ((Rect.unit (s := S2x32x64x128) ![s, h, 0, 0] S1x1x64x128.size (inb_w hs hh)).overlay S.w V))
      = if s'.val = s then { half s' S with w := fun h' p n => if hc : h'.val = h then V (ix4 (0 : Fin 1) (0 : Fin 1) p n) else (half s' S).w h' p n } else half s' S := by
  have hg : ∀ X, half s' (S.setW X) = ({ half s' S with w := fun h' p n => X (ix4 s' h' p n) } : Half) := fun X => rfl
  rw [hg]
  by_cases e0 : s'.val = s
  · rw [if_pos e0]
    refine congrArg (fun f => ({ half s' S with w := f } : Half)) ?_
    funext h' p n
    refine (ov_setW S.w hs h hh V s' h' p n).trans ?_
    by_cases hc : h'.val = h
    · rw [dif_pos hc]; exact dif_pos ⟨e0, hc⟩
    · rw [dif_neg hc]; exact dif_neg fun h => hc h.2
  · rw [if_neg e0]
    exact congrArg (fun f => ({ half s' S with w := f } : Half)) (funext fun h' => funext fun p => funext fun n => (ov_setW S.w hs h hh V s' h' p n).trans (by simp only [e0, false_and, if_true, if_false, dite_true, dite_false]))

/-- A store to the tile maxima at an element. -/
theorem ov_setMx (X : Vec Ideal S2x32x8x128 .f32) {s : ℕ} (hs : s < 2) (h : ℕ) (hh : h < 32) (V : (Rect.unit (s := S2x32x8x128) ![s, h, 0, 0] S1x1x8x128.size (inb_mx hs hh)).shape.Idx → Elt Ideal .f32) (s' : Fin 2) (h' : Fin 32) (p : Fin 8) (n : Fin 128) :
    (Rect.unit (s := S2x32x8x128) ![s, h, 0, 0] S1x1x8x128.size (inb_mx hs hh)).overlay X V (ix4 s' h' p n) = if hc : s'.val = s ∧ h'.val = h then V (ix4 (0 : Fin 1) (0 : Fin 1) p n) else X (ix4 s' h' p n) := by

  split_ifs with hc
  · refine overlay_pos _ _ _ _ ?_
    intro a; fin_cases a <;> simp <;> omega
  · by_cases c0 : s'.val = s
    · by_cases c1 : h'.val = h
      · exact absurd ⟨c0, c1⟩ hc
      · exact overlay_neg _ _ _ 1 (by simp; omega)
    · exact overlay_neg _ _ _ 0 (by simp; omega)

/-- What a store to the tile maxima makes of a stream. -/
theorem half_setMx (S : St Ideal) (s' : Fin 2) {s : ℕ} (hs : s < 2) (h : ℕ) (hh : h < 32) (V : (Rect.unit (s := S2x32x8x128) ![s, h, 0, 0] S1x1x8x128.size (inb_mx hs hh)).shape.Idx → Elt Ideal .f32) :
    half s' (S.setMx ((Rect.unit (s := S2x32x8x128) ![s, h, 0, 0] S1x1x8x128.size (inb_mx hs hh)).overlay S.mx V))
      = if s'.val = s then { half s' S with mx := fun h' p n => if hc : h'.val = h then V (ix4 (0 : Fin 1) (0 : Fin 1) p n) else (half s' S).mx h' p n } else half s' S := by
  have hg : ∀ X, half s' (S.setMx X) = ({ half s' S with mx := fun h' p n => X (ix4 s' h' p n) } : Half) := fun X => rfl
  rw [hg]
  by_cases e0 : s'.val = s
  · rw [if_pos e0]
    refine congrArg (fun f => ({ half s' S with mx := f } : Half)) ?_
    funext h' p n
    refine (ov_setMx S.mx hs h hh V s' h' p n).trans ?_
    by_cases hc : h'.val = h
    · rw [dif_pos hc]; exact dif_pos ⟨e0, hc⟩
    · rw [dif_neg hc]; exact dif_neg fun h => hc h.2
  · rw [if_neg e0]
    exact congrArg (fun f => ({ half s' S with mx := f } : Half)) (funext fun h' => funext fun p => funext fun n => (ov_setMx S.mx hs h hh V s' h' p n).trans (by simp only [e0, false_and, if_true, if_false, dite_true, dite_false]))

/-- A store to the inverse scales at an element. -/
theorem ov_setInv (X : Vec Ideal S2x8x128 .f32) {s : ℕ} (hs : s < 2)  (V : (Rect.unit (s := S2x8x128) ![s, 0, 0] S1x8x128.size (inb_tile hs)).shape.Idx → Elt Ideal .f32) (s' : Fin 2) (r : Fin 8) (l : Fin 128) :
    (Rect.unit (s := S2x8x128) ![s, 0, 0] S1x8x128.size (inb_tile hs)).overlay X V (ix3 s' r l) = if hc : s'.val = s then V (ix3 (0 : Fin 1) r l) else X (ix3 s' r l) := by

  split_ifs with hc
  · refine overlay_pos _ _ _ _ ?_
    intro a; fin_cases a <;> simp <;> omega
  · by_cases c0 : s'.val = s
    · exact absurd c0 hc
    · exact overlay_neg _ _ _ 0 (by simp; omega)

/-- What a store to the inverse scales makes of a stream. -/
theorem half_setInv (S : St Ideal) (s' : Fin 2) {s : ℕ} (hs : s < 2)  (V : (Rect.unit (s := S2x8x128) ![s, 0, 0] S1x8x128.size (inb_tile hs)).shape.Idx → Elt Ideal .f32) :
    half s' (S.setInv ((Rect.unit (s := S2x8x128) ![s, 0, 0] S1x8x128.size (inb_tile hs)).overlay S.inv V))
      = if s'.val = s then { half s' S with inv := fun r l => V (ix3 (0 : Fin 1) r l) } else half s' S := by
  have hg : ∀ X, half s' (S.setInv X) = ({ half s' S with inv := fun r l => X (ix3 s' r l) } : Half) := fun X => rfl
  rw [hg]
  by_cases e0 : s'.val = s
  · rw [if_pos e0]
    exact congrArg (fun f => ({ half s' S with inv := f } : Half)) (funext fun r => funext fun l => (ov_setInv S.inv hs V s' r l).trans (dif_pos e0))
  · rw [if_neg e0]
    exact congrArg (fun f => ({ half s' S with inv := f } : Half)) (funext fun r => funext fun l => (ov_setInv S.inv hs V s' r l).trans (dif_neg e0))

/-- A store to the decays at an element. -/
theorem ov_setDec (X : Vec Ideal S2x8x128 .f32) {s : ℕ} (hs : s < 2)  (V : (Rect.unit (s := S2x8x128) ![s, 0, 0] S1x8x128.size (inb_tile hs)).shape.Idx → Elt Ideal .f32) (s' : Fin 2) (r : Fin 8) (l : Fin 128) :
    (Rect.unit (s := S2x8x128) ![s, 0, 0] S1x8x128.size (inb_tile hs)).overlay X V (ix3 s' r l) = if hc : s'.val = s then V (ix3 (0 : Fin 1) r l) else X (ix3 s' r l) := by

  split_ifs with hc
  · refine overlay_pos _ _ _ _ ?_
    intro a; fin_cases a <;> simp <;> omega
  · by_cases c0 : s'.val = s
    · exact absurd c0 hc
    · exact overlay_neg _ _ _ 0 (by simp; omega)

/-- What a store to the decays makes of a stream. -/
theorem half_setDec (S : St Ideal) (s' : Fin 2) {s : ℕ} (hs : s < 2)  (V : (Rect.unit (s := S2x8x128) ![s, 0, 0] S1x8x128.size (inb_tile hs)).shape.Idx → Elt Ideal .f32) :
    half s' (S.setDec ((Rect.unit (s := S2x8x128) ![s, 0, 0] S1x8x128.size (inb_tile hs)).overlay S.dec V))
      = if s'.val = s then { half s' S with dec := fun r l => V (ix3 (0 : Fin 1) r l) } else half s' S := by
  have hg : ∀ X, half s' (S.setDec X) = ({ half s' S with dec := fun r l => X (ix3 s' r l) } : Half) := fun X => rfl
  rw [hg]
  by_cases e0 : s'.val = s
  · rw [if_pos e0]
    exact congrArg (fun f => ({ half s' S with dec := f } : Half)) (funext fun r => funext fun l => (ov_setDec S.dec hs V s' r l).trans (dif_pos e0))
  · rw [if_neg e0]
    exact congrArg (fun f => ({ half s' S with dec := f } : Half)) (funext fun r => funext fun l => (ov_setDec S.dec hs V s' r l).trans (dif_neg e0))

/-- A store to the gated inputs at an element. -/
theorem ov_setU (X : Vec Ideal S2x64x128 .f32) {s : ℕ} (hs : s < 2)  (V : (Rect.unit (s := S2x64x128) ![s, 0, 0] S1x64x128.size (inb_u hs)).shape.Idx → Elt Ideal .f32) (s' : Fin 2) (r : Fin 64) (l : Fin 128) :
    (Rect.unit (s := S2x64x128) ![s, 0, 0] S1x64x128.size (inb_u hs)).overlay X V (ix3 s' r l) = if hc : s'.val = s then V (ix3 (0 : Fin 1) r l) else X (ix3 s' r l) := by

  split_ifs with hc
  · refine overlay_pos _ _ _ _ ?_
    intro a; fin_cases a <;> simp <;> omega
  · by_cases c0 : s'.val = s
    · exact absurd c0 hc
    · exact overlay_neg _ _ _ 0 (by simp; omega)

/-- What a store to the gated inputs makes of a stream. -/
theorem half_setU (S : St Ideal) (s' : Fin 2) {s : ℕ} (hs : s < 2)  (V : (Rect.unit (s := S2x64x128) ![s, 0, 0] S1x64x128.size (inb_u hs)).shape.Idx → Elt Ideal .f32) :
    half s' (S.setU ((Rect.unit (s := S2x64x128) ![s, 0, 0] S1x64x128.size (inb_u hs)).overlay S.u V))
      = if s'.val = s then { half s' S with u := fun r l => V (ix3 (0 : Fin 1) r l) } else half s' S := by
  have hg : ∀ X, half s' (S.setU X) = ({ half s' S with u := fun r l => X (ix3 s' r l) } : Half) := fun X => rfl
  rw [hg]
  by_cases e0 : s'.val = s
  · rw [if_pos e0]
    exact congrArg (fun f => ({ half s' S with u := f } : Half)) (funext fun r => funext fun l => (ov_setU S.u hs V s' r l).trans (dif_pos e0))
  · rw [if_neg e0]
    exact congrArg (fun f => ({ half s' S with u := f } : Half)) (funext fun r => funext fun l => (ov_setU S.u hs V s' r l).trans (dif_neg e0))

/-- A store to the scale column at an element. -/
theorem ov_setScol (X : Vec Ideal S2x32x128 .f32) {s : ℕ} (hs : s < 2)  (V : (Rect.unit (s := S2x32x128) ![s, 0, 0] S1x32x128.size (inb_scol hs)).shape.Idx → Elt Ideal .f32) (s' : Fin 2) (r : Fin 32) (l : Fin 128) :
    (Rect.unit (s := S2x32x128) ![s, 0, 0] S1x32x128.size (inb_scol hs)).overlay X V (ix3 s' r l) = if hc : s'.val = s then V (ix3 (0 : Fin 1) r l) else X (ix3 s' r l) := by

  split_ifs with hc
  · refine overlay_pos _ _ _ _ ?_
    intro a; fin_cases a <;> simp <;> omega
  · by_cases c0 : s'.val = s
    · exact absurd c0 hc
    · exact overlay_neg _ _ _ 0 (by simp; omega)

/-- What a store to the scale column makes of a stream. -/
theorem half_setScol (S : St Ideal) (s' : Fin 2) {s : ℕ} (hs : s < 2)  (V : (Rect.unit (s := S2x32x128) ![s, 0, 0] S1x32x128.size (inb_scol hs)).shape.Idx → Elt Ideal .f32) :
    half s' (S.setScol ((Rect.unit (s := S2x32x128) ![s, 0, 0] S1x32x128.size (inb_scol hs)).overlay S.scol V))
      = if s'.val = s then { half s' S with scol := fun r l => V (ix3 (0 : Fin 1) r l) } else half s' S := by
  have hg : ∀ X, half s' (S.setScol X) = ({ half s' S with scol := fun r l => X (ix3 s' r l) } : Half) := fun X => rfl
  rw [hg]
  by_cases e0 : s'.val = s
  · rw [if_pos e0]
    exact congrArg (fun f => ({ half s' S with scol := f } : Half)) (funext fun r => funext fun l => (ov_setScol S.scol hs V s' r l).trans (dif_pos e0))
  · rw [if_neg e0]
    exact congrArg (fun f => ({ half s' S with scol := f } : Half)) (funext fun r => funext fun l => (ov_setScol S.scol hs V s' r l).trans (dif_neg e0))

/-- A store to the scales put out at an element. -/
theorem ov_setOscale (X : Vec Ideal S2x7x32 .f32) {s : ℕ} (hs : s < 2) (t : ℕ) (ht : t < 7) (V : (Rect.unit (s := S2x7x32) ![s, t, 0] S1x1x32.size (inb_oscale hs ht)).shape.Idx → Elt Ideal .f32) (s' : Fin 2) (t' : Fin 7) (h' : Fin 32) :
    (Rect.unit (s := S2x7x32) ![s, t, 0] S1x1x32.size (inb_oscale hs ht)).overlay X V (ix3 s' t' h') = if hc : s'.val = s ∧ t'.val = t then V (ix3 (0 : Fin 1) (0 : Fin 1) h') else X (ix3 s' t' h') := by

  split_ifs with hc
  · refine overlay_pos _ _ _ _ ?_
    intro a; fin_cases a <;> simp <;> omega
  · by_cases c0 : s'.val = s
    · by_cases c1 : t'.val = t
      · exact absurd ⟨c0, c1⟩ hc
      · exact overlay_neg _ _ _ 1 (by simp; omega)
    · exact overlay_neg _ _ _ 0 (by simp; omega)

/-- What a store to the scales put out makes of a stream. -/
theorem half_setOscale (S : St Ideal) (s' : Fin 2) {s : ℕ} (hs : s < 2) (t : ℕ) (ht : t < 7) (V : (Rect.unit (s := S2x7x32) ![s, t, 0] S1x1x32.size (inb_oscale hs ht)).shape.Idx → Elt Ideal .f32) :
    half s' (S.setOscale ((Rect.unit (s := S2x7x32) ![s, t, 0] S1x1x32.size (inb_oscale hs ht)).overlay S.oscale V))
      = if s'.val = s then { half s' S with osc := fun t' h' => if hc : t'.val = t then V (ix3 (0 : Fin 1) (0 : Fin 1) h') else (half s' S).osc t' h' } else half s' S := by
  have hg : ∀ X, half s' (S.setOscale X) = ({ half s' S with osc := fun t' h' => X (ix3 s' t' h') } : Half) := fun X => rfl
  rw [hg]
  by_cases e0 : s'.val = s
  · rw [if_pos e0]
    refine congrArg (fun f => ({ half s' S with osc := f } : Half)) ?_
    funext t' h'
    refine (ov_setOscale S.oscale hs t ht V s' t' h').trans ?_
    by_cases hc : t'.val = t
    · rw [dif_pos hc]; exact dif_pos ⟨e0, hc⟩
    · rw [dif_neg hc]; exact dif_neg fun h => hc h.2
  · rw [if_neg e0]
    exact congrArg (fun f => ({ half s' S with osc := f } : Half)) (funext fun t' => funext fun h' => (ov_setOscale S.oscale hs t ht V s' t' h').trans (by simp only [e0, false_and, if_true, if_false, dite_true, dite_false]))

/-- A store to the codes put out at an element. -/
theorem ov_setOut (X : Vec Ideal S2x7x32x64x128 .fp8e4m3) {s : ℕ} (hs : s < 2) (t : ℕ) (ht : t < 7) (h : ℕ) (hh : h < 32) (V : (Rect.unit (s := S2x7x32x64x128) ![s, t, h, 0, 0] S1x1x1x64x128.size (inb_out hs ht hh)).shape.Idx → Elt Ideal .fp8e4m3) (s' : Fin 2) (t' : Fin 7) (h' : Fin 32) (p : Fin 64) (n : Fin 128) :
    (Rect.unit (s := S2x7x32x64x128) ![s, t, h, 0, 0] S1x1x1x64x128.size (inb_out hs ht hh)).overlay X V (ix5 s' t' h' p n) = if hc : s'.val = s ∧ t'.val = t ∧ h'.val = h then V (ix5 (0 : Fin 1) (0 : Fin 1) (0 : Fin 1) p n) else X (ix5 s' t' h' p n) := by

  split_ifs with hc
  · refine overlay_pos _ _ _ _ ?_
    intro a; fin_cases a <;> simp <;> omega
  · by_cases c0 : s'.val = s
    · by_cases c1 : t'.val = t
      · by_cases c2 : h'.val = h
        · exact absurd ⟨c0, c1, c2⟩ hc
        · exact overlay_neg _ _ _ 2 (by simp; omega)
      · exact overlay_neg _ _ _ 1 (by simp; omega)
    · exact overlay_neg _ _ _ 0 (by simp; omega)

/-- What a store to the codes put out makes of a stream. -/
theorem half_setOut (S : St Ideal) (s' : Fin 2) {s : ℕ} (hs : s < 2) (t : ℕ) (ht : t < 7) (h : ℕ) (hh : h < 32) (V : (Rect.unit (s := S2x7x32x64x128) ![s, t, h, 0, 0] S1x1x1x64x128.size (inb_out hs ht hh)).shape.Idx → Elt Ideal .fp8e4m3) :
    half s' (S.setOut ((Rect.unit (s := S2x7x32x64x128) ![s, t, h, 0, 0] S1x1x1x64x128.size (inb_out hs ht hh)).overlay S.out V))
      = if s'.val = s then { half s' S with out := fun t' h' p n => if hc : t'.val = t ∧ h'.val = h then V (ix5 (0 : Fin 1) (0 : Fin 1) (0 : Fin 1) p n) else (half s' S).out t' h' p n } else half s' S := by
  have hg : ∀ X, half s' (S.setOut X) = ({ half s' S with out := fun t' h' p n => X (ix5 s' t' h' p n) } : Half) := fun X => rfl
  rw [hg]
  by_cases e0 : s'.val = s
  · rw [if_pos e0]
    refine congrArg (fun f => ({ half s' S with out := f } : Half)) ?_
    funext t' h' p n
    refine (ov_setOut S.out hs t ht h hh V s' t' h' p n).trans ?_
    by_cases hc : t'.val = t ∧ h'.val = h
    · rw [dif_pos hc]; exact dif_pos ⟨e0, hc⟩
    · rw [dif_neg hc]; exact dif_neg fun h => hc h.2
  · rw [if_neg e0]
    exact congrArg (fun f => ({ half s' S with out := f } : Half)) (funext fun t' => funext fun h' => funext fun p => funext fun n => (ov_setOut S.out hs t ht h hh V s' t' h' p n).trans (by simp only [e0, false_and, if_true, if_false, dite_true, dite_false]))

/-- A store to the outputs at an element. -/
theorem ov_setY (X : Vec Ideal S2x7x32x64 .bf16) {s : ℕ} (hs : s < 2) (t : ℕ) (ht : t < 7) (r : ℕ) (hr : r + 16 ≤ 32) (V : (Rect.unit (s := S2x7x32x64) ![s, t, r, 0] S1x1x16x64.size (inb_xg hs ht hr)).shape.Idx → Elt Ideal .bf16) (s' : Fin 2) (t' : Fin 7) (h' : Fin 32) (p : Fin 64) :
    (Rect.unit (s := S2x7x32x64) ![s, t, r, 0] S1x1x16x64.size (inb_xg hs ht hr)).overlay X V (ix4 s' t' h' p) = if hc : s'.val = s ∧ t'.val = t ∧ r ≤ h'.val ∧ h'.val < r + 16 then V (ix4 (0 : Fin 1) (0 : Fin 1) ⟨h'.val - r, by omega⟩ p) else X (ix4 s' t' h' p) := by

  split_ifs with hc
  · refine overlay_pos _ _ _ _ ?_
    intro a; fin_cases a <;> simp <;> omega
  · by_cases c0 : s'.val = s
    · by_cases c1 : t'.val = t
      · by_cases c2 : r ≤ h'.val
        · by_cases c3 : h'.val < r + 16
          · exact absurd ⟨c0, c1, c2, c3⟩ hc
          · exact overlay_neg _ _ _ 2 (by simp; omega)
        · exact overlay_neg _ _ _ 2 (by simp; omega)
      · exact overlay_neg _ _ _ 1 (by simp; omega)
    · exact overlay_neg _ _ _ 0 (by simp; omega)

/-- What a store to the outputs makes of a stream. -/
theorem half_setY (S : St Ideal) (s' : Fin 2) {s : ℕ} (hs : s < 2) (t : ℕ) (ht : t < 7) (r : ℕ) (hr : r + 16 ≤ 32) (V : (Rect.unit (s := S2x7x32x64) ![s, t, r, 0] S1x1x16x64.size (inb_xg hs ht hr)).shape.Idx → Elt Ideal .bf16) :
    half s' (S.setY ((Rect.unit (s := S2x7x32x64) ![s, t, r, 0] S1x1x16x64.size (inb_xg hs ht hr)).overlay S.y V))
      = if s'.val = s then { half s' S with y := fun t' h' p => if hc : t'.val = t ∧ r ≤ h'.val ∧ h'.val < r + 16 then V (ix4 (0 : Fin 1) (0 : Fin 1) ⟨h'.val - r, by omega⟩ p) else (half s' S).y t' h' p } else half s' S := by
  have hg : ∀ X, half s' (S.setY X) = ({ half s' S with y := fun t' h' p => X (ix4 s' t' h' p) } : Half) := fun X => rfl
  rw [hg]
  by_cases e0 : s'.val = s
  · rw [if_pos e0]
    refine congrArg (fun f => ({ half s' S with y := f } : Half)) ?_
    funext t' h' p
    refine (ov_setY S.y hs t ht r hr V s' t' h' p).trans ?_
    by_cases hc : t'.val = t ∧ r ≤ h'.val ∧ h'.val < r + 16
    · rw [dif_pos hc]; exact dif_pos ⟨e0, hc⟩
    · rw [dif_neg hc]; exact dif_neg fun h => hc h.2
  · rw [if_neg e0]
    exact congrArg (fun f => ({ half s' S with y := f } : Half)) (funext fun t' => funext fun h' => funext fun p => (ov_setY S.y hs t ht r hr V s' t' h' p).trans (by simp only [e0, false_and, if_true, if_false, dite_true, dite_false]))

/-- A store to the gates at an element. -/
theorem ov_setGate_dl (X : Vec Ideal S2x2x8x128 .f32) {s : ℕ} (hs : s < 2)  (V : (Rect.unit (s := S2x2x8x128) ![s, 0, 0, 0] S1x1x7x128.size (inb_rows hs (by decide))).shape.Idx → Elt Ideal .f32) (s' : Fin 2) (t : Fin 7) (l : Fin 128) :
    plane 0 ((Rect.unit (s := S2x2x8x128) ![s, 0, 0, 0] S1x1x7x128.size (inb_rows hs (by decide))).overlay X V) s' t l = if hc : s'.val = s then V (ix4 (0 : Fin 1) (0 : Fin 1) t l) else plane 0 X s' t l := by
  unfold plane
  split_ifs with hc
  · refine overlay_pos _ _ _ _ ?_
    intro a; fin_cases a <;> simp <;> omega
  · by_cases c0 : s'.val = s
    · exact absurd c0 hc
    · exact overlay_neg _ _ _ 0 (by simp; omega)

/-- A store to the other plane leaves the gates. -/
theorem ov'_setGate_dl (X : Vec Ideal S2x2x8x128 .f32) {s : ℕ} (hs : s < 2) (V : (Rect.unit (s := S2x2x8x128) ![s, 0, 0, 0] S1x1x7x128.size (inb_rows hs (by decide))).shape.Idx → Elt Ideal .f32) (s' : Fin 2) (t : Fin 7) (l : Fin 128) :
    plane (1 : Fin 2) ((Rect.unit (s := S2x2x8x128) ![s, 0, 0, 0] S1x1x7x128.size (inb_rows hs (by decide))).overlay X V) s' t l = plane (1 : Fin 2) X s' t l :=
  overlay_neg _ _ _ 1 (by simp)

/-- What a store to the gates makes of a stream. -/
theorem half_setGate_dl (S : St Ideal) (s' : Fin 2) {s : ℕ} (hs : s < 2)  (V : (Rect.unit (s := S2x2x8x128) ![s, 0, 0, 0] S1x1x7x128.size (inb_rows hs (by decide))).shape.Idx → Elt Ideal .f32) :
    half s' (S.setGate ((Rect.unit (s := S2x2x8x128) ![s, 0, 0, 0] S1x1x7x128.size (inb_rows hs (by decide))).overlay S.gate V))
      = if s'.val = s then { half s' S with dl := fun t l => V (ix4 (0 : Fin 1) (0 : Fin 1) t l) } else half s' S := by
  have hg : ∀ X, half s' (S.setGate X) = ({ half s' S with dl := plane 0 X s', dk := plane 1 X s' } : Half) := fun X => rfl
  rw [hg]
  by_cases e0 : s'.val = s
  · rw [if_pos e0]
    exact congrArg₂ (fun f g => ({ half s' S with dl := f, dk := g } : Half)) (funext fun t => funext fun l => (ov_setGate_dl S.gate hs V s' t l).trans (dif_pos e0)) (funext fun t => funext fun l => ov'_setGate_dl S.gate hs V s' t l)
  · rw [if_neg e0]
    exact congrArg₂ (fun f g => ({ half s' S with dl := f, dk := g } : Half)) (funext fun t => funext fun l => (ov_setGate_dl S.gate hs V s' t l).trans (dif_neg e0)) (funext fun t => funext fun l => ov'_setGate_dl S.gate hs V s' t l)

/-- A store to the decays of all tokens at an element. -/
theorem ov_setGate_dk (X : Vec Ideal S2x2x8x128 .f32) {s : ℕ} (hs : s < 2)  (V : (Rect.unit (s := S2x2x8x128) ![s, 1, 0, 0] S1x1x7x128.size (inb_rows hs (by decide))).shape.Idx → Elt Ideal .f32) (s' : Fin 2) (t : Fin 7) (l : Fin 128) :
    plane 1 ((Rect.unit (s := S2x2x8x128) ![s, 1, 0, 0] S1x1x7x128.size (inb_rows hs (by decide))).overlay X V) s' t l = if hc : s'.val = s then V (ix4 (0 : Fin 1) (0 : Fin 1) t l) else plane 1 X s' t l := by
  unfold plane
  split_ifs with hc
  · refine overlay_pos _ _ _ _ ?_
    intro a; fin_cases a <;> simp <;> omega
  · by_cases c0 : s'.val = s
    · exact absurd c0 hc
    · exact overlay_neg _ _ _ 0 (by simp; omega)

/-- A store to the other plane leaves the decays of all tokens. -/
theorem ov'_setGate_dk (X : Vec Ideal S2x2x8x128 .f32) {s : ℕ} (hs : s < 2) (V : (Rect.unit (s := S2x2x8x128) ![s, 1, 0, 0] S1x1x7x128.size (inb_rows hs (by decide))).shape.Idx → Elt Ideal .f32) (s' : Fin 2) (t : Fin 7) (l : Fin 128) :
    plane (0 : Fin 2) ((Rect.unit (s := S2x2x8x128) ![s, 1, 0, 0] S1x1x7x128.size (inb_rows hs (by decide))).overlay X V) s' t l = plane (0 : Fin 2) X s' t l :=
  overlay_neg _ _ _ 1 (by simp)

/-- What a store to the decays of all tokens makes of a stream. -/
theorem half_setGate_dk (S : St Ideal) (s' : Fin 2) {s : ℕ} (hs : s < 2)  (V : (Rect.unit (s := S2x2x8x128) ![s, 1, 0, 0] S1x1x7x128.size (inb_rows hs (by decide))).shape.Idx → Elt Ideal .f32) :
    half s' (S.setGate ((Rect.unit (s := S2x2x8x128) ![s, 1, 0, 0] S1x1x7x128.size (inb_rows hs (by decide))).overlay S.gate V))
      = if s'.val = s then { half s' S with dk := fun t l => V (ix4 (0 : Fin 1) (0 : Fin 1) t l) } else half s' S := by
  have hg : ∀ X, half s' (S.setGate X) = ({ half s' S with dk := plane 1 X s', dl := plane 0 X s' } : Half) := fun X => rfl
  rw [hg]
  by_cases e0 : s'.val = s
  · rw [if_pos e0]
    exact congrArg₂ (fun f g => ({ half s' S with dk := f, dl := g } : Half)) (funext fun t => funext fun l => (ov_setGate_dk S.gate hs V s' t l).trans (dif_pos e0)) (funext fun t => funext fun l => ov'_setGate_dk S.gate hs V s' t l)
  · rw [if_neg e0]
    exact congrArg₂ (fun f g => ({ half s' S with dk := f, dl := g } : Half)) (funext fun t => funext fun l => (ov_setGate_dk S.gate hs V s' t l).trans (dif_neg e0)) (funext fun t => funext fun l => ov'_setGate_dk S.gate hs V s' t l)

/-- A store to the rows of B at an element. -/
theorem ov_setBc_bB (X : Vec Ideal S2x2x8x128 .f32) {s : ℕ} (hs : s < 2)  (V : (Rect.unit (s := S2x2x8x128) ![s, 0, 0, 0] S1x1x7x128.size (inb_rows hs (by decide))).shape.Idx → Elt Ideal .f32) (s' : Fin 2) (t : Fin 7) (l : Fin 128) :
    plane 0 ((Rect.unit (s := S2x2x8x128) ![s, 0, 0, 0] S1x1x7x128.size (inb_rows hs (by decide))).overlay X V) s' t l = if hc : s'.val = s then V (ix4 (0 : Fin 1) (0 : Fin 1) t l) else plane 0 X s' t l := by
  unfold plane
  split_ifs with hc
  · refine overlay_pos _ _ _ _ ?_
    intro a; fin_cases a <;> simp <;> omega
  · by_cases c0 : s'.val = s
    · exact absurd c0 hc
    · exact overlay_neg _ _ _ 0 (by simp; omega)

/-- A store to the other plane leaves the rows of B. -/
theorem ov'_setBc_bB (X : Vec Ideal S2x2x8x128 .f32) {s : ℕ} (hs : s < 2) (V : (Rect.unit (s := S2x2x8x128) ![s, 0, 0, 0] S1x1x7x128.size (inb_rows hs (by decide))).shape.Idx → Elt Ideal .f32) (s' : Fin 2) (t : Fin 7) (l : Fin 128) :
    plane (1 : Fin 2) ((Rect.unit (s := S2x2x8x128) ![s, 0, 0, 0] S1x1x7x128.size (inb_rows hs (by decide))).overlay X V) s' t l = plane (1 : Fin 2) X s' t l :=
  overlay_neg _ _ _ 1 (by simp)

/-- What a store to the rows of B makes of a stream. -/
theorem half_setBc_bB (S : St Ideal) (s' : Fin 2) {s : ℕ} (hs : s < 2)  (V : (Rect.unit (s := S2x2x8x128) ![s, 0, 0, 0] S1x1x7x128.size (inb_rows hs (by decide))).shape.Idx → Elt Ideal .f32) :
    half s' (S.setBc ((Rect.unit (s := S2x2x8x128) ![s, 0, 0, 0] S1x1x7x128.size (inb_rows hs (by decide))).overlay S.bc V))
      = if s'.val = s then { half s' S with bB := fun t l => V (ix4 (0 : Fin 1) (0 : Fin 1) t l) } else half s' S := by
  have hg : ∀ X, half s' (S.setBc X) = ({ half s' S with bB := plane 0 X s', bC := plane 1 X s' } : Half) := fun X => rfl
  rw [hg]
  by_cases e0 : s'.val = s
  · rw [if_pos e0]
    exact congrArg₂ (fun f g => ({ half s' S with bB := f, bC := g } : Half)) (funext fun t => funext fun l => (ov_setBc_bB S.bc hs V s' t l).trans (dif_pos e0)) (funext fun t => funext fun l => ov'_setBc_bB S.bc hs V s' t l)
  · rw [if_neg e0]
    exact congrArg₂ (fun f g => ({ half s' S with bB := f, bC := g } : Half)) (funext fun t => funext fun l => (ov_setBc_bB S.bc hs V s' t l).trans (dif_neg e0)) (funext fun t => funext fun l => ov'_setBc_bB S.bc hs V s' t l)

/-- A store to the rows of C at an element. -/
theorem ov_setBc_bC (X : Vec Ideal S2x2x8x128 .f32) {s : ℕ} (hs : s < 2)  (V : (Rect.unit (s := S2x2x8x128) ![s, 1, 0, 0] S1x1x7x128.size (inb_rows hs (by decide))).shape.Idx → Elt Ideal .f32) (s' : Fin 2) (t : Fin 7) (l : Fin 128) :
    plane 1 ((Rect.unit (s := S2x2x8x128) ![s, 1, 0, 0] S1x1x7x128.size (inb_rows hs (by decide))).overlay X V) s' t l = if hc : s'.val = s then V (ix4 (0 : Fin 1) (0 : Fin 1) t l) else plane 1 X s' t l := by
  unfold plane
  split_ifs with hc
  · refine overlay_pos _ _ _ _ ?_
    intro a; fin_cases a <;> simp <;> omega
  · by_cases c0 : s'.val = s
    · exact absurd c0 hc
    · exact overlay_neg _ _ _ 0 (by simp; omega)

/-- A store to the other plane leaves the rows of C. -/
theorem ov'_setBc_bC (X : Vec Ideal S2x2x8x128 .f32) {s : ℕ} (hs : s < 2) (V : (Rect.unit (s := S2x2x8x128) ![s, 1, 0, 0] S1x1x7x128.size (inb_rows hs (by decide))).shape.Idx → Elt Ideal .f32) (s' : Fin 2) (t : Fin 7) (l : Fin 128) :
    plane (0 : Fin 2) ((Rect.unit (s := S2x2x8x128) ![s, 1, 0, 0] S1x1x7x128.size (inb_rows hs (by decide))).overlay X V) s' t l = plane (0 : Fin 2) X s' t l :=
  overlay_neg _ _ _ 1 (by simp)

/-- What a store to the rows of C makes of a stream. -/
theorem half_setBc_bC (S : St Ideal) (s' : Fin 2) {s : ℕ} (hs : s < 2)  (V : (Rect.unit (s := S2x2x8x128) ![s, 1, 0, 0] S1x1x7x128.size (inb_rows hs (by decide))).shape.Idx → Elt Ideal .f32) :
    half s' (S.setBc ((Rect.unit (s := S2x2x8x128) ![s, 1, 0, 0] S1x1x7x128.size (inb_rows hs (by decide))).overlay S.bc V))
      = if s'.val = s then { half s' S with bC := fun t l => V (ix4 (0 : Fin 1) (0 : Fin 1) t l) } else half s' S := by
  have hg : ∀ X, half s' (S.setBc X) = ({ half s' S with bC := plane 1 X s', bB := plane 0 X s' } : Half) := fun X => rfl
  rw [hg]
  by_cases e0 : s'.val = s
  · rw [if_pos e0]
    exact congrArg₂ (fun f g => ({ half s' S with bC := f, bB := g } : Half)) (funext fun t => funext fun l => (ov_setBc_bC S.bc hs V s' t l).trans (dif_pos e0)) (funext fun t => funext fun l => ov'_setBc_bC S.bc hs V s' t l)
  · rw [if_neg e0]
    exact congrArg₂ (fun f g => ({ half s' S with bC := f, bB := g } : Half)) (funext fun t => funext fun l => (ov_setBc_bC S.bc hs V s' t l).trans (dif_neg e0)) (funext fun t => funext fun l => ov'_setBc_bC S.bc hs V s' t l)

/-- A store to the states leaves the inputs. -/
theorem ins_setW (S : St Ideal) X : ins (S.setW X) = ins S := rfl
/-- A store to the tile maxima leaves the inputs. -/
theorem ins_setMx (S : St Ideal) X : ins (S.setMx X) = ins S := rfl
/-- A store to the inverse scales leaves the inputs. -/
theorem ins_setInv (S : St Ideal) X : ins (S.setInv X) = ins S := rfl
/-- A store to the decays leaves the inputs. -/
theorem ins_setDec (S : St Ideal) X : ins (S.setDec X) = ins S := rfl
/-- A store to the gated inputs leaves the inputs. -/
theorem ins_setU (S : St Ideal) X : ins (S.setU X) = ins S := rfl
/-- A store to the scale column leaves the inputs. -/
theorem ins_setScol (S : St Ideal) X : ins (S.setScol X) = ins S := rfl
/-- A store to the scales put out leaves the inputs. -/
theorem ins_setOscale (S : St Ideal) X : ins (S.setOscale X) = ins S := rfl
/-- A store to the codes put out leaves the inputs. -/
theorem ins_setOut (S : St Ideal) X : ins (S.setOut X) = ins S := rfl
/-- A store to the outputs leaves the inputs. -/
theorem ins_setY (S : St Ideal) X : ins (S.setY X) = ins S := rfl
/-- A store to the gates leaves the inputs. -/
theorem ins_setGate (S : St Ideal) X : ins (S.setGate X) = ins S := rfl
/-- A store to the rows of B and C leaves the inputs. -/
theorem ins_setBc (S : St Ideal) X : ins (S.setBc X) = ins S := rfl

/-- Reading the state of a head. -/
theorem rd_w (S : St Ideal) {s : ℕ} (hs : s < 2) (h : ℕ) (hh : h < 32) (p : Fin 64) (n : Fin 128) :
    box (Rect.unit (s := S2x32x64x128) ![s, h, 0, 0] S1x1x64x128.size (inb_w hs hh)) S.w (ix4 (0 : Fin 1) (0 : Fin 1) p n) = (half ⟨s, hs⟩ S).w ⟨h, hh⟩ p n := by
  refine box_at _ _ _ ?_
  intro a; fin_cases a <;> simp

/-- Reading the tile maximum of a head. -/
theorem rd_mx (S : St Ideal) {s : ℕ} (hs : s < 2) (h : ℕ) (hh : h < 32) (p : Fin 8) (n : Fin 128) :
    box (Rect.unit (s := S2x32x8x128) ![s, h, 0, 0] S1x1x8x128.size (inb_mx hs hh)) S.mx (ix4 (0 : Fin 1) (0 : Fin 1) p n) = (half ⟨s, hs⟩ S).mx ⟨h, hh⟩ p n := by
  refine box_at _ _ _ ?_
  intro a; fin_cases a <;> simp

/-- Reading the inverse scale. -/
theorem rd_inv (S : St Ideal) {s : ℕ} (hs : s < 2)  (p : Fin 8) (n : Fin 128) :
    box (Rect.unit (s := S2x8x128) ![s, 0, 0] S1x8x128.size (inb_tile hs)) S.inv (ix3 (0 : Fin 1) p n) = (half ⟨s, hs⟩ S).inv p n := by
  refine box_at _ _ _ ?_
  intro a; fin_cases a <;> simp

/-- Reading the decay. -/
theorem rd_dec (S : St Ideal) {s : ℕ} (hs : s < 2)  (p : Fin 8) (n : Fin 128) :
    box (Rect.unit (s := S2x8x128) ![s, 0, 0] S1x8x128.size (inb_tile hs)) S.dec (ix3 (0 : Fin 1) p n) = (half ⟨s, hs⟩ S).dec p n := by
  refine box_at _ _ _ ?_
  intro a; fin_cases a <;> simp

/-- Reading the gated input. -/
theorem rd_u (S : St Ideal) {s : ℕ} (hs : s < 2)  (p : Fin 64) (n : Fin 128) :
    box (Rect.unit (s := S2x64x128) ![s, 0, 0] S1x64x128.size (inb_u hs)) S.u (ix3 (0 : Fin 1) p n) = (half ⟨s, hs⟩ S).u p n := by
  refine box_at _ _ _ ?_
  intro a; fin_cases a <;> simp

/-- Reading the scale column of sixteen heads. -/
theorem rd_scolg (S : St Ideal) {s : ℕ} (hs : s < 2) (r : ℕ) (hr : r + 16 ≤ 32) (p : Fin 16) (n : Fin 128) :
    box (Rect.unit (s := S2x32x128) ![s, r, 0] S1x16x128.size (inb_scolg hs hr)) S.scol (ix3 (0 : Fin 1) p n) = (half ⟨s, hs⟩ S).scol ⟨r + p.val, by omega⟩ n := by
  refine box_at _ _ _ ?_
  intro a; fin_cases a <;> simp

/-- Reading the gates of a token. -/
theorem rd_dl (S : St Ideal) {s : ℕ} (hs : s < 2) (t : ℕ) (ht : t < 7) (n : Fin 128) :
    box (Rect.unit (s := S2x2x8x128) ![s, 0, t, 0] S1x1x1x128.size (inb_row hs (by decide) ht)) S.gate (ix4 (0 : Fin 1) (0 : Fin 1) (0 : Fin 1) n) = (half ⟨s, hs⟩ S).dl ⟨t, ht⟩ n := by
  refine box_at _ _ _ ?_
  intro a; fin_cases a <;> simp

/-- Reading the decays of a token. -/
theorem rd_dk (S : St Ideal) {s : ℕ} (hs : s < 2) (t : ℕ) (ht : t < 7) (n : Fin 128) :
    box (Rect.unit (s := S2x2x8x128) ![s, 1, t, 0] S1x1x1x128.size (inb_row hs (by decide) ht)) S.gate (ix4 (0 : Fin 1) (0 : Fin 1) (0 : Fin 1) n) = (half ⟨s, hs⟩ S).dk ⟨t, ht⟩ n := by
  refine box_at _ _ _ ?_
  intro a; fin_cases a <;> simp

/-- Reading the row of B. -/
theorem rd_bB (S : St Ideal) {s : ℕ} (hs : s < 2) (t : ℕ) (ht : t < 7) (n : Fin 128) :
    box (Rect.unit (s := S2x2x8x128) ![s, 0, t, 0] S1x1x1x128.size (inb_row hs (by decide) ht)) S.bc (ix4 (0 : Fin 1) (0 : Fin 1) (0 : Fin 1) n) = (half ⟨s, hs⟩ S).bB ⟨t, ht⟩ n := by
  refine box_at _ _ _ ?_
  intro a; fin_cases a <;> simp

/-- Reading the row of C. -/
theorem rd_bC (S : St Ideal) {s : ℕ} (hs : s < 2) (t : ℕ) (ht : t < 7) (n : Fin 128) :
    box (Rect.unit (s := S2x2x8x128) ![s, 1, t, 0] S1x1x1x128.size (inb_row hs (by decide) ht)) S.bc (ix4 (0 : Fin 1) (0 : Fin 1) (0 : Fin 1) n) = (half ⟨s, hs⟩ S).bC ⟨t, ht⟩ n := by
  refine box_at _ _ _ ?_
  intro a; fin_cases a <;> simp

/-- Reading the row of x. -/
theorem rd_x (S : St Ideal) {s : ℕ} (hs : s < 2) (t : ℕ) (ht : t < 7) (h : Fin 32) (p : Fin 64) :
    box (Rect.unit (s := S2x7x32x64) ![s, t, 0, 0] S1x1x32x64.size (inb_x hs ht)) S.x (ix4 (0 : Fin 1) (0 : Fin 1) h p) = (ins S).x (ix4 ⟨s, hs⟩ ⟨t, ht⟩ h p) := by
  refine box_at _ _ _ ?_
  intro a; fin_cases a <;> simp

/-- Reading the rows of x of sixteen heads. -/
theorem rd_xg (S : St Ideal) {s : ℕ} (hs : s < 2) (t : ℕ) (ht : t < 7) (r : ℕ) (hr : r + 16 ≤ 32) (h : Fin 16) (p : Fin 64) :
    box (Rect.unit (s := S2x7x32x64) ![s, t, r, 0] S1x1x16x64.size (inb_xg hs ht hr)) S.x (ix4 (0 : Fin 1) (0 : Fin 1) h p) = (ins S).x (ix4 ⟨s, hs⟩ ⟨t, ht⟩ ⟨r + h.val, by omega⟩ p) := by
  refine box_at _ _ _ ?_
  intro a; fin_cases a <;> simp

/-- Reading the codes of a head. -/
theorem rd_codes (S : St Ideal) {s : ℕ} (hs : s < 2) (h : ℕ) (hh : h < 32) (p : Fin 64) (n : Fin 128) :
    box (Rect.unit (s := S2x32x64x128) ![s, h, 0, 0] S1x1x64x128.size (inb_w hs hh)) S.codes (ix4 (0 : Fin 1) (0 : Fin 1) p n) = (ins S).codes (ix4 ⟨s, hs⟩ ⟨h, hh⟩ p n) := by
  refine box_at _ _ _ ?_
  intro a; fin_cases a <;> simp

/-- Reading the rows of dt. -/
theorem rd_dt (S : St Ideal) {s : ℕ} (hs : s < 2)  (t : Fin 7) (h : Fin 32) :
    box (Rect.unit (s := S2x7x32) ![s, 0, 0] S1x7x32.size (inb_dt hs)) S.dt (ix3 (0 : Fin 1) t h) = (ins S).dt (ix3 ⟨s, hs⟩ t h) := by
  refine box_at _ _ _ ?_
  intro a; fin_cases a <;> simp

/-- Reading the rows of B. -/
theorem rd_B (S : St Ideal) {s : ℕ} (hs : s < 2)  (t : Fin 7) (h : Fin 128) :
    box (Rect.unit (s := S2x7x128) ![s, 0, 0] S1x7x128.size (inb_bc hs)) S.B (ix3 (0 : Fin 1) t h) = (ins S).B (ix3 ⟨s, hs⟩ t h) := by
  refine box_at _ _ _ ?_
  intro a; fin_cases a <;> simp

/-- Reading the rows of C. -/
theorem rd_C (S : St Ideal) {s : ℕ} (hs : s < 2)  (t : Fin 7) (h : Fin 128) :
    box (Rect.unit (s := S2x7x128) ![s, 0, 0] S1x7x128.size (inb_bc hs)) S.C (ix3 (0 : Fin 1) t h) = (ins S).C (ix3 ⟨s, hs⟩ t h) := by
  refine box_at _ _ _ ?_
  intro a; fin_cases a <;> simp

/-- Reading the bias. -/
theorem rd_bias (S : St Ideal) (h : Fin 32) :
    box (Rect.unit (s := S1x32) ![0, 0] S1x32.size inb_S1x32_S1x32_0_0) S.bias (ix2 (0 : Fin 1) h) = (ins S).bias (ix2 (0 : Fin 1) h) := by
  refine box_at _ _ _ ?_
  intro a; fin_cases a <;> simp

/-- Reading the log rates. -/
theorem rd_alog (S : St Ideal) (h : Fin 32) :
    box (Rect.unit (s := S1x32) ![0, 0] S1x32.size inb_S1x32_S1x32_0_0) S.alog (ix2 (0 : Fin 1) h) = (ins S).alog (ix2 (0 : Fin 1) h) := by
  refine box_at _ _ _ ?_
  intro a; fin_cases a <;> simp

/-- Reading the skips. -/
theorem rd_dskip (S : St Ideal) (h : Fin 32) :
    box (Rect.unit (s := S1x32) ![0, 0] S1x32.size inb_S1x32_S1x32_0_0) S.dskip (ix2 (0 : Fin 1) h) = (ins S).dskip (ix2 (0 : Fin 1) h) := by
  refine box_at _ _ _ ?_
  intro a; fin_cases a <;> simp

/-- Reading the scales the request came with. -/
theorem rd_sscale (S : St Ideal) {r : ℕ} (hr : r < 320) (h : Fin 32) :
    box (Rect.unit (s := S320x32) ![r, 0] S1x32.size (inb_ss hr)) S.sscale (ix2 (0 : Fin 1) h) = (ins S).sscale (ix2 ⟨r, hr⟩ h) := by
  refine box_at _ _ _ ?_
  intro a; fin_cases a <;> simp

/-- Reading the skip column of sixteen heads. -/
theorem rd_dcolg (S : St Ideal) (r : ℕ) (hr : r + 16 ≤ 32) (p : Fin 16) (n : Fin 128) :
    box (Rect.unit (s := S32x128) ![r, 0] S16x128.size (inb_dcolg hr)) S.dcol (ix2 p n) = (ins S).dcol (ix2 ⟨r + p.val, by omega⟩ n) := by
  refine box_at _ _ _ ?_
  intro a; fin_cases a <;> simp

/-- Stream `s` went from `S` to `S'`, its part of the buffers now `H`; nothing else changed. -/
def Upd (s : Fin 2) (S S' : St Ideal) (H : Half) : Prop :=
  half s S' = H ∧ (∀ s', s' ≠ s → half s' S' = half s' S) ∧ ins S' = ins S

/-- Two steps of one stream are a step. -/
theorem Upd.trans {s : Fin 2} {S S' S'' : St Ideal} {H H' : Half} (h : Upd s S S' H) (h' : Upd s S' S'' H') : Upd s S S'' H' :=
  ⟨h'.1, fun s' hs => (h'.2.1 s' hs).trans (h.2.1 s' hs), h'.2.2.trans h.2.2⟩

end Cert.Proof.KernelIdeal
-- ==== Proof.Values.lean ====
/- The values the idealized kernel computes, element by element. -/
module

public import proofs.«01_k».proof.Proof.State

@[expose] public section

set_option maxRecDepth 16384

noncomputable section

namespace Cert.Proof.KernelIdeal

open Cert.KernelIdeal Cert.KernelIdeal.Gen
open Idealize.ShloMosaic Idealize.ShloMosaic.TcCoe

/-- The magnitude. -/
def mag (x : EReal) : EReal := max x (-x)
/-- −∞ as the kernel writes it. -/
def lowest : EReal := Ideal.ofBits .f32 0xFF800000#32
/-- One step of the search for the exponent field: the next bit is kept if the power it makes is at most `m`. -/
def bs (m : EReal) (k f : BitVec 32) : BitVec 32 :=
  Scalar.select (FloatOps.cmpf (F := Ideal) (φ := .f32) .oge m (Ideal.ofBits .f32 (IntOp.shli .vector (IntOp.addi f k) 23#32))) (IntOp.addi f k) f
/-- The exponent field. -/
def field (m : EReal) : BitVec 32 := bs m 1#32 (bs m 2#32 (bs m 4#32 (bs m 8#32 (bs m 16#32 (bs m 32#32 (bs m 64#32 (bs m 128#32 0#32)))))))
/-- The exponent of the scale from the field. -/
def expo (f : BitVec 32) : BitVec 32 :=
  Scalar.select (IntOp.ori (IntOp.cmpi .eq f 0#32) (IntOp.cmpi .eq f 255#32)) 0#32 (IntOp.subi f 126#32)
/-- The scale, and its inverse. -/
def scl (m : EReal) : EReal := Ideal.ofBits .f32 (IntOp.shli .vector (IntOp.addi (expo (field m)) 127#32) 23#32)
/-- And its inverse. -/
def inv₁ (m : EReal) : EReal := Ideal.ofBits .f32 (IntOp.shli .vector (IntOp.subi 127#32 (expo (field m))) 23#32)
/-- A state value's code: cut to ±448. -/
def cut (x : EReal) : EReal := min (Ideal.ofBits .f32 0x43E00000#32) (max (Ideal.ofBits .f32 0xC3E00000#32) x)
/-- Over 448. -/
def over (x : EReal) : EReal := x * Ideal.ofBits .f32 0x3B124925#32
/-- The largest magnitude of a state over the eight rows that share sublane `r`. -/
def tmax (W : Fin 64 → Fin 128 → EReal) (r : Fin 8) (n : Fin 128) : EReal :=
  Finset.fold max lowest (fun j : Fin 8 => mag (W ⟨j.val * 8 + r.val, by omega⟩ n)) Finset.univ

/-- A lane spread over a tile. -/
theorem lane8_at (v : FVec Ideal S8x128 .f32) (h : ℕ) (hh : h < 32) (r : Fin 8) (l : Fin 128) :
    lane8 v h hh (ix2 r l) = v (ix2 r ⟨h, by omega⟩) := by
  pointwise [lane8]

/-- A lane spread over a state. -/
theorem lane64_at (v : FVec Ideal S64x128 .f32) (h : ℕ) (hh : h < 32) (r : Fin 64) (l : Fin 128) :
    lane64 v h hh (ix2 r l) = v (ix2 r ⟨h, by omega⟩) := by
  pointwise [lane64]

/-- The next state at an element. -/
theorem nextW_at (c : FVec Ideal S64x128 .f32) (d : FVec Ideal S8x128 .f32) (u : FVec Ideal S64x128 .f32) (b : FVec Ideal S1x128 .f32) (p : Fin 64) (n : Fin 128) :
    nextW c d u b (ix2 p n) = c (ix2 p n) * d (ix2 ⟨p.val % 8, by omega⟩ n) + u (ix2 p n) * b (ix2 0 n) := by
  pointwise [nextW, scaleTile]

/-- The tile maxima at an element. -/
theorem tileMax_at (w : FVec Ideal S64x128 .f32) (r : Fin 8) (n : Fin 128) :
    tileMax w (ix2 r n) = tmax (fun p n => w (ix2 p n)) r n := by
  pointwise [tileMax]
  rfl

/-- The codes at an element. -/
theorem toCodes_at (w : FVec Ideal S64x128 .f32) (i : FVec Ideal S8x128 .f32) (p : Fin 64) (n : Fin 128) :
    toCodes w i (ix2 p n) = cut (w (ix2 p n) * i (ix2 ⟨p.val % 8, by omega⟩ n)) := by
  pointwise [toCodes, scaleTile]
  rfl

/-- Eight lanes of a row turned into a column. -/
theorem rowToColTile_at (w : FVec Ideal S8x128 .f32) (r : Fin 8) (n : Fin 128) (k : ℕ) (hk : k ≤ 24) :
    rowToColTile w (BitVec.ofNat 32 k) (ix2 r n) = w (ix2 r ⟨k + r.val, by omega⟩) := by
  pointwise [rowToColTile]
  rw [Finset.sum_eq_single (⟨k + r.val, by omega⟩ : Fin 128)]
  · have : IntOp.cmpi CmpIPredicate.eq (BitVec.ofNat 32 (k + r.val)) (IntOp.addi (BitVec.ofNat 32 r.val) (BitVec.ofNat 32 k)) = 1#1 := by
      unfold IntOp.cmpi IntOp.addi
      rw [← BitVec.ofNat_add, add_comm]; simp
    rw [this]; rfl
  · intro b _ hb
    have : IntOp.cmpi CmpIPredicate.eq (BitVec.ofNat 32 b.val) (IntOp.addi (BitVec.ofNat 32 r.val) (BitVec.ofNat 32 k)) = 0#1 := by
      unfold IntOp.cmpi IntOp.addi
      rw [← BitVec.ofNat_add]
      have h2 : ¬ (BitVec.ofNat 32 b.val = BitVec.ofNat 32 (r.val + k)) := by
        intro h
        have := congrArg BitVec.toNat h
        simp only [BitVec.toNat_ofNat] at this
        apply hb; apply Fin.ext; show b.val = k + r.val
        omega
      show BitVec.ofBool (_ == _) = _
      rw [beq_eq_false_iff_ne.2 h2]; rfl
    rw [this]; rfl
  · intro h; exact absurd (Finset.mem_univ _) h

/-- A row turned into a column. -/
theorem rowToCol_at (w : FVec Ideal S8x128 .f32) (h : Fin 32) (n : Fin 128) (f : Fin 128 → EReal) (hf : ∀ r l, w (ix2 r l) = f l) :
    rowToCol w (ix2 h n) = f ⟨h.val, by omega⟩ := by
  pointwise [rowToCol]
  split_ifs
  any_goals exact absurd rfl (by assumption)
  · rw [show (0#32) = BitVec.ofNat 32 0 from rfl, rowToColTile_at _ _ _ _ (by omega), hf]; congr 1; apply Fin.ext; simp
  · rw [show (8#32) = BitVec.ofNat 32 8 from rfl, rowToColTile_at _ _ _ _ (by omega), hf]; congr 1; apply Fin.ext; simp; omega
  · rw [show (16#32) = BitVec.ofNat 32 16 from rfl, rowToColTile_at _ _ _ _ (by omega), hf]; congr 1; apply Fin.ext; simp; omega
  · rw [show (24#32) = BitVec.ofNat 32 24 from rfl, rowToColTile_at _ _ _ _ (by omega), hf]; congr 1; apply Fin.ext; simp; omega

/-- A step of the search at an element. -/
theorem bitStep_at (m : FVec Ideal S8x128 .f32) (k : BitVec 32) (f : IVec S8x128 32) (i : S8x128.Idx) : bitStep m k f i = bs (m i) k (f i) := by
  unfold bitStep bs; rfl
/-- The exponent field at an element. -/
theorem expField_at (m : FVec Ideal S8x128 .f32) (i : S8x128.Idx) : expField m i = field (m i) := by
  unfold expField field
  rw [bitStep_at, bitStep_at, bitStep_at, bitStep_at, bitStep_at, bitStep_at, bitStep_at, bitStep_at]
  rfl
/-- The exponent at an element. -/
theorem expOf_at (m : FVec Ideal S8x128 .f32) (i : S8x128.Idx) : expOf m i = expo (field (m i)) := by
  rw [← expField_at]
  unfold expOf expo; generalize expField m = f; rfl
/-- The scale at an element. -/
theorem scaleOf_at (m : FVec Ideal S8x128 .f32) (i : S8x128.Idx) : scaleOf m i = scl (m i) := by
  unfold scl; rw [← expOf_at]
  unfold scaleOf; generalize expOf m = f; rfl
/-- Its inverse at an element. -/
theorem invOf_at (m : FVec Ideal S8x128 .f32) (i : S8x128.Idx) : invOf m i = inv₁ (m i) := by
  unfold inv₁; rw [← expOf_at]
  unfold invOf; generalize expOf m = f; rfl

/-- The largest magnitude over 448 at an element. -/
theorem overMax_at (a : FVec Ideal S8x128 .f32) (r : Fin 8) (n : Fin 128) :
    overMax a (ix2 r n) = over (Finset.fold max lowest (fun r => a (ix2 r n)) Finset.univ) := by
  pointwise [overMax]
  rfl

/-- The gated input at an element. -/
theorem uOf_at (x : Vec Ideal S1x1x32x64 .bf16) (g : Vec Ideal S1x1x1x128 .f32) (r : Fin 64) (h : Fin 32) :
    uOf x g (ix2 r ⟨h.val, by omega⟩) = x (ix4 0 0 h r) * g (ix4 0 0 0 ⟨h.val, by omega⟩) := by
  pointwise [uOf]

/-- The largest magnitude of a head put into its lane. -/
theorem putMax_at (h : ℕ) (hh : h < 32) (v : Vec Ideal S1x1x8x128 .f32) (a : FVec Ideal S8x128 .f32) (r : Fin 8) (n : Fin 128) :
    putMax h v a (ix2 r n) = if n.val = h then Finset.fold max lowest (fun x => v (ix4 0 0 r x)) Finset.univ else a (ix2 r n) := by
  pointwise [putMax]
  split_ifs with e
  · have : IntOp.cmpi CmpIPredicate.eq (BitVec.ofNat 32 n.val) (BitVec.ofNat 32 h) = 1#1 := by
      rw [e]; simp [IntOp.cmpi]
    rw [this]; rfl
  · have : IntOp.cmpi CmpIPredicate.eq (BitVec.ofNat 32 n.val) (BitVec.ofNat 32 h) = 0#1 := by
      have h2 : ¬ (BitVec.ofNat 32 n.val = BitVec.ofNat 32 h) := by
        intro h
        have := congrArg BitVec.toNat h
        simp only [BitVec.toNat_ofNat] at this
        omega
      show BitVec.ofBool (_ == _) = _
      rw [beq_eq_false_iff_ne.2 h2]; rfl
    rw [this]; rfl

/-- The gate: softplus. -/
def soft (z : EReal) : EReal := max z 0 + Ideal.log1p (Ideal.exp (0 - mag z))

/-- A gate at an element. -/
theorem deltaOf_at (dt : Vec Ideal S1x7x32 .f32) (bias : Vec Ideal S1x32 .f32) (t : Fin 7) (h : Fin 32) :
    deltaOf (dtOf dt bias) (ix2 t ⟨h.val, by omega⟩) = soft (dt (ix3 0 t h) + bias (ix2 0 h)) := by
  pointwise [deltaOf, dtOf]
  rfl

/-- A decay at an element. -/
theorem decayOf_at (d : FVec Ideal S7x128 .f32) (alog : Vec Ideal S1x32 .f32) (t : Fin 7) (h : Fin 32) :
    decayOf d alog (ix2 t ⟨h.val, by omega⟩) = Ideal.exp ((0 - d (ix2 t ⟨h.val, by omega⟩)) * Ideal.exp (alog (ix2 0 h))) := by
  pointwise [decayOf, padRow]

/-- The first decay times the scale at an element. -/
theorem dec0Of_at (d : FVec Ideal S7x128 .f32) (ss : Vec Ideal S1x32 .f32) (r : Fin 8) (h : Fin 32) :
    dec0Of d ss (ix2 r ⟨h.val, by omega⟩) = d (ix2 0 ⟨h.val, by omega⟩) * ss (ix2 0 h) := by
  pointwise [dec0Of, padRow]

/-- The column of skips at an element. -/
theorem dcolOf_at (d : Vec Ideal S1x32 .f32) (h : Fin 32) (n : Fin 128) :
    dcolOf d (ix2 h n) = d (ix2 0 h) := by
  unfold dcolOf
  rw [rowToCol_at _ h n (fun l => if hl : l.val < 32 then d (ix2 0 ⟨l.val, hl⟩) else 0)]
  · rw [dif_pos h.isLt]
  · intro r l
    pointwise [padRow]

/-- Equal lists concatenate to equal arrays. -/
theorem concatenate_congr {α : Type} {t : Shape} {a : Fin t.rank} {xs ys : List ((s : Shape) × (s.Idx → α))} (e : xs = ys)
    (h : Shape.Concatenates (xs.map (·.1)) t a) (h' : Shape.Concatenates (ys.map (·.1)) t a) (j : t.Idx) :
    concatenate t a xs h j = concatenate t a ys h' j := by
  subst e; rfl

/-- Equal positions hold equal elements. -/
theorem getElem_at {α : Type} {xs : List α} {k i : ℕ} (e : k = i) (h : k < xs.length) : xs[k] = xs[i]'(e ▸ h) := by subst e; rfl

/-- Tiles of 64 rows side by side, at an element. -/
theorem catAt64 {α : Type} (r : Fin 64) (q : Fin 2048) : ∀ (xs : List (S64x128.Idx → α)) hs (k : ℕ) hc (hk : k / 128 < xs.length),
    concatenateAt S64x2048 1 (ix2 r q) (xs.map fun x => (⟨S64x128, x⟩ : (s : Shape) × (s.Idx → α))) hs k hc
      = xs[k / 128] (ix2 r ⟨k % 128, Nat.mod_lt _ (by decide)⟩)
  | [], _, _, _, hk => absurd hk (by simp)
  | [x], hs, k, hc, hk => by
    have hk' : k < 128 := by simp at hk; omega
    have e : k / 128 = 0 := by omega
    refine Eq.trans ?_ (congrFun (getElem_at e hk).symm _)
    refine (concatenateAt_singleton (t := S64x2048) 1 _ x hs k hc).trans (congrArg x ?_)
    exact (Shape.Idx.norm2 _).trans (congrArg₂ ix2 (Fin.ext rfl) (Fin.ext (by show k = k % 128; omega)))
  | x :: y :: l, hs, k, hc, hk => by
    refine (concatenateAt_cons (t := S64x2048) 1 _ x ⟨S64x128, y⟩ (l.map fun x => ⟨S64x128, x⟩) hs k hc).trans ?_
    split_ifs with hlt
    · have hk' : k < 128 := hlt
      have e : k / 128 = 0 := by omega
      refine Eq.trans (congrArg x ?_) (congrFun (getElem_at e hk).symm _)
      exact (Shape.Idx.norm2 _).trans (congrArg₂ ix2 (Fin.ext rfl) (Fin.ext (by show k = k % 128; omega)))
    · have hk' : ¬ k < 128 := hlt
      have e : k / 128 = (k - 128) / 128 + 1 := by omega
      have h2 : (k - 128) / 128 < (y :: l).length := by simp at hk ⊢; omega
      refine (catAt64 r q (y :: l) _ (k - 128) _ h2).trans ?_
      refine Eq.trans ?_ (congrFun (getElem_at e hk).symm _)
      exact congrArg ((y :: l)[(k - 128) / 128]'h2) (congrArg (ix2 r) (Fin.ext (by show (k - 128) % 128 = k % 128; omega)))

/-- The codes of sixteen heads side by side, at an element. -/
theorem catCodes_at (g : Fin 16 → FVec Ideal S64x128 .fp8e4m3) (p : Fin 64) (k : Fin 16) (n : Fin 128) :
    catCodes g (ix2 p ⟨k.val * 128 + n.val, by omega⟩) = g k (ix2 p n) := by
  unfold catCodes
  have e : (List.ofFn fun k : Fin 16 => (⟨S64x128, g k⟩ : (s : Shape) × FVec Ideal s .fp8e4m3)) = (List.ofFn g).map fun x => ⟨S64x128, x⟩ := by
    rw [List.map_ofFn]; rfl
  rw [concatenate_congr e _ (e ▸ concatenates_S64x128_S64x128_S64x128_S64x128_S64x128_S64x128_S64x128_S64x128_S64x128_S64x128_S64x128_S64x128_S64x128_S64x128_S64x128_S64x128_S64x2048_d1)]
  rw [concatenate_apply]
  have h : (k.val * 128 + n.val) / 128 < (List.ofFn g).length := by simp; omega
  refine (catAt64 _ _ (List.ofFn g) _ (k.val * 128 + n.val) _ h).trans ?_
  rw [List.getElem_ofFn]
  have e1 : (k.val * 128 + n.val) / 128 = k.val := by omega
  have e2 : (k.val * 128 + n.val) % 128 = n.val := by omega
  simp only [e1, e2]

/-- Tiles of 16 rows side by side, at an element. -/
theorem catAt16 {α : Type} (r : Fin 16) (q : Fin 2048) : ∀ (xs : List (S16x128.Idx → α)) hs (k : ℕ) hc (hk : k / 128 < xs.length),
    concatenateAt S16x2048 1 (ix2 r q) (xs.map fun x => (⟨S16x128, x⟩ : (s : Shape) × (s.Idx → α))) hs k hc
      = xs[k / 128] (ix2 r ⟨k % 128, Nat.mod_lt _ (by decide)⟩)
  | [], _, _, _, hk => absurd hk (by simp)
  | [x], hs, k, hc, hk => by
    have hk' : k < 128 := by simp at hk; omega
    have e : k / 128 = 0 := by omega
    refine Eq.trans ?_ (congrFun (getElem_at e hk).symm _)
    refine (concatenateAt_singleton (t := S16x2048) 1 _ x hs k hc).trans (congrArg x ?_)
    exact (Shape.Idx.norm2 _).trans (congrArg₂ ix2 (Fin.ext rfl) (Fin.ext (by show k = k % 128; omega)))
  | x :: y :: l, hs, k, hc, hk => by
    refine (concatenateAt_cons (t := S16x2048) 1 _ x ⟨S16x128, y⟩ (l.map fun x => ⟨S16x128, x⟩) hs k hc).trans ?_
    split_ifs with hlt
    · have hk' : k < 128 := hlt
      have e : k / 128 = 0 := by omega
      refine Eq.trans (congrArg x ?_) (congrFun (getElem_at e hk).symm _)
      exact (Shape.Idx.norm2 _).trans (congrArg₂ ix2 (Fin.ext rfl) (Fin.ext (by show k = k % 128; omega)))
    · have hk' : ¬ k < 128 := hlt
      have e : k / 128 = (k - 128) / 128 + 1 := by omega
      have h2 : (k - 128) / 128 < (y :: l).length := by simp at hk ⊢; omega
      refine (catAt16 r q (y :: l) _ (k - 128) _ h2).trans ?_
      refine Eq.trans ?_ (congrFun (getElem_at e hk).symm _)
      exact congrArg ((y :: l)[(k - 128) / 128]'h2) (congrArg (ix2 r) (Fin.ext (by show (k - 128) % 128 = k % 128; omega)))

/-- A block of the left operand: a row of C in one row, zero elsewhere. -/
theorem lhsBlock_at (c : FVec Ideal S1x128 .f32) (k r : Fin 16) (n : Fin 128) :
    lhsBlock c (BitVec.ofNat 32 k) (ix2 r n) = if r = k then c (ix2 0 n) else 0 := by
  pointwise [lhsBlock]
  split_ifs with e
  · have : IntOp.cmpi CmpIPredicate.eq (BitVec.ofNat 32 r.val) (BitVec.ofNat 32 k.val) = 1#1 := by
      rw [e]; simp [IntOp.cmpi]
    rw [this]; rfl
  · have : IntOp.cmpi CmpIPredicate.eq (BitVec.ofNat 32 r.val) (BitVec.ofNat 32 k.val) = 0#1 := by
      have h2 : ¬ (BitVec.ofNat 32 r.val = BitVec.ofNat 32 k.val) := by
        intro h
        have := congrArg BitVec.toNat h
        simp only [BitVec.toNat_ofNat] at this
        apply e; apply Fin.ext; omega
      show BitVec.ofBool (_ == _) = _
      rw [beq_eq_false_iff_ne.2 h2]; rfl
    rw [this]; rfl

/-- The left operand: a row of C for each head, block-diagonal. -/
theorem lhsOf_at (c : FVec Ideal S1x128 .f32) (r k : Fin 16) (n : Fin 128) :
    lhsOf c (ix2 r ⟨k.val * 128 + n.val, by omega⟩) = if r = k then c (ix2 0 n) else 0 := by
  rw [← lhsBlock_at]
  unfold lhsOf
  have e : (List.ofFn fun k : Fin 16 => (⟨S16x128, lhsBlock c (BitVec.ofNat 32 k)⟩ : (s : Shape) × FVec Ideal s .bf16)) = (List.ofFn fun k : Fin 16 => lhsBlock c (BitVec.ofNat 32 k)).map fun x => ⟨S16x128, x⟩ := by
    rw [List.map_ofFn]; rfl
  rw [concatenate_congr e _ (e ▸ concatenates_S16x128_S16x128_S16x128_S16x128_S16x128_S16x128_S16x128_S16x128_S16x128_S16x128_S16x128_S16x128_S16x128_S16x128_S16x128_S16x128_S16x2048_d1)]
  rw [concatenate_apply]
  have h : (k.val * 128 + n.val) / 128 < (List.ofFn fun k : Fin 16 => lhsBlock c (BitVec.ofNat 32 k)).length := by simp; omega
  refine (catAt16 _ _ (List.ofFn fun k : Fin 16 => lhsBlock c (BitVec.ofNat 32 k)) _ (k.val * 128 + n.val) _ h).trans ?_
  rw [List.getElem_ofFn]
  have e1 : (k.val * 128 + n.val) / 128 = k.val := by omega
  have e2 : (k.val * 128 + n.val) % 128 = n.val := by omega
  simp only [e1, e2]

/-- The outputs of sixteen heads at an element: the product with the block-diagonal operand is one sum per head. -/
theorem yOf_at (c : FVec Ideal S1x128 .f32) (g : Fin 16 → FVec Ideal S64x128 .fp8e4m3) (x : Vec Ideal S1x1x16x64 .bf16)
    (sc : Vec Ideal S1x16x128 .f32) (d : Vec Ideal S16x128 .f32) (r : Fin 16) (p : Fin 64) :
    yOf (lhsOf c) g x sc d (ix2 r p)
      = (∑ n : Fin 128, c (ix2 0 n) * g r (ix2 p n)) * sc (ix3 0 r ⟨p.val, by omega⟩) + d (ix2 r ⟨p.val, by omega⟩) * x (ix4 0 0 r p) := by
  have hs : (∑ k : Fin 2048, lhsOf c (ix2 r k) * catCodes g (ix2 p k)) = ∑ n : Fin 128, c (ix2 0 n) * g r (ix2 p n) := by
    rw [← (finProdFinEquiv (m := 16) (n := 128)).sum_comp (fun k => lhsOf c (ix2 r k) * catCodes g (ix2 p k)), Fintype.sum_prod_type]
    rw [Finset.sum_eq_single r]
    · refine Finset.sum_congr rfl fun n _ => ?_
      have e : finProdFinEquiv (r, n) = (⟨r.val * 128 + n.val, by omega⟩ : Fin 2048) := by
        apply Fin.ext; show n.val + 128 * r.val = r.val * 128 + n.val; omega
      rw [e, lhsOf_at, catCodes_at, if_pos rfl]
    · intro k _ hk
      refine Finset.sum_eq_zero fun n _ => ?_
      have e : finProdFinEquiv (k, n) = (⟨k.val * 128 + n.val, by omega⟩ : Fin 2048) := by
        apply Fin.ext; show n.val + 128 * k.val = k.val * 128 + n.val; omega
      rw [e, lhsOf_at, if_neg (Ne.symm hk)]
      exact zero_mul _
    · intro h; exact absurd (Finset.mem_univ _) h
  rw [← hs]
  generalize lhsOf c = lhs
  pointwise [yOf]

end Cert.Proof.KernelIdeal
-- ==== Proof.Sections.lean ====
/- The sections of the idealized kernel, each with the change it makes to one stream. -/
module

public import proofs.«01_k».proof.Proof.Values

@[expose] public section

set_option maxRecDepth 16384

noncomputable section

namespace Cert.Proof.KernelIdeal

open Cert.KernelIdeal Cert.KernelIdeal.Gen
open Idealize Idealize.SL Idealize.SL.Sem
open Idealize.ShloMosaic Idealize.ShloMosaic.TcCoe

attribute [local irreducible] Rect.overlay box

/-! ### What a store leaves of a stream's part -/

/-- A store that changes only stream `s`'s part. -/
theorem Upd.of {s : ℕ} (hs : s < 2) {S S' : St Ideal} {H : Fin 2 → Half} {H' : Half}
    (h : ∀ s' : Fin 2, half s' S' = if s'.val = s then H s' else half s' S) (hi : ins S' = ins S) (hH : H ⟨s, hs⟩ = H') : Upd ⟨s, hs⟩ S S' H' :=
  ⟨by rw [h, if_pos rfl, hH], fun s' hne => by rw [h, if_neg (fun e => hne (Fin.ext e))], hi⟩

/-- The same step, the part spelled otherwise. -/
theorem Upd.cast {s : Fin 2} {S S' : St Ideal} {H H' : Half} (h : Upd s S S' H) (e : H = H') : Upd s S S' H' := e ▸ h

/-- A store, by what it makes of the state. -/
theorem Go.put {α : Type} {c : Dev nD} {R : Refs} {S : St Ideal} {sh : Shape} {e : EltTy} {M : Memref sig .tc .vmem sh e} {get : St Ideal → Vec Ideal sh e}
    {set : St Ideal → Vec Ideal sh e → St Ideal} (foc : Focus c R M get set) {r : Rect sh} {w : r.shape.Idx → Elt Ideal e}
    {hx : (M.access r).Stores Finset.univ} {hm : Finset.univ = Finset.univ ∨ ∀ a, r.stride a = 1} {k : PUnit → Pr Ideal α} {Q : α → St Ideal → Prop}
    (h : Go c R (set S (r.overlay (get S) w)) (k ⟨⟩) Q) :
    Go c R S ((Prog.lift (.store M r w Finset.univ hx hm) : Pr Ideal _) >>= k) Q :=
  Go.bind (Go.store (Q := fun _ S' => S' = set S (r.overlay (get S) w)) foc rfl) fun v S' e => by cases e; exact h

/-- A store to the states as a step of a stream. -/
theorem upd_setW (S : St Ideal) {s : ℕ} (hs : s < 2) (h : ℕ) (hh : h < 32) (V : (Rect.unit (s := S2x32x64x128) ![s, h, 0, 0] S1x1x64x128.size (inb_w hs hh)).shape.Idx → Elt Ideal .f32) (G : Fin 64 → Fin 128 → EReal)
    (hG : ∀ p n, V (ix4 (0 : Fin 1) (0 : Fin 1) p n) = G p n) :
    Upd ⟨s, hs⟩ S (S.setW ((Rect.unit (s := S2x32x64x128) ![s, h, 0, 0] S1x1x64x128.size (inb_w hs hh)).overlay S.w V)) { half ⟨s, hs⟩ S with w := fun h' p n => if h'.val = h then G p n else (half ⟨s, hs⟩ S).w h' p n } := by
  refine Upd.of hs (half_setW S · hs h hh V) (ins_setW S _) ?_
  simp only [hG, dite_eq_ite]

/-- A store to the tile maxima as a step of a stream. -/
theorem upd_setMx (S : St Ideal) {s : ℕ} (hs : s < 2) (h : ℕ) (hh : h < 32) (V : (Rect.unit (s := S2x32x8x128) ![s, h, 0, 0] S1x1x8x128.size (inb_mx hs hh)).shape.Idx → Elt Ideal .f32) (G : Fin 8 → Fin 128 → EReal)
    (hG : ∀ p n, V (ix4 (0 : Fin 1) (0 : Fin 1) p n) = G p n) :
    Upd ⟨s, hs⟩ S (S.setMx ((Rect.unit (s := S2x32x8x128) ![s, h, 0, 0] S1x1x8x128.size (inb_mx hs hh)).overlay S.mx V)) { half ⟨s, hs⟩ S with mx := fun h' p n => if h'.val = h then G p n else (half ⟨s, hs⟩ S).mx h' p n } := by
  refine Upd.of hs (half_setMx S · hs h hh V) (ins_setMx S _) ?_
  simp only [hG, dite_eq_ite]

/-- A store to the inverse scales as a step of a stream. -/
theorem upd_setInv (S : St Ideal) {s : ℕ} (hs : s < 2)  (V : (Rect.unit (s := S2x8x128) ![s, 0, 0] S1x8x128.size (inb_tile hs)).shape.Idx → Elt Ideal .f32) (G : Fin 8 → Fin 128 → EReal)
    (hG : ∀ r l, V (ix3 (0 : Fin 1) r l) = G r l) :
    Upd ⟨s, hs⟩ S (S.setInv ((Rect.unit (s := S2x8x128) ![s, 0, 0] S1x8x128.size (inb_tile hs)).overlay S.inv V)) { half ⟨s, hs⟩ S with inv := G } := by
  refine Upd.of hs (half_setInv S · hs  V) (ins_setInv S _) ?_
  simp only [hG, dite_eq_ite]

/-- A store to the decays as a step of a stream. -/
theorem upd_setDec (S : St Ideal) {s : ℕ} (hs : s < 2)  (V : (Rect.unit (s := S2x8x128) ![s, 0, 0] S1x8x128.size (inb_tile hs)).shape.Idx → Elt Ideal .f32) (G : Fin 8 → Fin 128 → EReal)
    (hG : ∀ r l, V (ix3 (0 : Fin 1) r l) = G r l) :
    Upd ⟨s, hs⟩ S (S.setDec ((Rect.unit (s := S2x8x128) ![s, 0, 0] S1x8x128.size (inb_tile hs)).overlay S.dec V)) { half ⟨s, hs⟩ S with dec := G } := by
  refine Upd.of hs (half_setDec S · hs  V) (ins_setDec S _) ?_
  simp only [hG, dite_eq_ite]

/-- A store to the gated inputs as a step of a stream. -/
theorem upd_setU (S : St Ideal) {s : ℕ} (hs : s < 2)  (V : (Rect.unit (s := S2x64x128) ![s, 0, 0] S1x64x128.size (inb_u hs)).shape.Idx → Elt Ideal .f32) (G : Fin 64 → Fin 128 → EReal)
    (hG : ∀ r l, V (ix3 (0 : Fin 1) r l) = G r l) :
    Upd ⟨s, hs⟩ S (S.setU ((Rect.unit (s := S2x64x128) ![s, 0, 0] S1x64x128.size (inb_u hs)).overlay S.u V)) { half ⟨s, hs⟩ S with u := G } := by
  refine Upd.of hs (half_setU S · hs  V) (ins_setU S _) ?_
  simp only [hG, dite_eq_ite]

/-- A store to the scale column as a step of a stream. -/
theorem upd_setScol (S : St Ideal) {s : ℕ} (hs : s < 2)  (V : (Rect.unit (s := S2x32x128) ![s, 0, 0] S1x32x128.size (inb_scol hs)).shape.Idx → Elt Ideal .f32) (G : Fin 32 → Fin 128 → EReal)
    (hG : ∀ r l, V (ix3 (0 : Fin 1) r l) = G r l) :
    Upd ⟨s, hs⟩ S (S.setScol ((Rect.unit (s := S2x32x128) ![s, 0, 0] S1x32x128.size (inb_scol hs)).overlay S.scol V)) { half ⟨s, hs⟩ S with scol := G } := by
  refine Upd.of hs (half_setScol S · hs  V) (ins_setScol S _) ?_
  simp only [hG, dite_eq_ite]

/-- A store to the scales put out as a step of a stream. -/
theorem upd_setOscale (S : St Ideal) {s : ℕ} (hs : s < 2) (t : ℕ) (ht : t < 7) (V : (Rect.unit (s := S2x7x32) ![s, t, 0] S1x1x32.size (inb_oscale hs ht)).shape.Idx → Elt Ideal .f32) (G : Fin 32 → EReal)
    (hG : ∀ h, V (ix3 (0 : Fin 1) (0 : Fin 1) h) = G h) :
    Upd ⟨s, hs⟩ S (S.setOscale ((Rect.unit (s := S2x7x32) ![s, t, 0] S1x1x32.size (inb_oscale hs ht)).overlay S.oscale V)) { half ⟨s, hs⟩ S with osc := fun t' h' => if t'.val = t then G h' else (half ⟨s, hs⟩ S).osc t' h' } := by
  refine Upd.of hs (half_setOscale S · hs t ht V) (ins_setOscale S _) ?_
  simp only [hG, dite_eq_ite]

/-- A store to the codes put out as a step of a stream. -/
theorem upd_setOut (S : St Ideal) {s : ℕ} (hs : s < 2) (t : ℕ) (ht : t < 7) (h : ℕ) (hh : h < 32) (V : (Rect.unit (s := S2x7x32x64x128) ![s, t, h, 0, 0] S1x1x1x64x128.size (inb_out hs ht hh)).shape.Idx → Elt Ideal .fp8e4m3) (G : Fin 64 → Fin 128 → EReal)
    (hG : ∀ p n, V (ix5 (0 : Fin 1) (0 : Fin 1) (0 : Fin 1) p n) = G p n) :
    Upd ⟨s, hs⟩ S (S.setOut ((Rect.unit (s := S2x7x32x64x128) ![s, t, h, 0, 0] S1x1x1x64x128.size (inb_out hs ht hh)).overlay S.out V)) { half ⟨s, hs⟩ S with out := fun t' h' p n => if t'.val = t ∧ h'.val = h then G p n else (half ⟨s, hs⟩ S).out t' h' p n } := by
  refine Upd.of hs (half_setOut S · hs t ht h hh V) (ins_setOut S _) ?_
  simp only [hG, dite_eq_ite]

/-- A store to the outputs as a step of a stream. -/
theorem upd_setY (S : St Ideal) {s : ℕ} (hs : s < 2) (t : ℕ) (ht : t < 7) (r : ℕ) (hr : r + 16 ≤ 32) (V : (Rect.unit (s := S2x7x32x64) ![s, t, r, 0] S1x1x16x64.size (inb_xg hs ht hr)).shape.Idx → Elt Ideal .bf16) (G : Fin 16 → Fin 64 → EReal)
    (hG : ∀ k p, V (ix4 (0 : Fin 1) (0 : Fin 1) k p) = G k p) :
    Upd ⟨s, hs⟩ S (S.setY ((Rect.unit (s := S2x7x32x64) ![s, t, r, 0] S1x1x16x64.size (inb_xg hs ht hr)).overlay S.y V)) { half ⟨s, hs⟩ S with y := fun t' h' p => if hc : t'.val = t ∧ r ≤ h'.val ∧ h'.val < r + 16 then G ⟨h'.val - r, by omega⟩ p else (half ⟨s, hs⟩ S).y t' h' p } := by
  refine Upd.of hs (half_setY S · hs t ht r hr V) (ins_setY S _) ?_
  simp only [hG, dite_eq_ite]

/-- A store to the gates as a step of a stream. -/
theorem upd_setGate_dl (S : St Ideal) {s : ℕ} (hs : s < 2)  (V : (Rect.unit (s := S2x2x8x128) ![s, 0, 0, 0] S1x1x7x128.size (inb_rows hs (by decide))).shape.Idx → Elt Ideal .f32) (G : Fin 7 → Fin 128 → EReal)
    (hG : ∀ t l, V (ix4 (0 : Fin 1) (0 : Fin 1) t l) = G t l) :
    Upd ⟨s, hs⟩ S (S.setGate ((Rect.unit (s := S2x2x8x128) ![s, 0, 0, 0] S1x1x7x128.size (inb_rows hs (by decide))).overlay S.gate V)) { half ⟨s, hs⟩ S with dl := G } := by
  refine Upd.of hs (half_setGate_dl S · hs  V) (ins_setGate S _) ?_
  simp only [hG, dite_eq_ite]

/-- A store to the decays of all tokens as a step of a stream. -/
theorem upd_setGate_dk (S : St Ideal) {s : ℕ} (hs : s < 2)  (V : (Rect.unit (s := S2x2x8x128) ![s, 1, 0, 0] S1x1x7x128.size (inb_rows hs (by decide))).shape.Idx → Elt Ideal .f32) (G : Fin 7 → Fin 128 → EReal)
    (hG : ∀ t l, V (ix4 (0 : Fin 1) (0 : Fin 1) t l) = G t l) :
    Upd ⟨s, hs⟩ S (S.setGate ((Rect.unit (s := S2x2x8x128) ![s, 1, 0, 0] S1x1x7x128.size (inb_rows hs (by decide))).overlay S.gate V)) { half ⟨s, hs⟩ S with dk := G } := by
  refine Upd.of hs (half_setGate_dk S · hs  V) (ins_setGate S _) ?_
  simp only [hG, dite_eq_ite]

/-- A store to the rows of B as a step of a stream. -/
theorem upd_setBc_bB (S : St Ideal) {s : ℕ} (hs : s < 2)  (V : (Rect.unit (s := S2x2x8x128) ![s, 0, 0, 0] S1x1x7x128.size (inb_rows hs (by decide))).shape.Idx → Elt Ideal .f32) (G : Fin 7 → Fin 128 → EReal)
    (hG : ∀ t l, V (ix4 (0 : Fin 1) (0 : Fin 1) t l) = G t l) :
    Upd ⟨s, hs⟩ S (S.setBc ((Rect.unit (s := S2x2x8x128) ![s, 0, 0, 0] S1x1x7x128.size (inb_rows hs (by decide))).overlay S.bc V)) { half ⟨s, hs⟩ S with bB := G } := by
  refine Upd.of hs (half_setBc_bB S · hs  V) (ins_setBc S _) ?_
  simp only [hG, dite_eq_ite]

/-- A store to the rows of C as a step of a stream. -/
theorem upd_setBc_bC (S : St Ideal) {s : ℕ} (hs : s < 2)  (V : (Rect.unit (s := S2x2x8x128) ![s, 1, 0, 0] S1x1x7x128.size (inb_rows hs (by decide))).shape.Idx → Elt Ideal .f32) (G : Fin 7 → Fin 128 → EReal)
    (hG : ∀ t l, V (ix4 (0 : Fin 1) (0 : Fin 1) t l) = G t l) :
    Upd ⟨s, hs⟩ S (S.setBc ((Rect.unit (s := S2x2x8x128) ![s, 1, 0, 0] S1x1x7x128.size (inb_rows hs (by decide))).overlay S.bc V)) { half ⟨s, hs⟩ S with bC := G } := by
  refine Upd.of hs (half_setBc_bC S · hs  V) (ins_setBc S _) ?_
  simp only [hG, dite_eq_ite]

/-! ### The sections -/

/-- A head's state and its tiles' largest magnitudes replaced. -/
def advH (h : ℕ) (W : Fin 64 → Fin 128 → EReal) (H : Half) : Half :=
  { H with w := fun h' p n => if h'.val = h then W p n else H.w h' p n, mx := fun h' r n => if h'.val = h then tmax W r n else H.mx h' r n }

/-- A head's next state from its codes, the decay times the scale, the gated input and the row of B. -/
def nextS (H : Half) (h : Fin 128) (k : Fin 64 → Fin 128 → EReal) (b : Fin 128 → EReal) (p : Fin 64) (n : Fin 128) : EReal :=
  k p n * H.dec ⟨p.val % 8, by omega⟩ h + H.u p h * b n

/-- The next state's arithmetic at an element. -/
theorem nextS_at (H : Half) (k : FVec Ideal S64x128 .f32) (d : Vec Ideal S1x8x128 .f32) (u : Vec Ideal S1x64x128 .f32) (b : FVec Ideal S1x128 .f32)
    (hd : ∀ r l, d (ix3 (0 : Fin 1) r l) = H.dec r l) (hu : ∀ p l, u (ix3 (0 : Fin 1) p l) = H.u p l) {h : ℕ} (hh : h < 32) (p : Fin 64) (n : Fin 128) :
    nextW k (lane8 (shapeCast S8x128 d shapeCasts_S1x8x128_S8x128) h hh) (lane64 (shapeCast S64x128 u shapeCasts_S1x64x128_S64x128) h hh) b (ix2 p n)
      = nextS H ⟨h, by omega⟩ (fun p n => k (ix2 p n)) (fun n => b (ix2 0 n)) p n := by
  rw [nextW_at, lane8_at, lane64_at]
  pointwise []
  rw [hd, hu]
  rfl

/-- Storing a head's next state and its tile maxima changes just these. -/
theorem upd_advance (S : St Ideal) {s h : ℕ} (hs : s < 2) (hh : h < 32) (N : FVec Ideal S64x128 .f32) (W : Fin 64 → Fin 128 → EReal) (hn : ∀ p n, N (ix2 p n) = W p n) :
    Upd ⟨s, hs⟩ S ((S.setW ((Rect.unit (s := S2x32x64x128) ![s, h, 0, 0] S1x1x64x128.size (inb_w hs hh)).overlay S.w (shapeCast S1x1x64x128 N shapeCasts_S64x128_S1x1x64x128))).setMx
      ((Rect.unit (s := S2x32x8x128) ![s, h, 0, 0] S1x1x8x128.size (inb_mx hs hh)).overlay
        (S.setW ((Rect.unit (s := S2x32x64x128) ![s, h, 0, 0] S1x1x64x128.size (inb_w hs hh)).overlay S.w (shapeCast S1x1x64x128 N shapeCasts_S64x128_S1x1x64x128))).mx
        (shapeCast S1x1x8x128 (tileMax N) shapeCasts_S8x128_S1x1x8x128))) (advH h W (half ⟨s, hs⟩ S)) := by
  have h1 := upd_setW S hs h hh (shapeCast S1x1x64x128 N shapeCasts_S64x128_S1x1x64x128) W (fun p n => by pointwise []; exact hn p n)
  refine h1.trans (Upd.cast (upd_setMx _ hs h hh _ (tmax W) (fun r n => ?_)) ?_)
  · pointwise []
    rw [tileMax_at]
    exact congrArg (fun W => tmax W r n) (funext fun p => funext fun n => hn p n)
  · rw [h1.1]; rfl

/-- Advancing a head stores its next state and its tile maxima. -/
theorem go_advance (c : Dev nD) (R : Refs) (S : St Ideal) {s h : ℕ} (hs : s < 2) (hh : h < 32) (k : FVec Ideal S64x128 .f32) (bRow : FVec Ideal S1x128 .f32) :
    Go c R S (advance R s hs h hh k bRow) fun _ S' =>
      Upd ⟨s, hs⟩ S S' (advH h (nextS (half ⟨s, hs⟩ S) ⟨h, by omega⟩ (fun p n => k (ix2 p n)) (fun n => bRow (ix2 0 n))) (half ⟨s, hs⟩ S)) := by
  unfold advance
  refine Go.load (focus_dec c R) (fun _ => rfl) ?_
  refine Go.load (focus_u c R) (fun _ => rfl) ?_
  refine Go.load (focus_w c R) (fun _ => rfl) ?_
  refine Go.put (focus_w c R) ?_
  refine Go.load (focus_mx c R) (fun _ => rfl) ?_
  refine Go.store (focus_mx c R) ?_
  exact upd_advance S hs hh _ _ (nextS_at (half ⟨s, hs⟩ S) k _ _ bRow (rd_dec S hs) (rd_u S hs) hh)

/-- The gated inputs of a token. -/
theorem go_inputs (c : Dev nD) (R : Refs) (S : St Ideal) {s t : ℕ} (hs hb : s < 2) (ht : t < 7) :
    Go c R S (inputs R s hs s hb t ht) fun _ S' => ∃ U : Fin 64 → Fin 128 → EReal,
      (∀ (p : Fin 64) (h : Fin 32), U p ⟨h.val, by omega⟩ = (ins S).x (ix4 ⟨s, hs⟩ ⟨t, ht⟩ h p) * (half ⟨s, hs⟩ S).dl ⟨t, ht⟩ ⟨h.val, by omega⟩)
      ∧ Upd ⟨s, hs⟩ S S' { half ⟨s, hs⟩ S with u := U } := by
  unfold inputs
  refine Go.load (focus_x c R) (fun _ => rfl) ?_
  refine Go.load (focus_gate c R) (fun _ => rfl) ?_
  refine Go.load (focus_u c R) (fun _ => rfl) ?_
  refine Go.store (focus_u c R) ?_
  refine ⟨fun p l => uOf (box (Rect.unit (s := S2x7x32x64) ![s, t, 0, 0] S1x1x32x64.size (inb_x hb ht)) S.x)
    (box (Rect.unit (s := S2x2x8x128) ![s, 0, t, 0] S1x1x1x128.size (inb_row hs (by decide) ht)) S.gate) (ix2 p l), fun p h => ?_, upd_setU S hs _ _ (fun p l => ?_)⟩
  · show uOf _ _ _ = _
    rw [uOf_at, rd_x S hs, rd_dl S hs]
  · pointwise []

/-- The scale, its inverse and the decay from the largest magnitudes. -/
theorem go_settle (c : Dev nD) (R : Refs) (S : St Ideal) {s t : ℕ} (hs hb : s < 2) (ht : t < 7) (a : FVec Ideal S8x128 .f32)
    (ov : Fin 128 → EReal) (hov : ∀ l, over (Finset.fold max lowest (fun r => a (ix2 r l)) Finset.univ) = ov l) :
    Go c R S (settle R s hs s hb t ht a) fun v S' =>
      (∀ r l, v (ix2 r l) = scl (ov l))
      ∧ Upd ⟨s, hs⟩ S S' { half ⟨s, hs⟩ S with
          osc := fun t' h' => if t'.val = t then scl (ov ⟨h'.val, by omega⟩) else (half ⟨s, hs⟩ S).osc t' h'
          inv := fun _ l => inv₁ (ov l)
          scol := fun h _ => scl (ov ⟨h.val, by omega⟩) } := by
  have hv : ∀ r l, scaleOf (overMax a) (ix2 r l) = scl (ov l) := fun r l => by rw [scaleOf_at, overMax_at, hov]
  unfold settle
  refine Go.load (focus_oscale c R) (fun _ => rfl) ?_
  refine Go.put (focus_oscale c R) ?_
  refine Go.load (focus_inv c R) (fun _ => rfl) ?_
  refine Go.put (focus_inv c R) ?_
  refine Go.load (focus_scol c R) (fun _ => rfl) ?_
  refine Go.put (focus_scol c R) ?_
  refine Go.ret ⟨hv, ?_⟩
  have h1 := upd_setOscale S hs t ht (shapeCast S1x1x32 (extractStridedSlice S1x32 ![0, 0] (scaleOf (overMax a)) slices_S8x128_o0_0_S1x32) shapeCasts_S1x32_S1x1x32)
    (fun h' => scl (ov ⟨h'.val, by omega⟩)) (fun h' => by pointwise []; exact hv 0 ⟨h'.val, _⟩)
  refine h1.trans ?_
  have h2 := upd_setInv (S.setOscale ((Rect.unit (s := S2x7x32) ![s, t, 0] S1x1x32.size (inb_oscale hb ht)).overlay S.oscale
      (shapeCast S1x1x32 (extractStridedSlice S1x32 ![0, 0] (scaleOf (overMax a)) slices_S8x128_o0_0_S1x32) shapeCasts_S1x32_S1x1x32))) hs
    (shapeCast S1x8x128 (invOf (overMax a)) shapeCasts_S8x128_S1x8x128) (fun _ l => inv₁ (ov l)) (fun r l => by pointwise []; rw [invOf_at, overMax_at, hov])
  refine h2.trans (Upd.cast (upd_setScol _ hs _ (fun h _ => scl (ov ⟨h.val, by omega⟩)) (fun h l => ?_)) ?_)
  · pointwise []
    rw [rowToCol_at _ _ _ (fun l => scl (ov l)) hv]
  · rw [h2.1, h1.1]

/-- The decay of the next token times the scale. -/
theorem go_nextDec (c : Dev nD) (R : Refs) (S : St Ideal) {s t : ℕ} (hs : s < 2) (ht : t < 7) (scale : FVec Ideal S8x128 .f32) :
    Go c R S (nextDec R s hs t ht scale) fun _ S' =>
      Upd ⟨s, hs⟩ S S' { half ⟨s, hs⟩ S with dec := fun r l => (half ⟨s, hs⟩ S).dk ⟨t, ht⟩ l * scale (ix2 r l) } := by
  unfold nextDec
  refine Go.load (focus_gate c R) (fun _ => rfl) ?_
  refine Go.load (focus_dec c R) (fun _ => rfl) ?_
  refine Go.store (focus_dec c R) ?_
  refine upd_setDec S hs _ _ (fun r l => ?_)
  pointwise []
  rw [rd_dk S hs]

/-- The codes of a head at an element. -/
theorem codes_at (H : Half) (w : Vec Ideal S1x1x64x128 .f32) (i : Vec Ideal S1x8x128 .f32) {h : ℕ} (hh : h < 32)
    (hw : ∀ p n, w (ix4 (0 : Fin 1) (0 : Fin 1) p n) = H.w ⟨h, hh⟩ p n) (hi : ∀ r l, i (ix3 (0 : Fin 1) r l) = H.inv r l) (p : Fin 64) (n : Fin 128) :
    toCodes (F := Ideal) (shapeCast S64x128 w shapeCasts_S1x1x64x128_S64x128) (lane8 (shapeCast S8x128 i shapeCasts_S1x8x128_S8x128) h hh) (ix2 p n)
      = cut (H.w ⟨h, hh⟩ p n * H.inv ⟨p.val % 8, by omega⟩ ⟨h, by omega⟩) := by
  rw [toCodes_at, lane8_at]
  pointwise []
  rw [hw, hi]

/-- A tile stored as a block of one head reads as the tile. -/
theorem cast_out (v : FVec Ideal S64x128 .fp8e4m3) (p : Fin 64) (n : Fin 128) :
    shapeCast S1x1x1x64x128 v shapeCasts_S64x128_S1x1x1x64x128 (ix5 (0 : Fin 1) (0 : Fin 1) (0 : Fin 1) p n) = v (ix2 p n) := by
  pointwise []

/-- Seven rows widened and stored as a block read as the rows. -/
theorem cast_rows (v : Vec Ideal S1x7x128 .bf16) (t : Fin 7) (n : Fin 128) :
    shapeCast S1x1x7x128 (extf (F := Ideal) .f32 (shapeCast S7x128 v shapeCasts_S1x7x128_S7x128) bitsLt_bf16_f32) shapeCasts_S7x128_S1x1x7x128 (ix4 (0 : Fin 1) (0 : Fin 1) t n)
      = v (ix3 (0 : Fin 1) t n) := by
  pointwise []

/-- The codes of a head read as a tile. -/
theorem cast_codes (v : Vec Ideal S1x1x64x128 .fp8e4m3) (p : Fin 64) (n : Fin 128) :
    extf (F := Ideal) .f32 (shapeCast S64x128 v shapeCasts_S1x1x64x128_S64x128) bitsLt_fp8e4m3_f32 (ix2 p n) = v (ix4 (0 : Fin 1) (0 : Fin 1) p n) := by
  pointwise []

/-- A head quantised: its codes are put out. -/
theorem go_quantHead (c : Dev nD) (R : Refs) (S : St Ideal) {s t h : ℕ} (hs hb : s < 2) (ht : t < 7) (hh : h < 32) :
    Go c R S (quantHead R s hs s hb t ht h hh) fun v S' =>
      (∀ p n, v (ix2 p n) = cut ((half ⟨s, hs⟩ S).w ⟨h, hh⟩ p n * (half ⟨s, hs⟩ S).inv ⟨p.val % 8, by omega⟩ ⟨h, by omega⟩))
      ∧ Upd ⟨s, hs⟩ S S' { half ⟨s, hs⟩ S with
          out := fun t' h' p n => if t'.val = t ∧ h'.val = h then cut ((half ⟨s, hs⟩ S).w ⟨h, hh⟩ p n * (half ⟨s, hs⟩ S).inv ⟨p.val % 8, by omega⟩ ⟨h, by omega⟩)
            else (half ⟨s, hs⟩ S).out t' h' p n } := by
  unfold quantHead
  refine Go.load (focus_inv c R) (fun _ => rfl) ?_
  refine Go.load (focus_w c R) (fun _ => rfl) ?_
  refine Go.load (focus_out c R) (fun _ => rfl) ?_
  refine Go.put (focus_out c R) ?_
  refine Go.ret ?_
  have hv := codes_at (half ⟨s, hs⟩ S) (box (Rect.unit (s := S2x32x64x128) ![s, h, 0, 0] S1x1x64x128.size (inb_w hs hh)) S.w)
    (box (Rect.unit (s := S2x8x128) ![s, 0, 0] S1x8x128.size (inb_tile hs)) S.inv) hh (rd_w S hs h hh) (rd_inv S hs)
  exact ⟨hv, upd_setOut S hs t ht h hh _ _ (fun p n => (cast_out _ p n).trans (hv p n))⟩

/-- The outputs of sixteen heads. -/
theorem go_output (c : Dev nD) (R : Refs) (S : St Ideal) {s t r : ℕ} (hs hb : s < 2) (ht : t < 7) (hr : r + 16 ≤ 32) (h2 : 2 ∣ r)
    (cr : FVec Ideal S1x128 .f32) (g : Fin 16 → FVec Ideal S64x128 .fp8e4m3) :
    Go c R S (output R s hs s hb t ht (lhsOf cr) r hr h2 g) fun _ S' => ∃ Y : Fin 16 → Fin 64 → EReal,
      (∀ k p, Y k p = (∑ n : Fin 128, cr (ix2 0 n) * g k (ix2 p n)) * (half ⟨s, hs⟩ S).scol ⟨r + k.val, by omega⟩ ⟨p.val, by omega⟩
        + (ins S).dcol (ix2 ⟨r + k.val, by omega⟩ ⟨p.val, by omega⟩) * (ins S).x (ix4 ⟨s, hs⟩ ⟨t, ht⟩ ⟨r + k.val, by omega⟩ p))
      ∧ Upd ⟨s, hs⟩ S S' { half ⟨s, hs⟩ S with
          y := fun t' h' p => if hc : t'.val = t ∧ r ≤ h'.val ∧ h'.val < r + 16 then Y ⟨h'.val - r, by omega⟩ p else (half ⟨s, hs⟩ S).y t' h' p } := by
  unfold output
  refine Go.load (focus_x c R) (fun _ => rfl) ?_
  refine Go.load (focus_scol c R) (fun _ => rfl) ?_
  refine Go.load (focus_dcol c R) (fun _ => rfl) ?_
  refine Go.load (focus_y c R) (fun _ => rfl) ?_
  refine Go.store (focus_y c R) ?_
  have hv : ∀ k p, yOf (F := Ideal) (lhsOf cr) g (box (Rect.unit (s := S2x7x32x64) ![s, t, r, 0] S1x1x16x64.size (inb_xg hs ht hr)) S.x)
      (box (Rect.unit (s := S2x32x128) ![s, r, 0] S1x16x128.size (inb_scolg hs hr)) S.scol)
      (box (Rect.unit (s := S32x128) ![r, 0] S16x128.size (inb_dcolg hr)) S.dcol) (ix2 k p)
      = (∑ n : Fin 128, cr (ix2 0 n) * g k (ix2 p n)) * (half ⟨s, hs⟩ S).scol ⟨r + k.val, by omega⟩ ⟨p.val, by omega⟩
        + (ins S).dcol (ix2 ⟨r + k.val, by omega⟩ ⟨p.val, by omega⟩) * (ins S).x (ix4 ⟨s, hs⟩ ⟨t, ht⟩ ⟨r + k.val, by omega⟩ p) := fun k p => by
    rw [yOf_at, rd_scolg S hs r hr, rd_dcolg S r hr, rd_xg S hs t ht r hr]
  generalize yOf (F := Ideal) (lhsOf cr) g (box (Rect.unit (s := S2x7x32x64) ![s, t, r, 0] S1x1x16x64.size (inb_xg hs ht hr)) S.x)
      (box (Rect.unit (s := S2x32x128) ![s, r, 0] S1x16x128.size (inb_scolg hs hr)) S.scol)
      (box (Rect.unit (s := S32x128) ![r, 0] S16x128.size (inb_dcolg hr)) S.dcol) = Y at hv ⊢
  exact ⟨fun k p => Y (ix2 k p), hv, upd_setY S hs t ht r hr _ (fun k p => Y (ix2 k p)) (fun k p => by pointwise [])⟩

/-- The gates, the decays and the first decay times the scale. -/
theorem go_gates (c : Dev nD) (R : Refs) (S : St Ideal) {s r : ℕ} (hs hb : s < 2) (hr : r < 320) :
    Go c R S (gates R s hs s hb r hr) fun _ S' => ∃ (D K : Fin 7 → Fin 128 → EReal) (E : Fin 8 → Fin 128 → EReal),
      (∀ (t : Fin 7) (h : Fin 32), D t ⟨h.val, by omega⟩ = soft ((ins S).dt (ix3 ⟨s, hs⟩ t h) + (ins S).bias (ix2 0 h)))
      ∧ (∀ (t : Fin 7) (h : Fin 32), K t ⟨h.val, by omega⟩ = Ideal.exp ((0 - D t ⟨h.val, by omega⟩) * Ideal.exp ((ins S).alog (ix2 0 h))))
      ∧ (∀ (k : Fin 8) (h : Fin 32), E k ⟨h.val, by omega⟩ = K 0 ⟨h.val, by omega⟩ * (ins S).sscale (ix2 ⟨r, hr⟩ h))
      ∧ Upd ⟨s, hs⟩ S S' { half ⟨s, hs⟩ S with dl := D, dk := K, dec := E } := by
  unfold gates
  refine Go.load (focus_dt c R) (fun _ => rfl) ?_
  refine Go.load (focus_bias c R) (fun _ => rfl) ?_
  refine Go.load (focus_alog c R) (fun _ => rfl) ?_
  refine Go.load (focus_gate c R) (fun _ => rfl) ?_
  refine Go.put (focus_gate c R) ?_
  refine Go.load (focus_gate c R) (fun _ => rfl) ?_
  refine Go.put (focus_gate c R) ?_
  refine Go.load (focus_sscale c R) (fun _ => rfl) ?_
  refine Go.load (focus_dec c R) (fun _ => rfl) ?_
  refine Go.store (focus_dec c R) ?_
  have hD : ∀ (t : Fin 7) (h : Fin 32), deltaOf (dtOf (box (Rect.unit (s := S2x7x32) ![s, 0, 0] S1x7x32.size (inb_dt hb)) S.dt) (box (Rect.unit (s := S1x32) ![0, 0] S1x32.size (inb_S1x32_S1x32_0_0)) S.bias)) (ix2 t ⟨h.val, by omega⟩)
      = soft ((ins S).dt (ix3 ⟨s, hs⟩ t h) + (ins S).bias (ix2 0 h)) := fun t h => by
    rw [deltaOf_at, rd_dt S hs, rd_bias S]
  generalize deltaOf (dtOf (box (Rect.unit (s := S2x7x32) ![s, 0, 0] S1x7x32.size (inb_dt hb)) S.dt) (box (Rect.unit (s := S1x32) ![0, 0] S1x32.size (inb_S1x32_S1x32_0_0)) S.bias)) = D at hD ⊢
  have hK : ∀ (t : Fin 7) (h : Fin 32), decayOf D (box (Rect.unit (s := S1x32) ![0, 0] S1x32.size (inb_S1x32_S1x32_0_0)) S.alog) (ix2 t ⟨h.val, by omega⟩)
      = Ideal.exp ((0 - D (ix2 t ⟨h.val, by omega⟩)) * Ideal.exp ((ins S).alog (ix2 0 h))) := fun t h => by
    rw [decayOf_at, rd_alog S]
  generalize decayOf D (box (Rect.unit (s := S1x32) ![0, 0] S1x32.size (inb_S1x32_S1x32_0_0)) S.alog) = K at hK ⊢
  refine ⟨fun t l => D (ix2 t l), fun t l => K (ix2 t l), fun k l => dec0Of K (box (Rect.unit (s := S320x32) ![r, 0] S1x32.size (inb_ss hr)) S.sscale) (ix2 k l), hD, hK, fun k h => ?_, ?_⟩
  · show dec0Of K _ _ = _
    rw [dec0Of_at, rd_sscale S]
  · have h1 := upd_setGate_dl S hs (shapeCast S1x1x7x128 D shapeCasts_S7x128_S1x1x7x128) (fun t l => D (ix2 t l)) (fun t l => by pointwise [])
    refine h1.trans ?_
    have h2 := upd_setGate_dk (S.setGate ((Rect.unit (s := S2x2x8x128) ![s, 0, 0, 0] S1x1x7x128.size (inb_rows hs (by decide))).overlay S.gate (shapeCast S1x1x7x128 D shapeCasts_S7x128_S1x1x7x128))) hs
      (shapeCast S1x1x7x128 K shapeCasts_S7x128_S1x1x7x128) (fun t l => K (ix2 t l)) (fun t l => by pointwise [])
    refine h2.trans (Upd.cast (upd_setDec _ hs _ (fun k l => dec0Of K (box (Rect.unit (s := S320x32) ![r, 0] S1x32.size (inb_ss hr)) S.sscale) (ix2 k l)) (fun k l => ?_)) ?_)
    · pointwise []
      rfl
    · rw [h2.1, h1.1]

/-- The rows of B and C, widened. -/
theorem go_rowsBC (c : Dev nD) (R : Refs) (S : St Ideal) {s : ℕ} (hs hb : s < 2) :
    Go c R S (rowsBC R s hs s hb) fun _ S' =>
      Upd ⟨s, hs⟩ S S' { half ⟨s, hs⟩ S with bB := fun t n => (ins S).B (ix3 ⟨s, hs⟩ t n), bC := fun t n => (ins S).C (ix3 ⟨s, hs⟩ t n) } := by
  unfold rowsBC
  refine Go.load (focus_B c R) (fun _ => rfl) ?_
  refine Go.load (focus_bc c R) (fun _ => rfl) ?_
  refine Go.put (focus_bc c R) ?_
  refine Go.load (focus_C c R) (fun _ => rfl) ?_
  refine Go.load (focus_bc c R) (fun _ => rfl) ?_
  refine Go.store (focus_bc c R) ?_
  have h1 := upd_setBc_bB S hs (shapeCast S1x1x7x128 (extf (F := Ideal) .f32 (shapeCast S7x128 (box (Rect.unit (s := S2x7x128) ![s, 0, 0] S1x7x128.size (inb_bc hb)) S.B) shapeCasts_S1x7x128_S7x128) bitsLt_bf16_f32) shapeCasts_S7x128_S1x1x7x128)
    (fun t n => (ins S).B (ix3 ⟨s, hs⟩ t n)) (fun t n => (cast_rows _ t n).trans (rd_B S hs t n))
  refine h1.trans (Upd.cast (upd_setBc_bC _ hs _ (fun t n => (ins S).C (ix3 ⟨s, hs⟩ t n)) (fun t n => ?_)) ?_)
  · exact (cast_rows _ t n).trans (rd_C S hs t n)
  · rw [h1.1]

/-- A head entered: its first state from the codes the request came with. -/
theorem go_enter (c : Dev nD) (R : Refs) (S : St Ideal) {s h : ℕ} (hs hb : s < 2) (hh : h < 32) (bRow : FVec Ideal S1x128 .f32) :
    Go c R S (enter R s hs s hb bRow h hh) fun _ S' =>
      Upd ⟨s, hs⟩ S S' (advH h (nextS (half ⟨s, hs⟩ S) ⟨h, by omega⟩ (fun p n => (ins S).codes (ix4 ⟨s, hs⟩ ⟨h, hh⟩ p n)) (fun n => bRow (ix2 0 n))) (half ⟨s, hs⟩ S)) := by
  unfold enter
  refine Go.load (focus_codes c R) (fun _ => rfl) ?_
  refine Go.mono (go_advance c R S hs hh _ bRow) fun _ S' h' => Upd.cast h' ?_
  congr 2
  funext p n
  exact (cast_codes _ p n).trans (rd_codes S hs h hh p n)

/-- The largest of `n` heads from head `k` goes into their lanes; the others keep what was there. -/
theorem go_maxHeads (c : Dev nD) (R : Refs) (S : St Ideal) {s : ℕ} (hs : s < 2) : ∀ (n k : ℕ) (hk : k + n ≤ 32) (a : FVec Ideal S8x128 .f32),
    Go c R S (maxHeads R s hs n k hk a) fun v S' => S' = S ∧ ∀ r (l : Fin 128), v (ix2 r l) =
      if hl : k ≤ l.val ∧ l.val < k + n then Finset.fold max lowest (fun x => (half ⟨s, hs⟩ S).mx ⟨l.val, by omega⟩ r x) Finset.univ else a (ix2 r l)
  | 0, k, hk, a => Go.ret ⟨rfl, fun r l => by rw [dif_neg (by omega)]⟩
  | n + 1, k, hk, a => by
    unfold maxHeads
    refine Go.load (focus_mx c R) (fun _ => rfl) ?_
    refine Go.mono (go_maxHeads c R S hs n (k + 1) (by omega) _) ?_
    rintro v S' ⟨rfl, hv⟩
    refine ⟨rfl, fun r l => ?_⟩
    rw [hv, putMax_at k (by omega)]
    split_ifs with h1 h2 h3 h4 h5
    · rfl
    · omega
    · congr 1
      funext x
      rw [rd_mx _ hs k (by omega)]
      exact congrArg (fun z => (half ⟨s, hs⟩ S').mx z r x) (Fin.ext h3.symm)
    · omega
    · omega
    · rfl

/-- The column of skips. -/
theorem go_skips (c : Dev nD) (R : Refs) (S : St Ideal) :
    Go c R S (skips R) fun _ S' => ∃ D, (∀ (h : Fin 32) (n : Fin 128), D (ix2 h n) = (ins S).dskip (ix2 0 h)) ∧ S' = S.setDcol D := by
  unfold skips
  refine Go.load (focus_dskip c R) (fun _ => rfl) ?_
  refine Go.load (focus_dcol c R) (fun _ => rfl) ?_
  refine Go.store (focus_dcol c R) ⟨_, fun h n => ?_, rfl⟩
  refine (overlay_pos (off := ![0, 0]) _ _ (ix2 h n) (ix2 h n) (fun a => by fin_cases a <;> simp)).trans ?_
  pointwise []
  rw [dcolOf_at, rd_dskip S]

end Cert.Proof.KernelIdeal
-- ==== Proof.Spec.lean ====
/- What the kernel computes for one request: the recursion over the tokens. -/
module

public import proofs.«01_k».proof.Proof.Values

@[expose] public section

set_option maxRecDepth 16384

noncomputable section

namespace Cert.Proof.KernelIdeal

open Cert.KernelIdeal Cert.KernelIdeal.Gen
open Idealize.ShloMosaic Idealize.ShloMosaic.TcCoe

/-! ### What the kernel computes for one request -/

/-- One request: its inputs token by token, the state it came with, its gates and decays, the skips. -/
structure Req where
  x : ℕ → Fin 32 → Fin 64 → EReal
  k : Fin 32 → Fin 64 → Fin 128 → EReal
  sc : Fin 32 → EReal
  B : ℕ → Fin 128 → EReal
  C : ℕ → Fin 128 → EReal
  dl : ℕ → Fin 32 → EReal
  dk : ℕ → Fin 32 → EReal
  sk : Fin 32 → EReal

/-- Token `t`. -/
def tk (t : ℕ) : Fin 7 := Fin.ofNat 7 t

/-- A token is itself. -/
theorem tk_val (t : Fin 7) : tk t.val = t := Fin.ext (Nat.mod_eq_of_lt t.isLt)

/-- A head's largest magnitude, as the kernel takes it: over the rows of each sublane, over the lanes, over the sublanes. -/
def amax (W : Fin 64 → Fin 128 → EReal) : EReal :=
  Finset.fold max lowest (fun r : Fin 8 => Finset.fold max lowest (fun n : Fin 128 => tmax W r n) Finset.univ) Finset.univ

/-- A head's state after a token, from its codes and scale before it. -/
def Req.adv (q : Req) (t : ℕ) (h : Fin 32) (k : Fin 64 → Fin 128 → EReal) (s : EReal) (p : Fin 64) (n : Fin 128) : EReal :=
  k p n * (q.dk t h * s) + (q.x t h p * q.dl t h) * q.B t n

/-- The codes and the scales before token `t`. -/
def Req.st (q : Req) : ℕ → (Fin 32 → Fin 64 → Fin 128 → EReal) × (Fin 32 → EReal)
  | 0 => (q.k, q.sc)
  | t + 1 => (fun h p n => cut (q.adv t h ((q.st t).1 h) ((q.st t).2 h) p n * inv₁ (over (amax (q.adv t h ((q.st t).1 h) ((q.st t).2 h))))),
      fun h => scl (over (amax (q.adv t h ((q.st t).1 h) ((q.st t).2 h)))))

/-- The state after token `t`, before it is quantised. -/
def Req.W (q : Req) (t : ℕ) (h : Fin 32) : Fin 64 → Fin 128 → EReal := q.adv t h ((q.st t).1 h) ((q.st t).2 h)
/-- Its largest magnitude over 448. -/
def Req.m (q : Req) (t : ℕ) (h : Fin 32) : EReal := over (amax (q.W t h))
/-- The output of token `t`. -/
def Req.y (q : Req) (t : ℕ) (h : Fin 32) (p : Fin 64) : EReal :=
  (∑ n : Fin 128, q.C t n * (q.st (t + 1)).1 h p n) * (q.st (t + 1)).2 h + q.sk h * q.x t h p

/-- The codes after a token. -/
theorem Req.st_code (q : Req) (t : ℕ) (h : Fin 32) (p : Fin 64) (n : Fin 128) : (q.st (t + 1)).1 h p n = cut (q.W t h p n * inv₁ (q.m t h)) := rfl
/-- The scale after a token. -/
theorem Req.st_scale (q : Req) (t : ℕ) (h : Fin 32) : (q.st (t + 1)).2 h = scl (q.m t h) := rfl

/-- The request that stream `s` of a grid point works on: request `r` of the batch, row `s` of the point's blocks. -/
def reqOf (I : Ins) (s : Fin 2) (r : Fin 320) : Req where
  x t h p := I.x (ix4 s (tk t) h p)
  k h p n := I.codes (ix4 s h p n)
  sc h := I.sscale (ix2 r h)
  B t n := I.B (ix3 s (tk t) n)
  C t n := I.C (ix3 s (tk t) n)
  dl t h := soft (I.dt (ix3 s (tk t) h) + I.bias (ix2 0 h))
  dk t h := Ideal.exp ((0 - soft (I.dt (ix3 s (tk t) h) + I.bias (ix2 0 h))) * Ideal.exp (I.alog (ix2 0 h)))
  sk h := I.dskip (ix2 0 h)

end Cert.Proof.KernelIdeal
-- ==== Proof.Run.lean ====
/- What a stream holds between the sections, and what reducing, preparing and quantising a token make of it. -/
module

public import proofs.«01_k».proof.Proof.Sections
public import proofs.«01_k».proof.Proof.Spec

@[expose] public section

set_option maxRecDepth 16384

noncomputable section

namespace Cert.Proof.KernelIdeal

open Cert.KernelIdeal Cert.KernelIdeal.Gen
open Idealize Idealize.SL Idealize.SL.Sem
open Idealize.ShloMosaic Idealize.ShloMosaic.TcCoe

attribute [local irreducible] Rect.overlay box

/-- Lane `h` of 128. -/
def up (h : Fin 32) : Fin 128 := ⟨h.val, by omega⟩

/-- The scratches hold the request's gates, decays and rows of B and C. -/
structure Cst (q : Req) (H : Half) : Prop where
  dl : ∀ (t : Fin 7) h, H.dl t (up h) = q.dl t.val h
  dk : ∀ (t : Fin 7) h, H.dk t (up h) = q.dk t.val h
  bB : ∀ (t : Fin 7) n, H.bB t n = q.B t.val n
  bC : ∀ (t : Fin 7) n, H.bC t n = q.C t.val n

/-- The decay times the scale and the gated input of token `k` are ready. -/
structure Rdy (q : Req) (k : ℕ) (H : Half) : Prop where
  dec : ∀ r h, H.dec r (up h) = q.dk k h * (q.st k).2 h
  u : ∀ p h, H.u p (up h) = q.x k h p * q.dl k h

/-- Head `h` has advanced past token `k`. -/
structure AdvAt (q : Req) (k : ℕ) (h : Fin 32) (H : Half) : Prop where
  w : H.w h = q.W k h
  mx : ∀ r n, H.mx h r n = tmax (q.W k h) r n

/-- The scale of token `k` and its inverse are there. -/
structure Scl (q : Req) (k : ℕ) (H : Half) : Prop where
  inv : ∀ r h, H.inv r (up h) = inv₁ (q.m k h)
  scol : ∀ h l, H.scol h l = scl (q.m k h)

/-- The outputs of the tokens before `k`, the scales' one token further if `j` is `k + 1`. -/
structure Out (q : Req) (k j : ℕ) (H : Half) : Prop where
  osc : ∀ (t : Fin 7) h, t.val < j → H.osc t h = scl (q.m t.val h)
  out : ∀ (t : Fin 7) h p n, t.val < k → H.out t h p n = (q.st (t.val + 1)).1 h p n
  y : ∀ (t : Fin 7) h p, t.val < k → H.y t h p = q.y t.val h p

/-- All heads have advanced past token `k`. -/
structure InA (q : Req) (k : ℕ) (H : Half) : Prop where
  cst : Cst q H
  adv : ∀ h, AdvAt q k h H
  out : Out q k k H

/-- And the scale is there. -/
structure InB (q : Req) (k : ℕ) (H : Half) : Prop where
  cst : Cst q H
  adv : ∀ h, AdvAt q k h H
  scl : Scl q k H
  out : Out q k (k + 1) H

/-- While token `k` is quantised: heads below `h` have their codes, those below `r` their outputs; if another token
    follows (`nxt`), heads below `h` have advanced to it. -/
structure Mid (q : Req) (k : ℕ) (nxt : Prop) (r h : ℕ) (H : Half) : Prop where
  cst : Cst q H
  scl : Scl q k H
  out : Out q k (k + 1) H
  rdy : nxt → Rdy q (k + 1) H
  next : nxt → ∀ h' : Fin 32, h'.val < h → AdvAt q (k + 1) h' H
  adv : ∀ h' : Fin 32, h ≤ h'.val → AdvAt q k h' H
  outk : ∀ (t : Fin 7) (h' : Fin 32) p n, t.val = k → h'.val < h → H.out t h' p n = (q.st (k + 1)).1 h' p n
  yk : ∀ (t : Fin 7) (h' : Fin 32) p, t.val = k → h'.val < r → H.y t h' p = q.y k h' p

/-- Only stream `s` has changed. -/
def Kp (s : Fin 2) (S S' : St Ideal) : Prop := (∀ s', s' ≠ s → half s' S' = half s' S) ∧ ins S' = ins S
/-- Nothing changed. -/
theorem Kp.refl (s : Fin 2) (S : St Ideal) : Kp s S S := ⟨fun _ _ => rfl, rfl⟩
/-- Two steps of one stream. -/
theorem Kp.trans {s : Fin 2} {S S' S'' : St Ideal} (h : Kp s S S') (h' : Kp s S' S'') : Kp s S S'' :=
  ⟨fun s' hs => (h'.1 s' hs).trans (h.1 s' hs), h'.2.trans h.2⟩
/-- A step of a stream changes only that stream. -/
theorem Upd.kp {s : Fin 2} {S S' : St Ideal} {H : Half} (h : Upd s S S' H) : Kp s S S' := ⟨h.2.1, h.2.2⟩

/-- What the inputs are to a request: row `s` of the blocks and the column of skips. -/
structure Lk (q : Req) (s : Fin 2) (I : Ins) : Prop where
  x : ∀ (t : Fin 7) h p, I.x (ix4 s t h p) = q.x t.val h p
  codes : ∀ h p n, I.codes (ix4 s h p n) = q.k h p n
  dcol : ∀ h l, I.dcol (ix2 h l) = q.sk h

/-- The largest magnitudes of all heads, and the scale from them. -/
theorem go_reduce (c : Dev nD) (R : Refs) (S : St Ideal) {s k : ℕ} (hs hb : s < 2) (hk : k < 7) (q : Req) (hA : InA q k (half ⟨s, hs⟩ S)) :
    Go c R S (reduce R s hs s hb k hk) fun v S' =>
      Kp ⟨s, hs⟩ S S' ∧ InB q k (half ⟨s, hs⟩ S') ∧ ∀ r h, v (ix2 r (up h)) = (q.st (k + 1)).2 h := by
  unfold reduce
  refine Go.bind (go_maxHeads c R S hs 32 0 (by decide) _) ?_
  rintro a S₁ ⟨rfl, ha⟩
  let ov : Fin 128 → EReal := fun l => over (Finset.fold max lowest (fun r => a (ix2 r l)) Finset.univ)
  have hov : ∀ h, ov (up h) = q.m k h := fun h => by
    refine congrArg over ?_
    refine congrArg (fun f => Finset.fold max lowest f Finset.univ) (funext fun r => ?_)
    rw [ha, dif_pos ⟨Nat.zero_le _, by have := h.isLt; simp only [up]; omega⟩]
    exact congrArg (fun f => Finset.fold max lowest f Finset.univ) (funext fun n => (hA.adv h).mx r n)
  refine Go.mono (go_settle c R S₁ hs hb hk a ov fun l => rfl) ?_
  rintro v S' ⟨hv, hu⟩
  refine ⟨hu.kp, ?_, fun r h => by rw [hv, hov]; rfl⟩
  rw [hu.1]
  refine ⟨⟨hA.cst.dl, hA.cst.dk, hA.cst.bB, hA.cst.bC⟩, fun h => ⟨(hA.adv h).w, (hA.adv h).mx⟩, ⟨fun r h => ?_, fun h l => ?_⟩, ⟨fun t h ht => ?_, hA.out.out, hA.out.y⟩⟩
  · exact congrArg inv₁ (hov h)
  · exact congrArg scl (hov h)
  · show (if t.val = k then scl (ov (up h)) else _) = _
    split_ifs with e
    · rw [hov, e]
    · exact hA.out.osc t h (by omega)

/-- The next token prepared. -/
theorem go_prepare (c : Dev nD) (R : Refs) (S : St Ideal) {s k : ℕ} (hs hb : s < 2) (hk : k + 1 < 7) (q : Req) (hB : InB q k (half ⟨s, hs⟩ S))
    (hL : Lk q ⟨s, hs⟩ (ins S)) (v : FVec Ideal S8x128 .f32) (hv : ∀ r h, v (ix2 r (up h)) = (q.st (k + 1)).2 h) :
    Go c R S (prepare R s hs s hb (k + 1) hk v) fun _ S' =>
      Kp ⟨s, hs⟩ S S' ∧ InB q k (half ⟨s, hs⟩ S') ∧ Rdy q (k + 1) (half ⟨s, hs⟩ S') := by
  unfold prepare
  refine Go.bind (go_nextDec c R S hs hk v) ?_
  intro _ S₁ h1
  refine Go.mono (go_inputs c R S₁ hs hb hk) ?_
  rintro _ S' ⟨U, hU, h2⟩
  refine ⟨(h1.trans h2).kp, ?_⟩
  rw [h2.1, h1.1]
  refine ⟨⟨⟨hB.cst.dl, hB.cst.dk, hB.cst.bB, hB.cst.bC⟩, fun h => ⟨(hB.adv h).w, (hB.adv h).mx⟩, ⟨hB.scl.inv, hB.scl.scol⟩, ⟨hB.out.osc, hB.out.out, hB.out.y⟩⟩, ⟨fun r h => ?_, fun p h => ?_⟩⟩
  · show (half ⟨s, hs⟩ S).dk ⟨k + 1, hk⟩ (up h) * v (ix2 r (up h)) = _
    rw [hB.cst.dk, hv]
  · refine (hU p h).trans ?_
    rw [h1.2.2, hL.x, h1.1]
    exact congrArg (_ * ·) (hB.cst.dl ⟨k + 1, hk⟩ h)

/-- The quantised heads one after another: what holds before head `h` is carried past it. -/
theorem go_quantHeads (c : Dev nD) (R : Refs) {s t : ℕ} (hs hb : s < 2) (ht : t < 7) (f : (h : ℕ) → h < 32 → FVec Ideal S64x128 .fp8e4m3 → Pr Ideal Unit)
    (I : ℕ → St Ideal → Prop) (C : ℕ → FVec Ideal S64x128 .fp8e4m3 → Prop)
    (step : ∀ h (hh : h < 32) S, I h S → Go c R S (quantHead R s hs s hb t ht h hh) fun v S' => C h v ∧ Go c R S' (f h hh v) fun _ S'' => I (h + 1) S'') :
    ∀ (n k : ℕ) (hk : k + n ≤ 32) (rest : (Fin n → FVec Ideal S64x128 .fp8e4m3) → Pr Ideal Unit) (Q : Unit → St Ideal → Prop) (S : St Ideal), I k S →
      (∀ g S', (∀ i : Fin n, C (k + i.val) (g i)) → I (k + n) S' → Go c R S' (rest g) Q) →
      Go c R S (quantHeads R s hs s hb t ht f n k hk rest) Q
  | 0, k, hk, rest, Q, S, hI, hr => by
    unfold quantHeads
    exact hr _ S (fun i => i.elim0) hI
  | n + 1, k, hk, rest, Q, S, hI, hr => by
    unfold quantHeads
    refine Go.bind (step k (by omega) S hI) ?_
    rintro v S₁ ⟨hv, hf⟩
    refine Go.bind hf ?_
    intro _ S₂ hI'
    refine go_quantHeads c R hs hb ht f I C step n (k + 1) (by omega) _ Q S₂ hI' ?_
    intro g S' hg hI''
    refine hr _ S' (fun i => ?_) ((by omega : k + (n + 1) = k + 1 + n) ▸ hI'')
    refine Fin.cases ?_ (fun i => ?_) i
    · exact hv
    · have := hg i
      rw [show k + i.succ.val = k + 1 + i.val by simp; omega]
      exact this

/-- Sixteen heads quantised, with their outputs; `f` advances a head to the next token if there is one. -/
theorem go_group (c : Dev nD) (R : Refs) (S : St Ideal) {s k r : ℕ} (hs hb : s < 2) (hk : k < 7) (hr : r + 16 ≤ 32) (h2 : 2 ∣ r) (q : Req) (nxt : Prop)
    (f : (h : ℕ) → h < 32 → FVec Ideal S64x128 .fp8e4m3 → Pr Ideal Unit)
    (hf : ∀ h (hh : h < 32) v S, (∀ p n, v (ix2 p n) = (q.st (k + 1)).1 ⟨h, hh⟩ p n) → (nxt → Cst q (half ⟨s, hs⟩ S) ∧ Rdy q (k + 1) (half ⟨s, hs⟩ S)) →
      Go c R S (f h hh v) fun _ S' => (nxt → Upd ⟨s, hs⟩ S S' (advH h (q.W (k + 1) ⟨h, hh⟩) (half ⟨s, hs⟩ S))) ∧ (¬ nxt → S' = S))
    (cr : FVec Ideal S1x128 .f32) (hcr : ∀ n, cr (ix2 0 n) = q.C k n)
    (hL : Lk q ⟨s, hs⟩ (ins S)) (hM : Mid q k nxt r r (half ⟨s, hs⟩ S)) :
    Go c R S (group R s hs s hb k hk f (lhsOf cr) r hr h2) fun _ S' =>
      Kp ⟨s, hs⟩ S S' ∧ Mid q k nxt (r + 16) (r + 16) (half ⟨s, hs⟩ S') := by
  unfold group
  refine go_quantHeads c R hs hb hk f (fun h S' => Kp ⟨s, hs⟩ S S' ∧ Mid q k nxt r h (half ⟨s, hs⟩ S'))
    (fun h v => ∀ (hh : h < 32) p n, v (ix2 p n) = (q.st (k + 1)).1 ⟨h, hh⟩ p n) ?_ 16 r hr _ _ S ⟨Kp.refl _ _, hM⟩ ?_
  · rintro h hh S₀ ⟨hkp, hM⟩
    refine Go.mono (go_quantHead c R S₀ hs hb hk hh) ?_
    rintro v S₁ ⟨hv, hu⟩
    have hcode : ∀ p n, cut ((half ⟨s, hs⟩ S₀).w ⟨h, hh⟩ p n * (half ⟨s, hs⟩ S₀).inv ⟨p.val % 8, by omega⟩ ⟨h, by omega⟩) = (q.st (k + 1)).1 ⟨h, hh⟩ p n := fun p n => by
      rw [(hM.adv ⟨h, hh⟩ (le_refl h)).w, Req.st_code]
      exact congrArg (fun z => cut (_ * z)) (hM.scl.inv _ ⟨h, hh⟩)
    refine ⟨fun _ p n => (hv p n).trans (hcode p n), ?_⟩
    refine Go.mono (hf h hh v S₁ (fun p n => (hv p n).trans (hcode p n)) (fun hn => ?_)) ?_
    · rw [hu.1]
      exact ⟨⟨hM.cst.dl, hM.cst.dk, hM.cst.bB, hM.cst.bC⟩, ⟨(hM.rdy hn).dec, (hM.rdy hn).u⟩⟩
    rintro _ S₂ ⟨hy, hno⟩
    have hout : ∀ (t : Fin 7) (h' : Fin 32) p n, t.val = k → h'.val < h + 1 →
        (if t.val = k ∧ h'.val = h then cut ((half ⟨s, hs⟩ S₀).w ⟨h, hh⟩ p n * (half ⟨s, hs⟩ S₀).inv ⟨p.val % 8, by omega⟩ ⟨h, by omega⟩)
          else (half ⟨s, hs⟩ S₀).out t h' p n) = (q.st (k + 1)).1 h' p n := by
      intro t h' p n ht hh'
      split_ifs with e
      · rw [hcode]; exact congrArg (fun z => (q.st (k + 1)).1 z p n) (Fin.ext e.2.symm)
      · exact hM.outk t h' p n ht (by omega)
    have hold : ∀ (t : Fin 7) (h' : Fin 32) p n, t.val < k →
        (if t.val = k ∧ h'.val = h then cut ((half ⟨s, hs⟩ S₀).w ⟨h, hh⟩ p n * (half ⟨s, hs⟩ S₀).inv ⟨p.val % 8, by omega⟩ ⟨h, by omega⟩)
          else (half ⟨s, hs⟩ S₀).out t h' p n) = (q.st (t.val + 1)).1 h' p n := by
      intro t h' p n ht
      rw [if_neg (by omega)]
      exact hM.out.out t h' p n ht
    by_cases hn : nxt
    · have h2 := hy hn
      refine ⟨hkp.trans (hu.trans h2).kp, ?_⟩
      rw [h2.1, hu.1]
      refine ⟨⟨hM.cst.dl, hM.cst.dk, hM.cst.bB, hM.cst.bC⟩, ⟨hM.scl.inv, hM.scl.scol⟩, ⟨hM.out.osc, hold, hM.out.y⟩,
        fun hn => ⟨(hM.rdy hn).dec, (hM.rdy hn).u⟩, fun _ h' hh' => ⟨?_, fun r n => ?_⟩, fun h' hh' => ⟨?_, fun r n => ?_⟩, hout, hM.yk⟩
      · funext p n
        show (if h'.val = h then q.W (k + 1) ⟨h, hh⟩ p n else (half ⟨s, hs⟩ S₀).w h' p n) = _
        split_ifs with e
        · exact congrArg (fun z => q.W (k + 1) z p n) (Fin.ext e.symm)
        · rw [(hM.next hn h' (by omega)).w]
      · show (if h'.val = h then tmax (q.W (k + 1) ⟨h, hh⟩) r n else (half ⟨s, hs⟩ S₀).mx h' r n) = _
        split_ifs with e
        · exact congrArg (fun z => tmax (q.W (k + 1) z) r n) (Fin.ext e.symm)
        · exact (hM.next hn h' (by omega)).mx r n
      · funext p n
        show (if h'.val = h then q.W (k + 1) ⟨h, hh⟩ p n else (half ⟨s, hs⟩ S₀).w h' p n) = _
        rw [if_neg (by omega), (hM.adv h' (by omega)).w]
      · show (if h'.val = h then tmax (q.W (k + 1) ⟨h, hh⟩) r n else (half ⟨s, hs⟩ S₀).mx h' r n) = _
        rw [if_neg (by omega)]
        exact (hM.adv h' (by omega)).mx r n
    · have e := hno hn
      subst e
      refine ⟨hkp.trans hu.kp, ?_⟩
      rw [hu.1]
      exact ⟨⟨hM.cst.dl, hM.cst.dk, hM.cst.bB, hM.cst.bC⟩, ⟨hM.scl.inv, hM.scl.scol⟩, ⟨hM.out.osc, hold, hM.out.y⟩,
        fun h => absurd h hn, fun h => absurd h hn, fun h' hh' => ⟨(hM.adv h' (by omega)).w, (hM.adv h' (by omega)).mx⟩, hout, hM.yk⟩
  · rintro g S₀ hg ⟨hkp, hM⟩
    refine Go.mono (go_output c R S₀ hs hb hk hr h2 cr g) ?_
    rintro _ S' ⟨Y, hY, hu⟩
    refine ⟨hkp.trans hu.kp, ?_⟩
    rw [hu.1]
    refine ⟨⟨hM.cst.dl, hM.cst.dk, hM.cst.bB, hM.cst.bC⟩, ⟨hM.scl.inv, hM.scl.scol⟩, ⟨hM.out.osc, hM.out.out, fun t h p ht => ?_⟩,
      fun hn => ⟨(hM.rdy hn).dec, (hM.rdy hn).u⟩, fun hn h' hh' => ⟨(hM.next hn h' hh').w, (hM.next hn h' hh').mx⟩, fun h' hh' => ⟨(hM.adv h' hh').w, (hM.adv h' hh').mx⟩, hM.outk, fun t h' p ht hh' => ?_⟩
    · show (if hc : t.val = k ∧ r ≤ h.val ∧ h.val < r + 16 then Y ⟨h.val - r, by omega⟩ p else (half ⟨s, hs⟩ S₀).y t h p) = _
      rw [dif_neg (by omega)]
      exact hM.out.y t h p ht
    · show (if hc : t.val = k ∧ r ≤ h'.val ∧ h'.val < r + 16 then Y ⟨h'.val - r, by omega⟩ p else (half ⟨s, hs⟩ S₀).y t h' p) = _
      split_ifs with e
      · have eh : (⟨r + (h'.val - r), by omega⟩ : Fin 32) = h' := Fin.ext (by show r + (h'.val - r) = h'.val; omega)
        have et : (⟨k, hk⟩ : Fin 7) = t := Fin.ext ht.symm
        rw [hY, hkp.2, hL.dcol, hL.x, hM.scl.scol]
        have hs' : (∑ n : Fin 128, cr (ix2 0 n) * g ⟨h'.val - r, by omega⟩ (ix2 p n)) = ∑ n : Fin 128, q.C k n * (q.st (k + 1)).1 h' p n := by
          refine Finset.sum_congr rfl fun n _ => ?_
          rw [hcr, hg ⟨h'.val - r, by omega⟩ (by show r + (h'.val - r) < 32; omega)]
          exact congrArg (fun z => q.C k n * (q.st (k + 1)).1 z p n) eh
        rw [hs']
        unfold Req.y
        rw [Req.st_scale, eh]
      · exact hM.yk t h' p ht (by omega)

/-- Before the first head. -/
theorem Mid.of_B {q : Req} {k : ℕ} {nxt : Prop} {H : Half} (hB : InB q k H) (hR : nxt → Rdy q (k + 1) H) : Mid q k nxt 0 0 H :=
  ⟨hB.cst, hB.scl, hB.out, hR, fun _ h' hh => absurd hh (by omega), fun h' _ => hB.adv h', fun _ _ _ _ _ hh => absurd hh (by omega), fun _ _ _ _ hh => absurd hh (by omega)⟩

/-- After the last head the outputs are one token further. -/
theorem Mid.outs {q : Req} {k : ℕ} {nxt : Prop} {H : Half} (hM : Mid q k nxt 32 32 H) : Out q (k + 1) (k + 1) H :=
  ⟨hM.out.osc, fun t h p n ht => by
    by_cases e : t.val = k
    · rw [hM.outk t h p n e h.isLt, e]
    · exact hM.out.out t h p n (by omega), fun t h p ht => by
    by_cases e : t.val = k
    · rw [hM.yk t h p e h.isLt, e]
    · exact hM.out.y t h p (by omega)⟩

/-- A row read from a block is the row. -/
theorem cast_row (v : Vec Ideal S1x1x1x128 .f32) (n : Fin 128) : shapeCast S1x128 v shapeCasts_S1x1x1x128_S1x128 (ix2 0 n) = v (ix4 (0 : Fin 1) (0 : Fin 1) (0 : Fin 1) n) := by
  pointwise []

/-- A token quantised and the state advanced to the next. -/
theorem go_quantise (c : Dev nD) (R : Refs) (S : St Ideal) {s k : ℕ} (hs hb : s < 2) (hk : k < 7) (hk' : k + 1 < 7) (q : Req)
    (hL : Lk q ⟨s, hs⟩ (ins S)) (hB : InB q k (half ⟨s, hs⟩ S)) (hR : Rdy q (k + 1) (half ⟨s, hs⟩ S)) :
    Go c R S (quantise R s hs s hb k hk (k + 1) hk') fun _ S' => Kp ⟨s, hs⟩ S S' ∧ InA q (k + 1) (half ⟨s, hs⟩ S') := by
  unfold quantise
  refine Go.load (focus_bc c R) (fun _ => rfl) ?_
  refine Go.load (focus_bc c R) (fun _ => rfl) ?_
  have hb' : ∀ n, shapeCast S1x128 (box (Rect.unit (s := S2x2x8x128) ![s, 0, k + 1, 0] S1x1x1x128.size (inb_row hs (by decide) hk')) S.bc) shapeCasts_S1x1x1x128_S1x128 (ix2 0 n) = q.B (k + 1) n := fun n =>
    (cast_row _ n).trans ((rd_bB S hs (k + 1) hk' n).trans (hB.cst.bB _ n))
  have hc' : ∀ n, shapeCast S1x128 (box (Rect.unit (s := S2x2x8x128) ![s, 1, k, 0] S1x1x1x128.size (inb_row hs (by decide) hk)) S.bc) shapeCasts_S1x1x1x128_S1x128 (ix2 0 n) = q.C k n := fun n =>
    (cast_row _ n).trans ((rd_bC S hs k hk n).trans (hB.cst.bC _ n))
  have hf : ∀ h (hh : h < 32) (v : FVec Ideal S64x128 .fp8e4m3) S₀, (∀ p n, v (ix2 p n) = (q.st (k + 1)).1 ⟨h, hh⟩ p n) → (True → Cst q (half ⟨s, hs⟩ S₀) ∧ Rdy q (k + 1) (half ⟨s, hs⟩ S₀)) →
      Go c R S₀ (advance R s hs h hh (extf .f32 v bitsLt_fp8e4m3_f32) (shapeCast S1x128 (box (Rect.unit (s := S2x2x8x128) ![s, 0, k + 1, 0] S1x1x1x128.size (inb_row hs (by decide) hk')) S.bc) shapeCasts_S1x1x1x128_S1x128))
        fun _ S' => (True → Upd ⟨s, hs⟩ S₀ S' (advH h (q.W (k + 1) ⟨h, hh⟩) (half ⟨s, hs⟩ S₀))) ∧ (¬ True → S' = S₀) := by
    intro h hh v S₀ hv hcr
    obtain ⟨hc, hr⟩ := hcr trivial
    refine Go.mono (go_advance c R S₀ hs hh _ _) fun _ S' hu => ⟨fun _ => Upd.cast hu ?_, fun h => absurd trivial h⟩
    refine congrArg (fun W => advH h W _) (funext fun p => funext fun n => ?_)
    unfold nextS Req.W Req.adv
    refine congrArg₂ (· + ·) (congrArg₂ (· * ·) (hv p n) (hr.dec _ ⟨h, hh⟩)) (congrArg₂ (· * ·) (hr.u p ⟨h, hh⟩) (hb' n))
  refine Go.bind (go_group c R S hs hb hk _ _ q True _ hf _ hc' hL (Mid.of_B hB fun _ => hR)) ?_
  rintro _ S₁ ⟨hk1, hM1⟩
  refine Go.mono (go_group c R S₁ hs hb hk _ _ q True _ hf _ hc' (hk1.2 ▸ hL) hM1) ?_
  rintro _ S₂ ⟨hk2, hM2⟩
  exact ⟨hk1.trans hk2, hM2.cst, fun h => hM2.next trivial h h.isLt, hM2.outs⟩

/-- The last token quantised. -/
theorem go_quantiseLast (c : Dev nD) (R : Refs) (S : St Ideal) {s k : ℕ} (hs hb : s < 2) (hk : k < 7) (q : Req)
    (hL : Lk q ⟨s, hs⟩ (ins S)) (hB : InB q k (half ⟨s, hs⟩ S)) :
    Go c R S (quantiseLast R s hs s hb k hk) fun _ S' => Kp ⟨s, hs⟩ S S' ∧ Out q (k + 1) (k + 1) (half ⟨s, hs⟩ S') := by
  unfold quantiseLast
  refine Go.load (focus_bc c R) (fun _ => rfl) ?_
  have hc' : ∀ n, shapeCast S1x128 (box (Rect.unit (s := S2x2x8x128) ![s, 1, k, 0] S1x1x1x128.size (inb_row hs (by decide) hk)) S.bc) shapeCasts_S1x1x1x128_S1x128 (ix2 0 n) = q.C k n := fun n =>
    (cast_row _ n).trans ((rd_bC S hs k hk n).trans (hB.cst.bC _ n))
  have hf : ∀ h (hh : h < 32) (v : FVec Ideal S64x128 .fp8e4m3) S₀, (∀ p n, v (ix2 p n) = (q.st (k + 1)).1 ⟨h, hh⟩ p n) → (False → Cst q (half ⟨s, hs⟩ S₀) ∧ Rdy q (k + 1) (half ⟨s, hs⟩ S₀)) →
      Go c R S₀ (pure () : Pr Ideal Unit)
        fun _ S' => (False → Upd ⟨s, hs⟩ S₀ S' (advH h (q.W (k + 1) ⟨h, hh⟩) (half ⟨s, hs⟩ S₀))) ∧ (¬ False → S' = S₀) :=
    fun h hh v S₀ _ _ => Go.ret ⟨fun h => h.elim, fun _ => rfl⟩
  refine Go.bind (go_group c R S hs hb hk _ _ q False _ hf _ hc' hL (Mid.of_B hB fun h => h.elim)) ?_
  rintro _ S₁ ⟨hk1, hM1⟩
  refine Go.mono (go_group c R S₁ hs hb hk _ _ q False _ hf _ hc' (hk1.2 ▸ hL) hM1) ?_
  rintro _ S₂ ⟨hk2, hM2⟩
  exact ⟨hk1.trans hk2, hM2.outs⟩

end Cert.Proof.KernelIdeal
-- ==== Proof.Whole.lean ====
/- The loop over the tokens and the whole body: after it the outputs are those of the two requests. -/
module

public import proofs.«01_k».proof.Proof.Run

@[expose] public section

set_option maxRecDepth 16384

noncomputable section

namespace Cert.Proof.KernelIdeal

open Cert.KernelIdeal Cert.KernelIdeal.Gen
open Idealize Idealize.SL Idealize.SL.RA Idealize.SL.BI Idealize.SL.Sem
open Idealize.SL.BI.BIBase Idealize.SL.BI.Laws
open Idealize.ShloMosaic Idealize.ShloMosaic.TcCoe

attribute [local irreducible] Rect.overlay box

/-- All heads entered. -/
theorem go_heads (c : Dev nD) (R : Refs) (f : (h : ℕ) → h < 32 → Pr Ideal Unit) (I : ℕ → St Ideal → Prop)
    (step : ∀ h (hh : h < 32) S, I h S → Go c R S (f h hh) fun _ S' => I (h + 1) S') :
    ∀ (n k : ℕ) (hk : k + n ≤ 32) (S : St Ideal), I k S → Go c R S (heads f n k hk) fun _ S' => I (k + n) S'
  | 0, k, hk, S, hI => Go.ret hI
  | n + 1, k, hk, S, hI => by
    unfold heads
    refine Go.bind (step k (by omega) S hI) fun _ S' hI' => ?_
    rw [show k + (n + 1) = k + 1 + n by omega]
    exact go_heads c R f I step n (k + 1) (by omega) S' hI'

/-- The state that came, advanced by the first token, and all the request's gates, decays and rows in place. -/
theorem go_first (c : Dev nD) (R : Refs) (S : St Ideal) {s r : ℕ} (hs hb : s < 2) (hr : r < 320) :
    Go c R S (first R s hs s hb r hr) fun _ S' => Kp ⟨s, hs⟩ S S' ∧ InA (reqOf (ins S) ⟨s, hs⟩ ⟨r, hr⟩) 0 (half ⟨s, hs⟩ S') := by
  unfold first
  refine Go.bind (go_gates c R S hs hb hr) ?_
  rintro _ S₁ ⟨D, K, E, hD, hK, hE, h1⟩
  refine Go.bind (go_inputs c R S₁ hs hb (by decide)) ?_
  rintro _ S₂ ⟨U, hU, h2⟩
  refine Go.bind (go_rowsBC c R S₂ hs hb) ?_
  intro _ S₃ h3
  refine Go.load (focus_bc c R) (fun _ => rfl) ?_
  have hkp := (h1.trans (h2.trans h3)).kp
  have hcst : Cst (reqOf (ins S) ⟨s, hs⟩ ⟨r, hr⟩) (half ⟨s, hs⟩ S₃) := by
    rw [h3.1, h2.1, h1.1]
    refine ⟨fun t h => ?_, fun t h => ?_, fun t n => ?_, fun t n => ?_⟩
    · refine (hD t h).trans ?_
      simp only [reqOf, tk_val]
    · refine (hK t h).trans ?_
      rw [hD]
      simp only [reqOf, tk_val]
    · show (ins S₂).B _ = _
      rw [h2.2.2, h1.2.2]; simp only [reqOf, tk_val]
    · show (ins S₂).C _ = _
      rw [h2.2.2, h1.2.2]; simp only [reqOf, tk_val]
  have hrdy : Rdy (reqOf (ins S) ⟨s, hs⟩ ⟨r, hr⟩) 0 (half ⟨s, hs⟩ S₃) := by
    have hK0 := hcst.dk 0
    have hD0 := hcst.dl 0
    rw [h3.1, h2.1, h1.1] at hK0 hD0 ⊢
    refine ⟨fun k h => (hE k h).trans (congrArg (· * _) (hK0 h)), fun p h => (hU p h).trans ?_⟩
    rw [h1.2.2, h1.1]
    exact congrArg (_ * ·) (hD0 h)
  have hrow : ∀ n, shapeCast S1x128 (box (Rect.unit (s := S2x2x8x128) ![s, 0, 0, 0] S1x1x1x128.size (inb_row hs (by decide) (by decide))) S₃.bc) shapeCasts_S1x1x1x128_S1x128 (ix2 0 n)
      = (reqOf (ins S) ⟨s, hs⟩ ⟨r, hr⟩).B 0 n := fun n =>
    (cast_row _ n).trans ((rd_bB S₃ hs 0 (by decide) n).trans (hcst.bB _ n))
  refine Go.mono (go_heads c R _ (fun h S' => Kp ⟨s, hs⟩ S S' ∧ Cst (reqOf (ins S) ⟨s, hs⟩ ⟨r, hr⟩) (half ⟨s, hs⟩ S') ∧ Rdy (reqOf (ins S) ⟨s, hs⟩ ⟨r, hr⟩) 0 (half ⟨s, hs⟩ S')
    ∧ ∀ h' : Fin 32, h'.val < h → AdvAt (reqOf (ins S) ⟨s, hs⟩ ⟨r, hr⟩) 0 h' (half ⟨s, hs⟩ S')) ?_ 32 0 (by decide) S₃ ⟨hkp, hcst, hrdy, fun h' hh => absurd hh (by omega)⟩) ?_
  · rintro h hh S₄ ⟨hk, hc, hr', ha⟩
    refine Go.mono (go_enter c R S₄ hs hb hh _) ?_
    rintro _ S₅ hu
    have hW : nextS (half ⟨s, hs⟩ S₄) ⟨h, by omega⟩ (fun p n => (ins S₄).codes (ix4 ⟨s, hs⟩ ⟨h, hh⟩ p n)) (fun n => shapeCast S1x128 (box (Rect.unit (s := S2x2x8x128) ![s, 0, 0, 0] S1x1x1x128.size (inb_row hs (by decide) (by decide))) S₃.bc) shapeCasts_S1x1x1x128_S1x128 (ix2 0 n))
        = (reqOf (ins S) ⟨s, hs⟩ ⟨r, hr⟩).W 0 ⟨h, hh⟩ := by
      funext p n
      unfold nextS Req.W Req.adv
      refine congrArg₂ (· + ·) (congrArg₂ (· * ·) ?_ (hr'.dec _ ⟨h, hh⟩)) (congrArg₂ (· * ·) (hr'.u p ⟨h, hh⟩) (hrow n))
      rw [hk.2]; rfl
    rw [hW] at hu
    refine ⟨hk.trans hu.kp, ?_⟩
    rw [hu.1]
    refine ⟨⟨hc.dl, hc.dk, hc.bB, hc.bC⟩, ⟨hr'.dec, hr'.u⟩, fun h' hh' => ⟨?_, fun r' n => ?_⟩⟩
    · funext p n
      show (if h'.val = h then (reqOf (ins S) ⟨s, hs⟩ ⟨r, hr⟩).W 0 ⟨h, hh⟩ p n else (half ⟨s, hs⟩ S₄).w h' p n) = _
      split_ifs with e
      · exact congrArg (fun z => (reqOf (ins S) ⟨s, hs⟩ ⟨r, hr⟩).W 0 z p n) (Fin.ext e.symm)
      · rw [(ha h' (by omega)).w]
    · show (if h'.val = h then tmax ((reqOf (ins S) ⟨s, hs⟩ ⟨r, hr⟩).W 0 ⟨h, hh⟩) r' n else (half ⟨s, hs⟩ S₄).mx h' r' n) = _
      split_ifs with e
      · exact congrArg (fun z => tmax ((reqOf (ins S) ⟨s, hs⟩ ⟨r, hr⟩).W 0 z) r' n) (Fin.ext e.symm)
      · exact (ha h' (by omega)).mx r' n
  · rintro _ S' ⟨hk, hc, _, ha⟩
    exact ⟨hk, hc, fun h => ha h (by have := h.isLt; omega), ⟨fun t h ht => absurd ht (by omega), fun t h p n ht => absurd ht (by omega), fun t h p ht => absurd ht (by omega)⟩⟩

/-! ### Both streams -/

/-- The first stream's request. -/
abbrev s0 : Fin 2 := ⟨0, by decide⟩
/-- The second's. -/
abbrev s1 : Fin 2 := ⟨1, by decide⟩

/-- The input blocks alone: the column of skips left out. -/
def keep (I : Ins) : Ins := { I with dcol := fun _ => 0 }

/-- What holds of the two streams; the input blocks are `J`'s. -/
structure Two (J : Ins) (q0 q1 : Req) (X0 X1 : Half → Prop) (S : St Ideal) : Prop where
  kept : keep (ins S) = J
  l0 : Lk q0 s0 (ins S)
  l1 : Lk q1 s1 (ins S)
  h0 : X0 (half s0 S)
  h1 : X1 (half s1 S)

/-- A step of the first stream carries what holds of it. -/
theorem Go.on0 {α : Type} {c : Dev nD} {R : Refs} {S : St Ideal} {p : Pr Ideal α} {J : Ins} {q0 q1 : Req} {X0 X1 : Half → Prop} {Y : α → Half → Prop}
    (hS : Two J q0 q1 X0 X1 S) (h : Go c R S p fun v S' => Kp s0 S S' ∧ Y v (half s0 S')) :
    Go c R S p fun v S' => Two J q0 q1 (Y v) X1 S' :=
  Go.mono h fun v S' h' => ⟨(congrArg keep h'.1.2).trans hS.kept, h'.1.2 ▸ hS.l0, h'.1.2 ▸ hS.l1, h'.2, (h'.1.1 s1 (by decide)) ▸ hS.h1⟩

/-- A step of the second stream carries what holds of it. -/
theorem Go.on1 {α : Type} {c : Dev nD} {R : Refs} {S : St Ideal} {p : Pr Ideal α} {J : Ins} {q0 q1 : Req} {X0 X1 : Half → Prop} {Y : α → Half → Prop}
    (hS : Two J q0 q1 X0 X1 S) (h : Go c R S p fun v S' => Kp s1 S S' ∧ Y v (half s1 S')) :
    Go c R S p fun v S' => Two J q0 q1 X0 (Y v) S' :=
  Go.mono h fun v S' h' => ⟨(congrArg keep h'.1.2).trans hS.kept, h'.1.2 ▸ hS.l0, h'.1.2 ▸ hS.l1, (h'.1.1 s0 (by decide)) ▸ hS.h0, h'.2⟩

/-- The scale of token `k` is there and token `k + 1` is ready. -/
def InP (q : Req) (k : ℕ) (H : Half) : Prop := InB q k H ∧ Rdy q (k + 1) H

variable (c : Dev nD) (R : Refs) (J : Ins) (q0 q1 : Req)

/-- A loop whose every trip carries an invariant carries it to the end. -/
theorem go_for (body : Fin k0_t1_loop.trips → Unit → Pr Ideal Unit) (I : ℕ → St Ideal → Prop)
    (step : ∀ (t : Fin k0_t1_loop.trips) S, I t.val S → Go c R S (body t ⟨⟩) fun _ S' => I (t.val + 1) S') (S : St Ideal) (hI : I 0 S) :
    Go c R S (Scf.Loop.for k0_t1_loop k0_t1_ok ⟨⟩ body) fun _ S' => I k0_t1_loop.trips S' := by
  have key : ∀ (n k : ℕ) (hk : k + n = k0_t1_loop.trips) (S : St Ideal), I k S →
      Go c R S (Scf.forFrom body ((List.finRange k0_t1_loop.trips).drop k) ⟨⟩) fun _ S' => I k0_t1_loop.trips S' := by
    intro n
    induction n with
    | zero =>
      intro k hk S hI
      obtain rfl : k = k0_t1_loop.trips := by omega
      rw [List.drop_of_length_le (by simp)]
      exact Go.ret hI
    | succ n ih =>
      intro k hk S hI
      have hlt : k < (List.finRange k0_t1_loop.trips).length := by simp; omega
      rw [List.drop_eq_getElem_cons hlt, Scf.forFrom_cons]
      refine Go.bind (step ⟨k, by omega⟩ S hI |> fun h => ?_) fun v S' hI' => ih (k + 1) (by omega) S' hI'
      rw [List.getElem_finRange]
      exact h
  have h := key k0_t1_loop.trips 0 (by omega) S hI
  rw [List.drop_zero] at h
  unfold Scf.Loop.for
  rw [Scf.for_eq]
  exact h

/-- A trip of the time loop takes both streams one token further. -/
theorem go_trip (t : ℕ) (ht : t + 2 < 7) (S : St Ideal) (hS : Two J q0 q1 (InP q0 t) (InA q1 t) S) :
    Go c R S (trip R 0 (by decide) 1 (by decide) t (by omega) (t + 1) (by omega) (t + 2) ht) fun _ S' =>
      Two J q0 q1 (InP q0 (t + 1)) (InA q1 (t + 1)) S' := by
  unfold trip
  refine Go.bind (Go.on0 (Y := fun _ => InA q0 (t + 1)) hS (go_quantise c R S (by decide) (by decide) (by omega) (by omega) q0 hS.l0 hS.h0.1 hS.h0.2)) fun _ S1 h1 => ?_
  refine Go.bind (Go.on1 (Y := fun v H => InB q1 t H ∧ ∀ r h, v (ix2 r (up h)) = (q1.st (t + 1)).2 h) h1 (go_reduce c R S1 (by decide) (by decide) (by omega) q1 h1.h1)) fun v S2 h2 => ?_
  refine Go.bind (Go.on1 (Y := fun _ => InP q1 t) h2 (go_prepare c R S2 (by decide) (by decide) (by omega) q1 h2.h1.1 h2.l1 v h2.h1.2)) fun _ S3 h3 => ?_
  refine Go.bind (Go.on1 (Y := fun _ => InA q1 (t + 1)) h3 (go_quantise c R S3 (by decide) (by decide) (by omega) (by omega) q1 h3.l1 h3.h1.1 h3.h1.2)) fun _ S4 h4 => ?_
  refine Go.bind (Go.on0 (Y := fun v H => InB q0 (t + 1) H ∧ ∀ r h, v (ix2 r (up h)) = (q0.st (t + 2)).2 h) h4 (go_reduce c R S4 (by decide) (by decide) (by omega) q0 h4.h0)) fun v S5 h5 => ?_
  exact Go.on0 (Y := fun _ => InP q0 (t + 1)) h5 (go_prepare c R S5 (by decide) (by decide) (by omega) q0 h5.h0.1 h5.l0 v h5.h0.2)

/-- The same at the offsets the loop computes. -/
theorem go_tripAt (t : Fin k0_t1_loop.trips) (S : St Ideal) (hS : Two J q0 q1 (InP q0 t.val) (InA q1 t.val) S) :
    Go c R S (tripAt R t) fun _ S' => Two J q0 q1 (InP q0 (t.val + 1)) (InA q1 (t.val + 1)) S' := by
  unfold tripAt
  have h := tokN_eq t
  obtain ⟨e0, e1, e2, hlt⟩ := h
  have key : ∀ (a b d : ℕ) (ha : a < 7) (hb : b < 7) (hd : d < 7), a = t.val → b = t.val + 1 → d = t.val + 2 →
      Go c R S (trip R 0 (by decide) 1 (by decide) a ha b hb d hd) fun _ S' => Two J q0 q1 (InP q0 (t.val + 1)) (InA q1 (t.val + 1)) S' := by
    rintro a b d ha hb hd rfl rfl rfl
    exact go_trip c R J q0 q1 t.val hd S hS
  exact key _ _ _ _ _ _ e0 e1 e2

/-- What follows the loop: the last token. -/
theorem go_after (S : St Ideal) (hS : Two J q0 q1 (InP q0 5) (InA q1 5) S) :
    Go c R S (after R) fun _ S' => keep (ins S') = J ∧ Out q0 7 7 (half s0 S') ∧ Out q1 7 7 (half s1 S') := by
  unfold after
  refine Go.bind (Go.on0 (Y := fun _ => InA q0 6) hS (go_quantise c R S (by decide) (by decide) (by decide) (by decide) q0 hS.l0 hS.h0.1 hS.h0.2)) fun _ S1 h1 => ?_
  refine Go.bind (Go.on1 (Y := fun v H => InB q1 5 H ∧ ∀ r h, v (ix2 r (up h)) = (q1.st 6).2 h) h1 (go_reduce c R S1 (by decide) (by decide) (by decide) q1 h1.h1)) fun v S2 h2 => ?_
  refine Go.bind (Go.on1 (Y := fun _ => InP q1 5) h2 (go_prepare c R S2 (by decide) (by decide) (by decide) q1 h2.h1.1 h2.l1 v h2.h1.2)) fun _ S3 h3 => ?_
  refine Go.bind (Go.on1 (Y := fun _ => InA q1 6) h3 (go_quantise c R S3 (by decide) (by decide) (by decide) (by decide) q1 h3.l1 h3.h1.1 h3.h1.2)) fun _ S4 h4 => ?_
  refine Go.bind (Go.on0 (Y := fun _ H => InB q0 6 H) h4 (Go.mono (go_reduce c R S4 (by decide) (by decide) (by decide) q0 h4.h0) fun _ _ h => ⟨h.1, h.2.1⟩)) fun v S5 h5 => ?_
  refine Go.bind (Go.on0 (Y := fun _ => Out q0 7 7) h5 (go_quantiseLast c R S5 (by decide) (by decide) (by decide) q0 h5.l0 h5.h0)) fun _ S6 h6 => ?_
  refine Go.bind (Go.on1 (Y := fun _ H => InB q1 6 H) h6 (Go.mono (go_reduce c R S6 (by decide) (by decide) (by decide) q1 h6.h1) fun _ _ h => ⟨h.1, h.2.1⟩)) fun v S7 h7 => ?_
  exact Go.mono (Go.on1 (Y := fun _ => Out q1 7 7) h7 (go_quantiseLast c R S7 (by decide) (by decide) (by decide) q1 h7.l1 h7.h1)) fun _ S' h => ⟨h.kept, h.h0, h.h1⟩

/-- The row of the batch that stream `s` of grid point `i` works on. -/
def rowOf (i : grid0.Coords) (s : Fin 2) : Fin 320 := ⟨2 * (i 0).val + s.val, by have := rowN_eq i; omega⟩

/-- The whole body: whatever the scratches and the output blocks hold at its start, at its end the output blocks hold
    what the two requests of the blocks compute, and the input blocks are as they were. -/
theorem go_whole (i : grid0.Coords) (S : St Ideal) :
    Go c R S (whole i R) fun _ S' => keep (ins S') = keep (ins S) ∧ ∀ s, Out (reqOf (ins S) s (rowOf i s)) 7 7 (half s S') := by
  unfold whole before
  have hr := rowN_eq i
  obtain ⟨e0, e1, hlt⟩ := hr
  refine Go.bind (Q := fun _ S' => Two (keep (ins S)) (reqOf (ins S) s0 (rowOf i s0)) (reqOf (ins S) s1 (rowOf i s1)) (InP (reqOf (ins S) s0 (rowOf i s0)) 0) (InA (reqOf (ins S) s1 (rowOf i s1)) 0) S') ?_ fun _ S1 h1 => ?_
  · refine Go.bind (go_skips c R S) ?_
    rintro _ S1 ⟨D, hD, rfl⟩
    have hL : ∀ s r, Lk (reqOf (ins S) s r) s (ins (S.setDcol D)) := fun s r =>
      ⟨fun t h p => by simp only [reqOf, tk_val]; rfl, fun h p n => rfl, fun h l => hD h l⟩
    have key : ∀ (a b : ℕ) (ha : a < 320) (hb : b < 320), a = 2 * (i 0).val → b = 2 * (i 0).val + 1 →
        Go c R (S.setDcol D) (do
          first R 0 (by decide) 0 (by decide) a ha
          first R 1 (by decide) 1 (by decide) b hb
          let sc ← reduce R 0 (by decide) 0 (by decide) 0 (by decide)
          prepare R 0 (by decide) 0 (by decide) 1 (by decide) sc)
          fun _ S' => Two (keep (ins S)) (reqOf (ins S) s0 (rowOf i s0)) (reqOf (ins S) s1 (rowOf i s1)) (InP (reqOf (ins S) s0 (rowOf i s0)) 0) (InA (reqOf (ins S) s1 (rowOf i s1)) 0) S' := by
      rintro a b ha hb rfl rfl
      refine Go.bind (go_first c R (S.setDcol D) (by decide) (by decide) ha) ?_
      rintro _ S2 ⟨hk2, hA2⟩
      refine Go.bind (go_first c R S2 (by decide) (by decide) hb) ?_
      rintro _ S3 ⟨hk3, hA3⟩
      have e3 : ins S3 = ins (S.setDcol D) := hk3.2.trans hk2.2
      have h3 : Two (keep (ins S)) (reqOf (ins S) s0 (rowOf i s0)) (reqOf (ins S) s1 (rowOf i s1)) (InA (reqOf (ins S) s0 (rowOf i s0)) 0) (InA (reqOf (ins S) s1 (rowOf i s1)) 0) S3 := by
        refine ⟨(congrArg keep e3).trans rfl, e3 ▸ hL _ _, e3 ▸ hL _ _, ?_, ?_⟩
        · rw [hk3.1 s0 (by decide)]; exact hA2
        · rw [hk2.2] at hA3; exact hA3
      generalize reqOf (ins S) s0 (rowOf i s0) = q0 at h3 ⊢
      generalize reqOf (ins S) s1 (rowOf i s1) = q1 at h3 ⊢
      refine Go.bind (Go.on0 (Y := fun v H => InB q0 0 H ∧ ∀ r h, v (ix2 r (up h)) = (q0.st 1).2 h) h3 (go_reduce c R S3 (by decide) (by decide) (by decide) q0 h3.h0)) fun v S4 h4 => ?_
      exact Go.on0 (Y := fun _ => InP q0 0) h4 (go_prepare c R S4 (by decide) (by decide) (by decide) q0 h4.h0.1 h4.l0 v h4.h0.2)
    exact key _ _ _ _ e0 e1
  · refine Go.bind (go_for c R _ (fun t S' => Two (keep (ins S)) (reqOf (ins S) s0 (rowOf i s0)) (reqOf (ins S) s1 (rowOf i s1)) (InP (reqOf (ins S) s0 (rowOf i s0)) t) (InA (reqOf (ins S) s1 (rowOf i s1)) t) S')
      (fun t S' h => go_tripAt c R _ _ _ t S' h) S1 h1) fun _ S2 h2 => ?_
    have ht : k0_t1_loop.trips = 5 := by decide +kernel
    rw [ht] at h2
    suffices h : Go c R S2 (after R) fun _ S' => keep (ins S') = keep (ins S) ∧ Out (reqOf (ins S) s0 (rowOf i s0)) 7 7 (half s0 S') ∧ Out (reqOf (ins S) s1 (rowOf i s1)) 7 7 (half s1 S') by
      refine Go.mono h fun _ S' h => ⟨h.1, fun s => ?_⟩
      fin_cases s
      · exact h.2.1
      · exact h.2.2
    generalize reqOf (ins S) s0 (rowOf i s0) = q0 at h2 ⊢
    generalize reqOf (ins S) s1 (rowOf i s1) = q1 at h2 ⊢
    exact go_after c R _ q0 q1 S2 h2

end Cert.Proof.KernelIdeal
-- ==== Proof.ValueBody.lean ====
/- One run of the body, from the blocks it is given to the blocks it leaves. -/
module

public import proofs.«01_k».proof.Proof.Whole

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-- The request in row `s` of grid point `i`'s blocks. -/
def reqAt (I : Ins) (i : grid0.Coords) (s : Fin 2) : Req := reqOf I s (rowOf i s)

/-- The blocks a grid point leaves: the outputs, -/
def yBlk (I : Ins) (i : grid0.Coords) : Vec Ideal S2x7x32x64 .bf16 := fun j => (reqAt I i (j 0)).y (j 1).val (j 2) (j 3)
/-- the codes, -/
def outBlk (I : Ins) (i : grid0.Coords) : Vec Ideal S2x7x32x64x128 .fp8e4m3 := fun j => ((reqAt I i (j 0)).st ((j 1).val + 1)).1 (j 2) (j 3) (j 4)
/-- the scales. -/
def oscBlk (I : Ins) (i : grid0.Coords) : Vec Ideal S2x7x32 .f32 := fun j => scl ((reqAt I i (j 0)).m (j 1).val (j 2))

/-- The output blocks, from what holds of the two streams at the end. -/
theorem out_blocks (I : Ins) (i : grid0.Coords) (S : St Ideal) (h : ∀ s, Out (reqAt I i s) 7 7 (half s S)) :
    S.y = yBlk I i ∧ S.out = outBlk I i ∧ S.oscale = oscBlk I i := by
  refine ⟨funext fun j => ?_, funext fun j => ?_, funext fun j => ?_⟩
  · have e := (h (j 0)).y (j 1) (j 2) (j 3) (j 1).isLt
    rw [show yBlk I i j = (reqAt I i (j 0)).y (j 1).val (j 2) (j 3) from rfl, ← e]
    exact congrArg S.y (Shape.Idx.norm4 j)
  · have e := (h (j 0)).out (j 1) (j 2) (j 3) (j 4) (j 1).isLt
    rw [show outBlk I i j = ((reqAt I i (j 0)).st ((j 1).val + 1)).1 (j 2) (j 3) (j 4) from rfl, ← e]
    exact congrArg S.out (Shape.Idx.norm5 j)
  · have e := (h (j 0)).osc (j 1) (j 2) (j 1).isLt
    rw [show oscBlk I i j = scl ((reqAt I i (j 0)).m (j 1).val (j 2)) from rfl, ← e]
    exact congrArg S.oscale (Shape.Idx.norm3 j)

/-- A buffer held is a memref held at what it reads. -/
theorem held_of_pt (c : Dev nD) {sp : Space} {sh : Shape} {e : EltTy} (M : Memref sig .tc sp sh e) (f : Bf (F := Ideal) c M) :
    pt c M f ⊢ (held c M (M.view.read (Elt Ideal) f) : sProp 𝕄) := by
  unfold held
  iintro H
  iexists f
  isplitr
  · ipureintro; rfl
  iexact H

/-- And the other way round. -/
theorem pt_of_held (c : Dev nD) {sp : Space} {sh : Shape} {e : EltTy} (M : Memref sig .tc sp sh e) (X : Vec Ideal sh e) :
    (held c M X : sProp 𝕄) ⊢ iprop(∃ f : Bf (F := Ideal) c M, pt c M f) := by
  unfold held
  iintro ⟨%f, %hf, H⟩
  iexists f
  iexact H

/-- What a run starts from: the input blocks, and the output blocks and the scratches holding anything. -/
def Start (c : Dev nD) (R : Refs) (I : Ins) : sProp 𝕄 :=
  iprop(held c R.x I.x ∗ held c R.codes I.codes ∗ held c R.sscale I.sscale ∗ held c R.B I.B ∗ held c R.C I.C ∗ held c R.dt I.dt ∗ held c R.bias I.bias ∗ held c R.alog I.alog ∗ held c R.dskip I.dskip ∗ (∃ X, held c R.y X) ∗ (∃ X, held c R.out X) ∗ (∃ X, held c R.oscale X) ∗ (∃ f : Bf (F := Ideal) c R.w, pt c R.w f) ∗ (∃ f : Bf (F := Ideal) c R.mx, pt c R.mx f) ∗ (∃ f : Bf (F := Ideal) c R.gate, pt c R.gate f) ∗ (∃ f : Bf (F := Ideal) c R.inv, pt c R.inv f) ∗ (∃ f : Bf (F := Ideal) c R.dec, pt c R.dec f) ∗ (∃ f : Bf (F := Ideal) c R.u, pt c R.u f) ∗ (∃ f : Bf (F := Ideal) c R.bc, pt c R.bc f) ∗ (∃ f : Bf (F := Ideal) c R.scol, pt c R.scol f) ∗ (∃ f : Bf (F := Ideal) c R.dcol, pt c R.dcol f))

/-- What it ends with: the input blocks as they were, the output blocks what the requests compute. -/
def Finish (c : Dev nD) (R : Refs) (I : Ins) (i : grid0.Coords) : sProp 𝕄 :=
  iprop(held c R.x I.x ∗ held c R.codes I.codes ∗ held c R.sscale I.sscale ∗ held c R.B I.B ∗ held c R.C I.C ∗ held c R.dt I.dt ∗ held c R.bias I.bias ∗ held c R.alog I.alog ∗ held c R.dskip I.dskip ∗ held c R.y (yBlk I i) ∗ held c R.out (outBlk I i) ∗ held c R.oscale (oscBlk I i) ∗ (∃ f : Bf (F := Ideal) c R.w, pt c R.w f) ∗ (∃ f : Bf (F := Ideal) c R.mx, pt c R.mx f) ∗ (∃ f : Bf (F := Ideal) c R.gate, pt c R.gate f) ∗ (∃ f : Bf (F := Ideal) c R.inv, pt c R.inv f) ∗ (∃ f : Bf (F := Ideal) c R.dec, pt c R.dec f) ∗ (∃ f : Bf (F := Ideal) c R.u, pt c R.u f) ∗ (∃ f : Bf (F := Ideal) c R.bc, pt c R.bc f) ∗ (∃ f : Bf (F := Ideal) c R.scol, pt c R.scol f) ∗ (∃ f : Bf (F := Ideal) c R.dcol, pt c R.dcol f))

/-- The end of a run, from the state it ends in. -/
theorem finish_of (c : Dev nD) (R : Refs) (I : Ins) (i : grid0.Coords) (S : St Ideal) (hk : keep (ins S) = keep I)
    (h : ∀ s, Out (reqAt I i s) 7 7 (half s S)) : All c R S ⊢ Finish c R I i := by
  obtain ⟨ey, eo, es⟩ := out_blocks I i S h
  have e_x : S.x = I.x := congrArg Ins.x hk
  have e_codes : S.codes = I.codes := congrArg Ins.codes hk
  have e_sscale : S.sscale = I.sscale := congrArg Ins.sscale hk
  have e_B : S.B = I.B := congrArg Ins.B hk
  have e_C : S.C = I.C := congrArg Ins.C hk
  have e_dt : S.dt = I.dt := congrArg Ins.dt hk
  have e_bias : S.bias = I.bias := congrArg Ins.bias hk
  have e_alog : S.alog = I.alog := congrArg Ins.alog hk
  have e_dskip : S.dskip = I.dskip := congrArg Ins.dskip hk
  unfold All Finish
  rw [ey, eo, es, e_x, e_codes, e_sscale, e_B, e_C, e_dt, e_bias, e_alog, e_dskip]
  exact BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono (pt_of_held c _ _) (BIClass.sep_mono (pt_of_held c _ _) (BIClass.sep_mono (pt_of_held c _ _) (BIClass.sep_mono (pt_of_held c _ _) (BIClass.sep_mono (pt_of_held c _ _) (BIClass.sep_mono (pt_of_held c _ _) (BIClass.sep_mono (pt_of_held c _ _) (BIClass.sep_mono (pt_of_held c _ _) (pt_of_held c _ _))))))))))))))))))))

/-- The whole body takes the one to the other. -/
theorem run_whole (c : Dev nD) (R : Refs) (I : Ins) (i : grid0.Coords) :
    Start c R I ⊢ wp frame (wpE (defs₀ (F := Ideal)) 𝒱₀ c none) Set.univ (whole i R) (fun _ => Finish c R I i) := by
  unfold Start
  iintro ⟨Hx, Hcodes, Hsscale, HB, HC, Hdt, Hbias, Halog, Hdskip, ⟨%Y, Hy⟩, ⟨%O, Hout⟩, ⟨%Z, Hoscale⟩, ⟨%f0, Hw⟩, ⟨%f1, Hmx⟩, ⟨%f2, Hgate⟩, ⟨%f3, Hinv⟩, ⟨%f4, Hdec⟩, ⟨%f5, Hu⟩, ⟨%f6, Hbc⟩, ⟨%f7, Hscol⟩, ⟨%f8, Hdcol⟩⟩
  iapply (go_whole c R i ⟨I.x, I.codes, I.sscale, I.B, I.C, I.dt, I.bias, I.alog, I.dskip, Y, O, Z, R.w.view.read (Elt Ideal) f0, R.mx.view.read (Elt Ideal) f1, R.gate.view.read (Elt Ideal) f2, R.inv.view.read (Elt Ideal) f3, R.dec.view.read (Elt Ideal) f4, R.u.view.read (Elt Ideal) f5, R.bc.view.read (Elt Ideal) f6, R.scol.view.read (Elt Ideal) f7, R.dcol.view.read (Elt Ideal) f8⟩ (fun _ => Finish c R I i) fun _ S' hS => finish_of c R I i S' hS.1 hS.2)
  unfold All
  isplitl [Hx]; · iexact Hx
  isplitl [Hcodes]; · iexact Hcodes
  isplitl [Hsscale]; · iexact Hsscale
  isplitl [HB]; · iexact HB
  isplitl [HC]; · iexact HC
  isplitl [Hdt]; · iexact Hdt
  isplitl [Hbias]; · iexact Hbias
  isplitl [Halog]; · iexact Halog
  isplitl [Hdskip]; · iexact Hdskip
  isplitl [Hy]; · iexact Hy
  isplitl [Hout]; · iexact Hout
  isplitl [Hoscale]; · iexact Hoscale
  isplitl [Hw]; · iapply (held_of_pt c R.w f0); iexact Hw
  isplitl [Hmx]; · iapply (held_of_pt c R.mx f1); iexact Hmx
  isplitl [Hgate]; · iapply (held_of_pt c R.gate f2); iexact Hgate
  isplitl [Hinv]; · iapply (held_of_pt c R.inv f3); iexact Hinv
  isplitl [Hdec]; · iapply (held_of_pt c R.dec f4); iexact Hdec
  isplitl [Hu]; · iapply (held_of_pt c R.u f5); iexact Hu
  isplitl [Hbc]; · iapply (held_of_pt c R.bc f6); iexact Hbc
  isplitl [Hscol]; · iapply (held_of_pt c R.scol f7); iexact Hscol
  iapply (held_of_pt c R.dcol f8); iexact Hdcol

end Cert.Proof.KernelIdeal

end
-- ==== Proof.ProgramTrip.lean ====
/- One trip of the printed time loop is one trip of the program in sections. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Program
public import Idealize.ShloMosaic.Lib.Tactic

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F]

/-- Two programs agree when they begin with the same operation and go on equally whatever it answers. -/
theorem op_congr {E : Type → Type} {α β : Type} {e e' : E β} {k k' : β → Prog E α} (he : e = e') (hk : ∀ v, k v = k' v) :
    Prog.op e k = Prog.op e' k' := by
  subst he; congr 1; exact funext hk

set_option maxHeartbeats 0 in
/-- The printed body of the loop is one trip. -/
theorem tripAt_eq (i : grid0.Coords) (R : Refs) (v56 v57 : BitVec 32) (v : FVec F S64x128 .f32) (t : Fin k0_t1_loop.trips) (h56 : v56 = 0#32) (h57 : v57 = 1#32) :
    Gen.k0_t1_body (F := F) i R.x R.hx R.codes R.hcodes R.sscale R.hsscale R.B R.hB R.C R.hC R.dt R.hdt R.bias R.hbias R.alog R.halog R.dskip R.hdskip R.y R.hy R.out R.hout R.oscale R.hoscale R.w R.hw R.mx R.hmx R.gate R.hgate R.inv R.hinv R.dec R.hdec R.u R.hu R.bc R.hbc R.scol R.hscol R.dcol R.hdcol v56 v57 v t () = tripAt R t := by
  subst h56 h57
  conv_lhs => whnf
  conv_rhs => whnf
  repeat
    refine op_congr ?_ fun v => ?_
    · rfl
    conv_lhs => whnf
    conv_rhs => whnf
  rfl

end Cert.Proof.KernelIdeal
-- ==== Proof.ProgramWhole.lean ====
/- The printed body is the program in sections. -/
module

public import proofs.«01_k».proof.Proof.Gen.KernelIdeal
public import proofs.«01_k».proof.Proof.Gen.KernelIdeal.Skeleton
public import proofs.«01_k».proof.Proof.Gen.KernelIdeal.Loops
public import proofs.«01_k».proof.Proof.ProgramTrip
public import Idealize.ShloMosaic.Lib.Tactic

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F]

/-- A value passed on. -/
theorem ret_bind' {E : Type → Type} {α β : Type} (a : α) (k : α → Prog E β) : Prog.bind (Prog.ret a) k = k a := rfl
/-- Equal parts make equal programs. -/
theorem bind_eq' {E : Type → Type} {α β : Type} (p : Prog E α) (k : α → Prog E β) : p >>= k = Prog.bind p k := rfl
/-- Sequencing is associative. -/
theorem bind_assoc' {E : Type → Type} {α β γ : Type} (p : Prog E α) (f : α → Prog E β) (g : β → Prog E γ) :
    Prog.bind (Prog.bind p f) g = Prog.bind p (fun a => Prog.bind (f a) g) := Prog.bind_assoc p f g
/-- Two programs agree when they begin with equal programs and go on equally. -/
theorem bind_congr' {E : Type → Type} {α β : Type} {p p' : Prog E β} {k k' : β → Prog E α} (hp : p = p') (hk : ∀ v, k v = k' v) :
    Prog.bind p k = Prog.bind p' k' := by
  subst hp; congr 1; exact funext hk

set_option maxHeartbeats 0 in
/-- The printed kernel body is the structured program. -/
theorem whole_eq (i : grid0.Coords) (R : Refs) :
    cc0_mamba2_fp8_verify_skel (F := F) i R.x R.hx R.codes R.hcodes R.sscale R.hsscale R.B R.hB R.C R.hC R.dt R.hdt R.bias R.hbias R.alog R.halog R.dskip R.hdskip R.y R.hy R.out R.hout R.oscale R.hoscale R.w R.hw R.mx R.hmx R.gate R.hgate R.inv R.hinv R.dec R.hdec R.u R.hu R.bc R.hbc R.scol R.hscol R.dcol R.hdcol = whole i R := by
  conv_lhs => whnf
  conv_rhs => whnf
  repeat
    refine op_congr ?_ fun v => ?_
    · rfl
    conv_lhs => whnf
    conv_rhs => whnf
  conv_lhs => simp only [ret_bind', bind_eq', bind_assoc']
  conv_rhs => simp only [ret_bind', bind_eq', bind_assoc']
  refine bind_congr' ?_ fun v => ?_
  · refine congrArg (Scf.Loop.for k0_t1_loop k0_t1_ok PUnit.unit) (funext fun t => funext fun _ => ?_)
    exact tripAt_eq i R _ _ (fun _ => Scalar.ofBits .f32 0x00000000#32) t rfl rfl
  conv_lhs => whnf
  conv_rhs => whnf
  repeat
    refine op_congr ?_ fun v => ?_
    · rfl
    conv_lhs => whnf
    conv_rhs => whnf
  rfl

end Cert.Proof.KernelIdeal
-- ==== Proof.KernelIdealValue.lean ====
/- The launch of the idealized kernel with what every grid point leaves named. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.ValueBody
public import proofs.«01_k».proof.Proof.ProgramWhole
public import Idealize.ShloMosaic.Lib.Pipeline.Frame
public import Idealize.ShloMosaic.Lib.Pipeline.FrameBody
public import Idealize.ShloMosaic.Lib.Tactic

@[expose] public section

noncomputable section

namespace Cert.Proof.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UU nD τ) ℕ

variable (m : (ℓ : Loc nD τ sig) → Buf (Elt Ideal) ℓ) (ρ : Dev nD → PrngReg)

/-- The input blocks of a grid point. -/
def insAt (c : Dev nD) (t : Fin cfg0.N) : Ins :=
  ⟨iblk m c 0 t, iblk m c 1 t, iblk m c 2 t, iblk m c 3 t, iblk m c 4 t, iblk m c 5 t, iblk m c 6 t, iblk m c 7 t, iblk m c 8 t, fun _ => 0⟩

/-- A whole memref held at read contents `X`. -/
theorem owns_eq_held (c : Dev nD) {sp : Space} {S : Shape} {e : EltTy} {M : Memref sig .tc sp S e} (h : M.IsWhole) (X : Vec Ideal S e) :
    (owns (c : Thread nD τ) M fullShare X : sProp 𝕄) = held c M X := by
  unfold owns held; rw [h.set_eq_univ]

/-- The proof data: the arrays as the region finds them; every staged input left in place; the outputs the blocks that
    the two requests compute. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => yBlk (insAt m c t) (grid0.coords t)
    | ⟨10, _⟩ => outBlk (insAt m c t) (grid0.coords t)
    | ⟨11, _⟩ => oscBlk (insAt m c t) (grid0.coords t)
  Φ _ := Pipeline.ΦA spec0 c
  q _ := fullShare
  owed _ := 0

/-- The arrays as the region finds them. -/
theorem A_eq (c : Dev nD) (w : Fin cfg0.W) : (dats m 0 c).A w = V m c (Pipeline.arrRef spec0 w) := by
  dsimp only [dats]
/-- What window 0 holds after the body. -/
theorem after_0 (c : Dev nD) (t : Fin cfg0.N) : (dats m 0 c).after 0 t = iblk m c 0 t := by dsimp only [dats]
/-- What window 0 holds before it. -/
theorem before_0 (c : Dev nD) (t : Fin cfg0.N) (d) : (dats m 0 c).before 0 t d = iblk m c 0 t :=
  before0_0_of m (dats m 0 c) (A_eq m c 0) (after_0 m c) t d
/-- What window 1 holds after the body. -/
theorem after_1 (c : Dev nD) (t : Fin cfg0.N) : (dats m 0 c).after 1 t = iblk m c 1 t := by dsimp only [dats]
/-- What window 1 holds before it. -/
theorem before_1 (c : Dev nD) (t : Fin cfg0.N) (d) : (dats m 0 c).before 1 t d = iblk m c 1 t :=
  before0_1_of m (dats m 0 c) (A_eq m c 1) (after_1 m c) t d
/-- What window 2 holds after the body. -/
theorem after_2 (c : Dev nD) (t : Fin cfg0.N) : (dats m 0 c).after 2 t = iblk m c 2 t := by dsimp only [dats]
/-- What window 2 holds before it. -/
theorem before_2 (c : Dev nD) (t : Fin cfg0.N) (d) : (dats m 0 c).before 2 t d = iblk m c 2 t :=
  before0_2_of m (dats m 0 c) (A_eq m c 2) (after_2 m c) t d
/-- What window 3 holds after the body. -/
theorem after_3 (c : Dev nD) (t : Fin cfg0.N) : (dats m 0 c).after 3 t = iblk m c 3 t := by dsimp only [dats]
/-- What window 3 holds before it. -/
theorem before_3 (c : Dev nD) (t : Fin cfg0.N) (d) : (dats m 0 c).before 3 t d = iblk m c 3 t :=
  before0_3_of m (dats m 0 c) (A_eq m c 3) (after_3 m c) t d
/-- What window 4 holds after the body. -/
theorem after_4 (c : Dev nD) (t : Fin cfg0.N) : (dats m 0 c).after 4 t = iblk m c 4 t := by dsimp only [dats]
/-- What window 4 holds before it. -/
theorem before_4 (c : Dev nD) (t : Fin cfg0.N) (d) : (dats m 0 c).before 4 t d = iblk m c 4 t :=
  before0_4_of m (dats m 0 c) (A_eq m c 4) (after_4 m c) t d
/-- What window 5 holds after the body. -/
theorem after_5 (c : Dev nD) (t : Fin cfg0.N) : (dats m 0 c).after 5 t = iblk m c 5 t := by dsimp only [dats]
/-- What window 5 holds before it. -/
theorem before_5 (c : Dev nD) (t : Fin cfg0.N) (d) : (dats m 0 c).before 5 t d = iblk m c 5 t :=
  before0_5_of m (dats m 0 c) (A_eq m c 5) (after_5 m c) t d
/-- What window 6 holds after the body. -/
theorem after_6 (c : Dev nD) (t : Fin cfg0.N) : (dats m 0 c).after 6 t = iblk m c 6 t := by dsimp only [dats]
/-- What window 6 holds before it. -/
theorem before_6 (c : Dev nD) (t : Fin cfg0.N) (d) : (dats m 0 c).before 6 t d = iblk m c 6 t :=
  before0_6_of m (dats m 0 c) (A_eq m c 6) (after_6 m c) t d
/-- What window 7 holds after the body. -/
theorem after_7 (c : Dev nD) (t : Fin cfg0.N) : (dats m 0 c).after 7 t = iblk m c 7 t := by dsimp only [dats]
/-- What window 7 holds before it. -/
theorem before_7 (c : Dev nD) (t : Fin cfg0.N) (d) : (dats m 0 c).before 7 t d = iblk m c 7 t :=
  before0_7_of m (dats m 0 c) (A_eq m c 7) (after_7 m c) t d
/-- What window 8 holds after the body. -/
theorem after_8 (c : Dev nD) (t : Fin cfg0.N) : (dats m 0 c).after 8 t = iblk m c 8 t := by dsimp only [dats]
/-- What window 8 holds before it. -/
theorem before_8 (c : Dev nD) (t : Fin cfg0.N) (d) : (dats m 0 c).before 8 t d = iblk m c 8 t :=
  before0_8_of m (dats m 0 c) (A_eq m c 8) (after_8 m c) t d

/-- What window 9 holds after the body. -/
theorem after_9 (c : Dev nD) (t : Fin cfg0.N) : (dats m 0 c).after 9 t = yBlk (insAt m c t) (grid0.coords t) := by dsimp only [dats]
/-- What window 10 holds after the body. -/
theorem after_10 (c : Dev nD) (t : Fin cfg0.N) : (dats m 0 c).after 10 t = outBlk (insAt m c t) (grid0.coords t) := by dsimp only [dats]
/-- What window 11 holds after the body. -/
theorem after_11 (c : Dev nD) (t : Fin cfg0.N) : (dats m 0 c).after 11 t = oscBlk (insAt m c t) (grid0.coords t) := by dsimp only [dats]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The buffers the body is called with at point `t`. -/
def refsAt (t : Fin cfg0.N) : Refs :=
  ⟨st0_0 t, hstage0_0 ((cfg0.slots t 0).cast nbuf0_0), st0_1 t, hstage0_1 ((cfg0.slots t 1).cast nbuf0_1), st0_2 t, hstage0_2 ((cfg0.slots t 2).cast nbuf0_2), st0_3 t, hstage0_3 ((cfg0.slots t 3).cast nbuf0_3), st0_4 t, hstage0_4 ((cfg0.slots t 4).cast nbuf0_4), st0_5 t, hstage0_5 ((cfg0.slots t 5).cast nbuf0_5), st0_6 t, hstage0_6 ((cfg0.slots t 6).cast nbuf0_6), st0_7 t, hstage0_7 ((cfg0.slots t 7).cast nbuf0_7), st0_8 t, hstage0_8 ((cfg0.slots t 8).cast nbuf0_8), st0_9 t, hstage0_9 ((cfg0.slots t 9).cast nbuf0_9), st0_10 t, hstage0_10 ((cfg0.slots t 10).cast nbuf0_10), st0_11 t, hstage0_11 ((cfg0.slots t 11).cast nbuf0_11), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _⟩

/-- The body at a grid point is the program in sections. -/
theorem body_eq (t : Fin cfg0.N) : bodyAt0 (F := Ideal) t = whole (grid0.coords t) (refsAt t) := by
  delta bodyAt0
  rw [cc0_mamba2_fp8_verify_eq_skeleton]
  exact whole_eq (grid0.coords t) (refsAt t)

set_option maxHeartbeats 1000000 in
/-- The body at any point: its buffers gathered, `run_whole`, and the buffers taken apart again. -/
theorem sound_body (c : Dev nD) (t : Fin cfg0.N) :
    bodyPre m c t ⊢ wp frame (wpE (defs₀ (F := Ideal)) Variants.none c none) Set.univ (bodyAt0 t) (fun _ => bodyPost m c t) := by
  rw [body_eq t]
  unfold bodyPre bodyPost
  simp only [before_0, before_1, before_2, before_3, before_4, before_5, before_6, before_7, before_8, after_0, after_1, after_2, after_3, after_4, after_5, after_6, after_7, after_8, after_9, after_10, after_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  simp only [owns_eq_held c (M := st0_0 t) (hstage0_0 ((cfg0.slots t 0).cast nbuf0_0)), owns_eq_held c (M := st0_1 t) (hstage0_1 ((cfg0.slots t 1).cast nbuf0_1)), owns_eq_held c (M := st0_2 t) (hstage0_2 ((cfg0.slots t 2).cast nbuf0_2)), owns_eq_held c (M := st0_3 t) (hstage0_3 ((cfg0.slots t 3).cast nbuf0_3)), owns_eq_held c (M := st0_4 t) (hstage0_4 ((cfg0.slots t 4).cast nbuf0_4)), owns_eq_held c (M := st0_5 t) (hstage0_5 ((cfg0.slots t 5).cast nbuf0_5)), owns_eq_held c (M := st0_6 t) (hstage0_6 ((cfg0.slots t 6).cast nbuf0_6)), owns_eq_held c (M := st0_7 t) (hstage0_7 ((cfg0.slots t 7).cast nbuf0_7)), owns_eq_held c (M := st0_8 t) (hstage0_8 ((cfg0.slots t 8).cast nbuf0_8)), owns_eq_held c (M := st0_9 t) (hstage0_9 ((cfg0.slots t 9).cast nbuf0_9)), owns_eq_held c (M := st0_10 t) (hstage0_10 ((cfg0.slots t 10).cast nbuf0_10)), owns_eq_held c (M := st0_11 t) (hstage0_11 ((cfg0.slots t 11).cast nbuf0_11))]
  iintro ⟨⟨⟨S0, S1, S2, S3, S4, S5, S6, S7, S8⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r frame (wpE (defs₀ (F := Ideal)) Variants.none c none) Set.univ (Q := fun _ => Finish c (refsAt t) (insAt m c t) (grid0.coords t)))
  isplitr [Hr Ho]
  · iapply (run_whole c (refsAt t) (insAt m c t) (grid0.coords t))
    unfold Start
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iintro %v HF
  unfold Finish
  icases HF with ⟨H0, H1, H2, H3, H4, H5, H6, H7, H8, H9, H10, H11, S0, S1, S2, S3, S4, S5, S6, S7, S8⟩
  isplitl [Hr S0 S1 S2 S3 S4 S5 S6 S7 S8]
  · isplitr [Hr]; swap; · iexact Hr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: at the end every array is what the blocks make it, and every other buffer of @main as the region found it. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Proof.KernelIdeal.Exact

end
-- ==== Proof.Request.lean ====
/- The requests of a batch, read off the argument arrays, and the three result arrays they make. -/
module

public import proofs.«01_k».proof.Proof.Spec

@[expose] public section

set_option maxRecDepth 16384

noncomputable section

namespace Cert.Proof

open Idealize.ShloMosaic Idealize.ShloMosaic.TcCoe
open Cert.Proof.KernelIdeal (Req tk soft)

/-- The nine argument arrays. -/
structure Batch where
  x : (⟨4, ![320, 7, 32, 64]⟩ : Shape).Idx → EReal
  codes : (⟨4, ![320, 32, 64, 128]⟩ : Shape).Idx → EReal
  sscale : (⟨2, ![320, 32]⟩ : Shape).Idx → EReal
  B : (⟨4, ![320, 7, 1, 128]⟩ : Shape).Idx → EReal
  C : (⟨4, ![320, 7, 1, 128]⟩ : Shape).Idx → EReal
  dt : (⟨3, ![320, 7, 32]⟩ : Shape).Idx → EReal
  bias : (⟨1, ![32]⟩ : Shape).Idx → EReal
  alog : (⟨1, ![32]⟩ : Shape).Idx → EReal
  dskip : (⟨1, ![32]⟩ : Shape).Idx → EReal

variable (b : Batch)

/-- Request `r` of the batch. -/
def Batch.req (r : Fin 320) : Req where
  x t h p := b.x (ix4 r (tk t) h p)
  k h p n := b.codes (ix4 r h p n)
  sc h := b.sscale (ix2 r h)
  B t n := b.B (ix4 r (tk t) (0 : Fin 1) n)
  C t n := b.C (ix4 r (tk t) (0 : Fin 1) n)
  dl t h := soft (b.dt (ix3 r (tk t) h) + b.bias (ix1 h))
  dk t h := Ideal.exp ((0 - soft (b.dt (ix3 r (tk t) h) + b.bias (ix1 h))) * Ideal.exp (b.alog (ix1 h)))
  sk h := b.dskip (ix1 h)

/-- The outputs, -/
def Batch.y : (⟨4, ![320, 7, 32, 64]⟩ : Shape).Idx → EReal := fun j => (b.req (j 0)).y (j 1).val (j 2) (j 3)
/-- the codes of the state after every token, -/
def Batch.codesOut : (⟨5, ![320, 7, 32, 64, 128]⟩ : Shape).Idx → EReal := fun j => ((b.req (j 0)).st ((j 1).val + 1)).1 (j 2) (j 3) (j 4)
/-- and their scales. -/
def Batch.scales : (⟨3, ![320, 7, 32]⟩ : Shape).Idx → EReal := fun j => ((b.req (j 0)).st ((j 1).val + 1)).2 (j 2)

end Cert.Proof

end
-- ==== Proof.KernelArray.lean ====
/- The kernel's three result arrays, from the blocks its grid points leave. -/
module

public import proofs.«01_k».proof.Proof.KernelIdealValue
public import proofs.«01_k».proof.Proof.Request
public import Idealize.ShloMosaic.Lib.Pipeline.ValueKit
public import Idealize.ShloMosaic.Lib.Claim

@[expose] public section

set_option maxRecDepth 16384

noncomputable section

namespace Cert.Proof.KernelIdeal.Exact

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The batch in the argument arrays. -/
def batchOf : Batch :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8)⟩

/-- The row of the batch. -/
theorem rowOf_val (i : grid0.Coords) (s : Fin 2) : (rowOf i s).val = 2 * (i 0).val + s.val := rfl

/-! ### Where each window's blocks lie -/

/-- Window 0. -/
theorem idx0 : ∀ t : Fin cfg0.N, win0_0.index t = ![(grid0.coords t 0).val, 0, 0, 0] := (by decide +kernel : ∀ t : Fin grid0.N, _)
/-- Window 1. -/
theorem idx1 : ∀ t : Fin cfg0.N, win0_1.index t = ![(grid0.coords t 0).val, 0, 0, 0] := (by decide +kernel : ∀ t : Fin grid0.N, _)
/-- Window 2. -/
theorem idx2 : ∀ t : Fin cfg0.N, win0_2.index t = ![0, 0] := (by decide +kernel : ∀ t : Fin grid0.N, _)
/-- Window 3. -/
theorem idx3 : ∀ t : Fin cfg0.N, win0_3.index t = ![(grid0.coords t 0).val, 0, 0] := (by decide +kernel : ∀ t : Fin grid0.N, _)
/-- Window 4. -/
theorem idx4 : ∀ t : Fin cfg0.N, win0_4.index t = ![(grid0.coords t 0).val, 0, 0] := (by decide +kernel : ∀ t : Fin grid0.N, _)
/-- Window 5. -/
theorem idx5 : ∀ t : Fin cfg0.N, win0_5.index t = ![(grid0.coords t 0).val, 0, 0] := (by decide +kernel : ∀ t : Fin grid0.N, _)
/-- Window 6. -/
theorem idx6 : ∀ t : Fin cfg0.N, win0_6.index t = ![0, 0] := (by decide +kernel : ∀ t : Fin grid0.N, _)
/-- Window 7. -/
theorem idx7 : ∀ t : Fin cfg0.N, win0_7.index t = ![0, 0] := (by decide +kernel : ∀ t : Fin grid0.N, _)
/-- Window 8. -/
theorem idx8 : ∀ t : Fin cfg0.N, win0_8.index t = ![0, 0] := (by decide +kernel : ∀ t : Fin grid0.N, _)
/-- Window 9. -/
theorem idx9 : ∀ t : Fin cfg0.N, win0_9.index t = ![(grid0.coords t 0).val, 0, 0, 0] := (by decide +kernel : ∀ t : Fin grid0.N, _)
/-- Window 10. -/
theorem idx10 : ∀ t : Fin cfg0.N, win0_10.index t = ![(grid0.coords t 0).val, 0, 0, 0, 0] := (by decide +kernel : ∀ t : Fin grid0.N, _)
/-- Window 11. -/
theorem idx11 : ∀ t : Fin cfg0.N, win0_11.index t = ![(grid0.coords t 0).val, 0, 0] := (by decide +kernel : ∀ t : Fin grid0.N, _)

/-! ### What the operands reshaped on the host hold -/

/-- B without its axis of length one. -/
theorem V_B (r : Fin 320) (k : Fin 7) (n : Fin 128) :
    (V m c main_v0 : Vec Ideal S320x7x128 .bf16) (ix3 r k n) = m ((c.tc : Thread nD τ).loc main_arg3) (ix4 r k (0 : Fin 1) n) := by
  entry_read
  pointwise []

/-- C likewise. -/
theorem V_C (r : Fin 320) (k : Fin 7) (n : Fin 128) :
    (V m c main_v1 : Vec Ideal S320x7x128 .bf16) (ix3 r k n) = m ((c.tc : Thread nD τ).loc main_arg4) (ix4 r k (0 : Fin 1) n) := by
  entry_read
  pointwise []

/-- The bias as one row. -/
theorem V_bias (h : Fin 32) : (V m c main_v2 : Vec Ideal S1x32 .f32) (ix2 (0 : Fin 1) h) = m ((c.tc : Thread nD τ).loc main_arg6) (ix1 h) := by
  entry_read
  pointwise []

/-- The log rates as one row. -/
theorem V_alog (h : Fin 32) : (V m c main_v3 : Vec Ideal S1x32 .f32) (ix2 (0 : Fin 1) h) = m ((c.tc : Thread nD τ).loc main_arg7) (ix1 h) := by
  entry_read
  pointwise []

/-- The skips as one row. -/
theorem V_skip (h : Fin 32) : (V m c main_v4 : Vec Ideal S1x32 .f32) (ix2 (0 : Fin 1) h) = m ((c.tc : Thread nD τ).loc main_arg8) (ix1 h) := by
  entry_read
  pointwise []

/-! ### What the input blocks hold -/

variable (t : Fin cfg0.N)

/-- A block of x: rows of two requests. -/
theorem blk_x (s : Fin 2) (k : Fin 7) (h : Fin 32) (p : Fin 64) :
    (iblk m c 0 t : Vec Ideal S2x7x32x64 .bf16) (ix4 s k h p) = (batchOf m c).x (ix4 (rowOf (grid0.coords t) s) k h p) := by
  blk_ext [iblk, V_main_arg0 m c, idx0 t, rowOf_val]

/-- A block of codes. -/
theorem blk_codes (s : Fin 2) (h : Fin 32) (p : Fin 64) (n : Fin 128) :
    (iblk m c 1 t : Vec Ideal S2x32x64x128 .fp8e4m3) (ix4 s h p n) = (batchOf m c).codes (ix4 (rowOf (grid0.coords t) s) h p n) := by
  blk_ext [iblk, V_main_arg1 m c, idx1 t, rowOf_val]

/-- The scales, whole. -/
theorem blk_sscale (r : Fin 320) (h : Fin 32) :
    (iblk m c 2 t : Vec Ideal S320x32 .f32) (ix2 r h) = (batchOf m c).sscale (ix2 r h) := by
  blk_ext [iblk, V_main_arg2 m c, idx2 t]

/-- A block of B. -/
theorem blk_B (s : Fin 2) (k : Fin 7) (n : Fin 128) :
    (iblk m c 3 t : Vec Ideal S2x7x128 .bf16) (ix3 s k n) = (batchOf m c).B (ix4 (rowOf (grid0.coords t) s) k (0 : Fin 1) n) :=
  ((by blk_ext [iblk, idx3 t, rowOf_val] :
    (iblk m c 3 t : Vec Ideal S2x7x128 .bf16) (ix3 s k n) = (V m c main_v0 : Vec Ideal S320x7x128 .bf16) (ix3 (rowOf (grid0.coords t) s) k n))).trans (V_B m c _ k n)

/-- A block of C. -/
theorem blk_C (s : Fin 2) (k : Fin 7) (n : Fin 128) :
    (iblk m c 4 t : Vec Ideal S2x7x128 .bf16) (ix3 s k n) = (batchOf m c).C (ix4 (rowOf (grid0.coords t) s) k (0 : Fin 1) n) :=
  ((by blk_ext [iblk, idx4 t, rowOf_val] :
    (iblk m c 4 t : Vec Ideal S2x7x128 .bf16) (ix3 s k n) = (V m c main_v1 : Vec Ideal S320x7x128 .bf16) (ix3 (rowOf (grid0.coords t) s) k n))).trans (V_C m c _ k n)

/-- A block of dt. -/
theorem blk_dt (s : Fin 2) (k : Fin 7) (h : Fin 32) :
    (iblk m c 5 t : Vec Ideal S2x7x32 .f32) (ix3 s k h) = (batchOf m c).dt (ix3 (rowOf (grid0.coords t) s) k h) := by
  blk_ext [iblk, V_main_arg5 m c, idx5 t, rowOf_val]

/-- The bias, whole. -/
theorem blk_bias (h : Fin 32) : (iblk m c 6 t : Vec Ideal S1x32 .f32) (ix2 (0 : Fin 1) h) = (batchOf m c).bias (ix1 h) :=
  ((by blk_ext [iblk, idx6 t] : (iblk m c 6 t : Vec Ideal S1x32 .f32) (ix2 (0 : Fin 1) h) = (V m c main_v2 : Vec Ideal S1x32 .f32) (ix2 (0 : Fin 1) h))).trans (V_bias m c h)

/-- The log rates, whole. -/
theorem blk_alog (h : Fin 32) : (iblk m c 7 t : Vec Ideal S1x32 .f32) (ix2 (0 : Fin 1) h) = (batchOf m c).alog (ix1 h) :=
  ((by blk_ext [iblk, idx7 t] : (iblk m c 7 t : Vec Ideal S1x32 .f32) (ix2 (0 : Fin 1) h) = (V m c main_v3 : Vec Ideal S1x32 .f32) (ix2 (0 : Fin 1) h))).trans (V_alog m c h)

/-- The skips, whole. -/
theorem blk_skip (h : Fin 32) : (iblk m c 8 t : Vec Ideal S1x32 .f32) (ix2 (0 : Fin 1) h) = (batchOf m c).dskip (ix1 h) :=
  ((by blk_ext [iblk, idx8 t] : (iblk m c 8 t : Vec Ideal S1x32 .f32) (ix2 (0 : Fin 1) h) = (V m c main_v4 : Vec Ideal S1x32 .f32) (ix2 (0 : Fin 1) h))).trans (V_skip m c h)

/-- Stream `s` of grid point `t` works on its request of the batch. -/
theorem req_at (s : Fin 2) : reqAt (insAt m c t) (grid0.coords t) s = (batchOf m c).req (rowOf (grid0.coords t) s) := by
  have hd : ∀ k h, soft ((insAt m c t).dt (ix3 s (tk k) h) + (insAt m c t).bias (ix2 0 h))
      = soft ((batchOf m c).dt (ix3 (rowOf (grid0.coords t) s) (tk k) h) + (batchOf m c).bias (ix1 h)) := fun k h =>
    congrArg soft (congrArg₂ (· + ·) (blk_dt m c t s (tk k) h) (blk_bias m c t h))
  simp only [reqAt, reqOf, Batch.req, Req.mk.injEq]
  refine ⟨?_, ?_, ?_, ?_, ?_, ?_, ?_, ?_⟩
  · funext k h p; exact blk_x m c t s (tk k) h p
  · funext h p n; exact blk_codes m c t s h p n
  · funext h; exact blk_sscale m c t _ h
  · funext k n; exact blk_B m c t s (tk k) n
  · funext k n; exact blk_C m c t s (tk k) n
  · funext k h; exact hd k h
  · funext k h; rw [hd k h]; exact congrArg Ideal.exp (congrArg₂ (· * ·) rfl (congrArg Ideal.exp (blk_alog m c t h)))
  · funext h; exact blk_skip m c t h

/-! ### The three arrays -/

/-- Where a grid point's outputs go in the array. -/
theorem emb_y (y : S2x7x32x64.Idx) : ((cfg0.win 9).blk t).view.emb y = ix4 (rowOf (grid0.coords t) (y 0)) (y 1) (y 2) (y 3) := by
  blk_ext [idx9 t, rowOf_val]
  exact congrArg (· + (y 0).val) (mul_comm _ _)
/-- Where a grid point's codes go in the array. -/
theorem emb_codes (y : S2x7x32x64x128.Idx) : ((cfg0.win 10).blk t).view.emb y = ix5 (rowOf (grid0.coords t) (y 0)) (y 1) (y 2) (y 3) (y 4) := by
  blk_ext [idx10 t, rowOf_val]
  exact congrArg (· + (y 0).val) (mul_comm _ _)
/-- Where a grid point's scales go in the array. -/
theorem emb_scale (y : S2x7x32.Idx) : ((cfg0.win 11).blk t).view.emb y = ix3 (rowOf (grid0.coords t) (y 0)) (y 1) (y 2) := by
  blk_ext [idx11 t, rowOf_val]
  exact congrArg (· + (y 0).val) (mul_comm _ _)

omit t in
/-- The outputs. -/
theorem array_y : (dats m 0 c).arrAt 9 cfg0.N = (batchOf m c).y := by
  refine (dats m 0 c).arrAt_eq_of_covers 9 (batchOf m c).y (by decide +kernel) fun t hf y => ?_
  blk_simp
  rw [after_9]
  refine Eq.trans ?_ (congrArg (batchOf m c).y (emb_y t y)).symm
  exact congrArg (fun q : Req => q.y (y 1).val (y 2) (y 3)) (req_at m c t (y 0))

omit t in
/-- The codes of the state after every token. -/
theorem array_codes : (dats m 0 c).arrAt 10 cfg0.N = (batchOf m c).codesOut := by
  refine (dats m 0 c).arrAt_eq_of_covers 10 (batchOf m c).codesOut (by decide +kernel) fun t hf y => ?_
  blk_simp
  rw [after_10]
  refine Eq.trans ?_ (congrArg (batchOf m c).codesOut (emb_codes t y)).symm
  exact congrArg (fun q : Req => (q.st ((y 1).val + 1)).1 (y 2) (y 3) (y 4)) (req_at m c t (y 0))

omit t in
/-- Their scales. -/
theorem array_scale : (dats m 0 c).arrAt 11 cfg0.N = (batchOf m c).scales := by
  refine (dats m 0 c).arrAt_eq_of_covers 11 (batchOf m c).scales (by decide +kernel) fun t hf y => ?_
  blk_simp
  rw [after_11]
  refine Eq.trans ?_ (congrArg (batchOf m c).scales (emb_scale t y)).symm
  exact (congrArg (fun q : Req => scl (q.m (y 1).val (y 2))) (req_at m c t (y 0))).trans (Req.st_scale _ _ _).symm

omit c t in
/-- The run: the three results are the batch's, the arguments are unchanged, every semaphore counter is at zero. -/
theorem run_batch (ρ : Dev nD → PrngReg) : θ_run defs (onTc (τ := τ) (main (F := Ideal))) ⟨m, fun _ => 0, ρ⟩ (fun r => (∀ c : Dev nD,
      r.2.mem ((c.tc : Thread nD τ).loc main_v5_0) = (batchOf m c).y
      ∧ r.2.mem ((c.tc : Thread nD τ).loc main_v5_1) = (batchOf m c).codesOut
      ∧ r.2.mem ((c.tc : Thread nD τ).loc main_v5_2) = (batchOf m c).scales
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨((h.1 c).1 9).trans (array_y m c), ((h.1 c).1 10).trans (array_codes m c), ((h.1 c).1 11).trans (array_scale m c),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).1 5).trans (((dats m 0 c).arrAt_in 5 rfl _).trans ((A_eq m c 5).trans (V_main_arg5 m c))),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c)⟩, h.2⟩) (run_main m ρ)

end Cert.Proof.KernelIdeal.Exact

end
-- ==== Proof.RefSteps.lean ====
/- The reference's body is seven times the same step. The step is stated here once, on whole arrays: the state after a
   token (`nextT`), what quantises it (`scaleT`, `invT`, `codesT`), the state the codes stand for (`backT`), and the
   output (`yT`). The theorems below say that what the body stores for each token is this step's. -/
module

public import proofs.«01_k».proof.Proof.Gen.ReferenceIdeal.Frame

@[expose] public section

set_option maxRecDepth 16384

noncomputable section

namespace Cert.Proof.ReferenceIdeal

open Cert.ReferenceIdeal Cert.ReferenceIdeal.Gen
open Idealize Idealize.ShloMosaic Idealize.ShloMosaic.TcCoe

variable {F : FTy → Type} [FloatOps F]

/-! ### One token, from its arrays -/

/-- An `f32` constant in every place of an array of 320 by 32. -/
def const2 (b : BitVec 32) : FVec F S320x32 .f32 := broadcast S320x32 (Scalar.ofBits .f32 b)

/-- A gate before the softplus. -/
def preact (dt : Vec F S320x1x32 .f32) (bias : Vec F S1x32 .f32) : FVec F S320x32 .f32 :=
  addf (shapeCast S320x32 dt shapeCasts_S320x1x32_S320x32) (broadcastTo S320x32 (shapeCast S1x32 bias shapeCasts_S1x32_S1x32) broadcasts_S1x32_S320x32)

/-- The softplus, as jax writes it. -/
def softT (z : FVec F S320x32 .f32) : FVec F S320x32 .f32 :=
  select (cmpf .one (subf z (const2 0x00000000#32)) (subf z (const2 0x00000000#32))) (addf z (const2 0x00000000#32))
    (addf (maximumf z (const2 0x00000000#32)) (log1p (exp (subf (const2 0x00000000#32) (absf (subf z (const2 0x00000000#32)))))))

/-- A decay. -/
def decayT (d : FVec F S320x32 .f32) (rate : FVec F S1x32 .f32) : FVec F S320x32 .f32 :=
  exp (mulf (subf (const2 0x00000000#32) d) (broadcastTo S320x32 rate broadcasts_S1x32_S320x32))

/-- A value per request and head, at every state element of the head. -/
def wide (v : FVec F S320x32 .f32) : FVec F S320x32x64x128 .f32 :=
  broadcastTo S320x32x64x128 (shapeCast S320x32x1x1 v shapeCasts_S320x32_S320x32x1x1) broadcasts_S320x32x1x1_S320x32x64x128

/-- A value per request and head, at every row of the head. -/
def wide3 (v : FVec F S320x32 .f32) : FVec F S320x32x64 .f32 :=
  broadcastTo S320x32x64 (shapeCast S320x32x1 v shapeCasts_S320x32_S320x32x1) broadcasts_S320x32x1_S320x32x64

/-- The inputs of a token, widened. -/
def xOf (x : Vec F S320x1x32x64 .bf16) : FVec F S320x32x64 .f32 :=
  extf .f32 (shapeCast S320x32x64 x shapeCasts_S320x1x32x64_S320x32x64) bitsLt_bf16_f32

/-- A row per request, at every head and every row of the head. -/
def rowT (b : Vec F S320x1x1x128 .bf16) : FVec F S320x32x64x128 .f32 :=
  broadcastTo S320x32x64x128 (shapeCast S320x1x1x128 (extf .f32 (shapeCast S320x1x128 b shapeCasts_S320x1x1x128_S320x1x128) bitsLt_bf16_f32) shapeCasts_S320x1x128_S320x1x1x128)
    broadcasts_S320x1x1x128_S320x32x64x128

/-- The state after a token. -/
def nextT (h : FVec F S320x32x64x128 .f32) (rate : FVec F S1x32 .f32) (x : Vec F S320x1x32x64 .bf16) (b : Vec F S320x1x1x128 .bf16) (d : FVec F S320x32 .f32) :
    FVec F S320x32x64x128 .f32 :=
  addf (mulf (wide (decayT d rate)) h)
    (mulf (broadcastTo S320x32x64x128 (shapeCast S320x32x64x1 (mulf (wide3 d) (xOf x)) shapeCasts_S320x32x64_S320x32x64x1) broadcasts_S320x32x64x1_S320x32x64x128) (rowT b))

/-- A head's largest magnitude over 448. -/
def mT (w : FVec F S320x32x64x128 .f32) : FVec F S320x32 .f32 :=
  mulf (multiReduction .maximumf [2, 3] S320x32 (absf w) 0xFF800000#32 reduces_S320x32x64x128_S320x32 (.inl rfl) rfl) (const2 0x3B124925#32)

/-- The exponent of the scale. -/
def eT (m : FVec F S320x32 .f32) : FVec F S320x32 .f32 :=
  select (cmpf .olt m (const2 0x00800000#32)) (const2 0x00000000#32)
    (select (cmpf .oeq m (const2 0x7F800000#32)) (const2 0x00000000#32)
      (addf (floor (divf (log m) (log (const2 0x40000000#32)))) (const2 0x3F800000#32)))

/-- Whether the scale is past the largest power of two. -/
def pastT (m : FVec F S320x32 .f32) : IVec S320x32 1 := andi (cmpf .oge m (const2 0x7F000000#32)) (cmpf .olt m (const2 0x7F800000#32))

/-- The scale. -/
def scaleT (m : FVec F S320x32 .f32) : FVec F S320x32 .f32 := select (pastT m) (const2 0x7F800000#32) (exp2 (eT m))

/-- Its inverse. -/
def invT (m : FVec F S320x32 .f32) : FVec F S320x32 .f32 :=
  select (pastT m) (const2 0xFF800000#32)
    (select (cmpf .oeq (eT m) (const2 0x42FE0000#32)) (const2 0x00000000#32) (exp2 (subf (const2 0x00000000#32) (eT m))))

/-- The codes. -/
def codesT (w : FVec F S320x32x64x128 .f32) : FVec F S320x32x64x128 .fp8e4m3 :=
  truncf .fp8e4m3 (minimumf (broadcast S320x32x64x128 (Scalar.ofBits .f32 0x43E00000#32))
    (maximumf (broadcast S320x32x64x128 (Scalar.ofBits .f32 0xC3E00000#32)) (mulf w (wide (invT (mT w)))))) bitsLt_fp8e4m3_f32

/-- The state that codes and scale stand for. -/
def backT (w : FVec F S320x32x64x128 .f32) : FVec F S320x32x64x128 .f32 := mulf (extf .f32 (codesT w) bitsLt_fp8e4m3_f32) (wide (scaleT (mT w)))

/-- The output. -/
def yT (w : FVec F S320x32x64x128 .f32) (skip : FVec F S1x32 .f32) (x : Vec F S320x1x32x64 .bf16) (cc : Vec F S320x1x1x128 .bf16) : FVec F S320x32x64 .bf16 :=
  truncf .bf16 (addf (mulf (multiReduction .add [3] S320x32x64 (mulf (extf .f32 (extf .bf16 (codesT w) bitsLt_fp8e4m3_bf16) bitsLt_bf16_f32) (rowT cc)) 0x00000000#32 reduces_S320x32x64x128_S320x32x64 (.inl rfl) rfl)
      (wide3 (scaleT (mT w))))
    (mulf (broadcastTo S320x32x64 (shapeCast S1x32x1 skip shapeCasts_S1x32_S1x32x1) broadcasts_S1x32x1_S320x32x64) (xOf x))) bitsLt_bf16_f32

/-! ### The seven tokens -/

/-- The arguments. -/
structure Args (F : FTy → Type) [FloatOps F] where
  x0 : Vec F S320x7x32x64 .bf16
  x1 : Vec F S320x32x64x128 .fp8e4m3
  x2 : Vec F S320x32 .f32
  x3 : Vec F S320x7x1x128 .bf16
  x4 : Vec F S320x7x1x128 .bf16
  x5 : Vec F S320x7x32 .f32
  x6 : Vec F S1x32 .f32
  x7 : Vec F S1x32 .f32
  x8 : Vec F S1x32 .f32

variable (a : Args F)

/-- A token lies within x. -/
theorem inb4 (t : Fin 7) : ∀ i : Fin 4, (![0, t.val, 0, 0] : Fin 4 → ℕ) i + S320x1x32x64.size i ≤ S320x7x32x64.size i := by
  intro i; have := t.isLt; fin_cases i <;> simp [S320x1x32x64, S320x7x32x64] <;> omega
/-- A token lies within B and C. -/
theorem inbR (t : Fin 7) : ∀ i : Fin 4, (![0, t.val, 0, 0] : Fin 4 → ℕ) i + S320x1x1x128.size i ≤ S320x7x1x128.size i := by
  intro i; have := t.isLt; fin_cases i <;> simp [S320x1x1x128, S320x7x1x128] <;> omega
/-- A token lies within dt. -/
theorem inb3 (t : Fin 7) : ∀ i : Fin 3, (![0, t.val, 0] : Fin 3 → ℕ) i + S320x1x32.size i ≤ S320x7x32.size i := by
  intro i; have := t.isLt; fin_cases i <;> simp [S320x1x32, S320x7x32] <;> omega

/-- The inputs of token `t`, -/
def Args.x (t : Fin 7) : Vec F S320x1x32x64 .bf16 := View.ld a.x0 (Rect.unit (s := S320x7x32x64) ![0, t.val, 0, 0] S320x1x32x64.size (inb4 t))
/-- its rows of B, -/
def Args.b (t : Fin 7) : Vec F S320x1x1x128 .bf16 := View.ld a.x3 (Rect.unit (s := S320x7x1x128) ![0, t.val, 0, 0] S320x1x1x128.size (inbR t))
/-- its rows of C, -/
def Args.c (t : Fin 7) : Vec F S320x1x1x128 .bf16 := View.ld a.x4 (Rect.unit (s := S320x7x1x128) ![0, t.val, 0, 0] S320x1x1x128.size (inbR t))
/-- its rows of dt; -/
def Args.dt (t : Fin 7) : Vec F S320x1x32 .f32 := View.ld a.x5 (Rect.unit (s := S320x7x32) ![0, t.val, 0] S320x1x32.size (inb3 t))
/-- the bias, -/
def Args.bias : Vec F S1x32 .f32 := View.ld a.x6 r0_2
/-- the rates, -/
def Args.rate : FVec F S1x32 .f32 := exp (shapeCast S1x32 (View.ld a.x7 r0_2) shapeCasts_S1x32_S1x32)
/-- the skips; -/
def Args.skip : FVec F S1x32 .f32 := shapeCast S1x32 (View.ld a.x8 r0_2) shapeCasts_S1x32_S1x32
/-- the state the requests came with. -/
def Args.h0 : FVec F S320x32x64x128 .f32 := mulf (extf .f32 (View.ld a.x1 r0_0) bitsLt_fp8e4m3_f32) (wide (View.ld a.x2 r0_1))

/-- The state after token `t`, from the state before it. -/
def Args.next (t : Fin 7) (h : FVec F S320x32x64x128 .f32) : FVec F S320x32x64x128 .f32 := nextT h a.rate (a.x t) (a.b t) (softT (preact (a.dt t) a.bias))

/-- The state before token `t`, as codes and scale stand for it. -/
def Args.back : ℕ → FVec F S320x32x64x128 .f32
  | 0 => a.h0
  | t + 1 => backT (a.next (Fin.ofNat 7 t) (Args.back t))

/-- The state after token `t`, before it is quantised. -/
def Args.pre (t : ℕ) : FVec F S320x32x64x128 .f32 := a.next (Fin.ofNat 7 t) (a.back t)

/-- The body's state after token 0. -/
theorem w0 : k0_pay136 a.x0 a.x1 a.x2 a.x3 a.x4 a.x5 a.x6 a.x7 a.x8 = a.next 0 a.h0 := rfl
/-- The state read back before token 1. -/
theorem h1 : (k0_pay140 a.x0 a.x1 a.x2 a.x3 a.x4 a.x5 a.x6 a.x7 a.x8) = backT (k0_pay136 a.x0 a.x1 a.x2 a.x3 a.x4 a.x5 a.x6 a.x7 a.x8) := rfl
/-- The body's state after token 1. -/
theorem w1 : k0_pay144 a.x0 a.x1 a.x2 a.x3 a.x4 a.x5 a.x6 a.x7 a.x8 = a.next 1 (k0_pay140 a.x0 a.x1 a.x2 a.x3 a.x4 a.x5 a.x6 a.x7 a.x8) := rfl
/-- The state read back before token 2. -/
theorem h2 : (k0_pay37 (k0_pay144 a.x0 a.x1 a.x2 a.x3 a.x4 a.x5 a.x6 a.x7 a.x8) (k0_pay145 a.x0 a.x1 a.x2 a.x3 a.x4 a.x5 a.x6 a.x7 a.x8) (k0_pay146 a.x0 a.x1 a.x2 a.x3 a.x4 a.x5 a.x6 a.x7 a.x8) (k0_pay147 a.x0 a.x1 a.x2 a.x3 a.x4 a.x5 a.x6 a.x7 a.x8) (k0_pay148 a.x0 a.x1 a.x2 a.x3 a.x4 a.x5 a.x6 a.x7 a.x8) (k0_pay149 a.x0 a.x1 a.x2 a.x3 a.x4 a.x5 a.x6 a.x7 a.x8)) = backT (k0_pay144 a.x0 a.x1 a.x2 a.x3 a.x4 a.x5 a.x6 a.x7 a.x8) := rfl
/-- The body's state after token 2. -/
theorem w2 : k0_pay154 a.x0 a.x1 a.x2 a.x3 a.x4 a.x5 a.x6 a.x7 a.x8 = a.next 2 (k0_pay37 (k0_pay144 a.x0 a.x1 a.x2 a.x3 a.x4 a.x5 a.x6 a.x7 a.x8) (k0_pay145 a.x0 a.x1 a.x2 a.x3 a.x4 a.x5 a.x6 a.x7 a.x8) (k0_pay146 a.x0 a.x1 a.x2 a.x3 a.x4 a.x5 a.x6 a.x7 a.x8) (k0_pay147 a.x0 a.x1 a.x2 a.x3 a.x4 a.x5 a.x6 a.x7 a.x8) (k0_pay148 a.x0 a.x1 a.x2 a.x3 a.x4 a.x5 a.x6 a.x7 a.x8) (k0_pay149 a.x0 a.x1 a.x2 a.x3 a.x4 a.x5 a.x6 a.x7 a.x8)) := rfl
/-- The state read back before token 3. -/
theorem h3 : (k0_pay157 a.x0 a.x1 a.x2 a.x3 a.x4 a.x5 a.x6 a.x7 a.x8) = backT (k0_pay154 a.x0 a.x1 a.x2 a.x3 a.x4 a.x5 a.x6 a.x7 a.x8) := rfl
/-- The body's state after token 3. -/
theorem w3 : k0_pay159 a.x0 a.x1 a.x2 a.x3 a.x4 a.x5 a.x6 a.x7 a.x8 = a.next 3 (k0_pay157 a.x0 a.x1 a.x2 a.x3 a.x4 a.x5 a.x6 a.x7 a.x8) := rfl
/-- The state read back before token 4. -/
theorem h4 : (k0_pay163 a.x0 a.x1 a.x2 a.x3 a.x4 a.x5 a.x6 a.x7 a.x8) = backT (k0_pay159 a.x0 a.x1 a.x2 a.x3 a.x4 a.x5 a.x6 a.x7 a.x8) := rfl
/-- The body's state after token 4. -/
theorem w4 : k0_pay166 a.x0 a.x1 a.x2 a.x3 a.x4 a.x5 a.x6 a.x7 a.x8 = a.next 4 (k0_pay163 a.x0 a.x1 a.x2 a.x3 a.x4 a.x5 a.x6 a.x7 a.x8) := rfl
/-- The state read back before token 5. -/
theorem h5 : (k0_pay169 a.x0 a.x1 a.x2 a.x3 a.x4 a.x5 a.x6 a.x7 a.x8) = backT (k0_pay166 a.x0 a.x1 a.x2 a.x3 a.x4 a.x5 a.x6 a.x7 a.x8) := rfl
/-- The body's state after token 5. -/
theorem w5 : k0_pay173 a.x0 a.x1 a.x2 a.x3 a.x4 a.x5 a.x6 a.x7 a.x8 = a.next 5 (k0_pay169 a.x0 a.x1 a.x2 a.x3 a.x4 a.x5 a.x6 a.x7 a.x8) := rfl
/-- The state read back before token 6. -/
theorem h6 : (k0_pay179 a.x0 a.x1 a.x2 a.x3 a.x4 a.x5 a.x6 a.x7 a.x8) = backT (k0_pay173 a.x0 a.x1 a.x2 a.x3 a.x4 a.x5 a.x6 a.x7 a.x8) := rfl
/-- The body's state after token 6. -/
theorem w6 : k0_pay187 a.x0 a.x1 a.x2 a.x3 a.x4 a.x5 a.x6 a.x7 a.x8 = a.next 6 (k0_pay179 a.x0 a.x1 a.x2 a.x3 a.x4 a.x5 a.x6 a.x7 a.x8) := rfl

/-- The body's state after token 0 is the recursion's. -/
theorem pre0 : k0_pay136 a.x0 a.x1 a.x2 a.x3 a.x4 a.x5 a.x6 a.x7 a.x8 = a.pre 0 := w0 a
/-- The body's state after token 1 is the recursion's. -/
theorem pre1 : k0_pay144 a.x0 a.x1 a.x2 a.x3 a.x4 a.x5 a.x6 a.x7 a.x8 = a.pre 1 := (w1 a).trans (congrArg (a.next 1) ((h1 a).trans (congrArg backT (pre0 a))))
/-- The body's state after token 2 is the recursion's. -/
theorem pre2 : k0_pay154 a.x0 a.x1 a.x2 a.x3 a.x4 a.x5 a.x6 a.x7 a.x8 = a.pre 2 := (w2 a).trans (congrArg (a.next 2) ((h2 a).trans (congrArg backT (pre1 a))))
/-- The body's state after token 3 is the recursion's. -/
theorem pre3 : k0_pay159 a.x0 a.x1 a.x2 a.x3 a.x4 a.x5 a.x6 a.x7 a.x8 = a.pre 3 := (w3 a).trans (congrArg (a.next 3) ((h3 a).trans (congrArg backT (pre2 a))))
/-- The body's state after token 4 is the recursion's. -/
theorem pre4 : k0_pay166 a.x0 a.x1 a.x2 a.x3 a.x4 a.x5 a.x6 a.x7 a.x8 = a.pre 4 := (w4 a).trans (congrArg (a.next 4) ((h4 a).trans (congrArg backT (pre3 a))))
/-- The body's state after token 5 is the recursion's. -/
theorem pre5 : k0_pay173 a.x0 a.x1 a.x2 a.x3 a.x4 a.x5 a.x6 a.x7 a.x8 = a.pre 5 := (w5 a).trans (congrArg (a.next 5) ((h5 a).trans (congrArg backT (pre4 a))))
/-- The body's state after token 6 is the recursion's. -/
theorem pre6 : k0_pay187 a.x0 a.x1 a.x2 a.x3 a.x4 a.x5 a.x6 a.x7 a.x8 = a.pre 6 := (w6 a).trans (congrArg (a.next 6) ((h6 a).trans (congrArg backT (pre5 a))))

end Cert.Proof.ReferenceIdeal

end
-- ==== Proof.RefValue.lean ====
/- What the reference's step computes, element by element. -/
module

public import proofs.«01_k».proof.Proof.RefSteps
public import proofs.«01_k».proof.Proof.Spec

@[expose] public section

set_option maxRecDepth 16384

noncomputable section

namespace Cert.Proof.ReferenceIdeal

open Cert.ReferenceIdeal Cert.ReferenceIdeal.Gen
open Idealize Idealize.ShloMosaic Idealize.ShloMosaic.TcCoe
open Cert.Proof.KernelIdeal (mag lowest over cut soft amax tmax)

/-- A gate before the softplus, at an element. -/
theorem preact_at (dt : Vec Ideal S320x1x32 .f32) (bias : Vec Ideal S1x32 .f32) (r : Fin 320) (h : Fin 32) :
    preact dt bias (ix2 r h) = dt (ix3 r (0 : Fin 1) h) + bias (ix2 (0 : Fin 1) h) := by
  pointwise [preact]

/-- The softplus at an element. -/
theorem softT_at (z : FVec Ideal S320x32 .f32) (r : Fin 320) (h : Fin 32) : softT z (ix2 r h) = soft (z (ix2 r h)) := by
  pointwise [softT, const2]
  rw [if_neg (not_not.2 rfl)]
  rfl

/-- A decay at an element. -/
theorem decayT_at (d : FVec Ideal S320x32 .f32) (rate : FVec Ideal S1x32 .f32) (r : Fin 320) (h : Fin 32) :
    decayT d rate (ix2 r h) = Ideal.exp ((0 - d (ix2 r h)) * rate (ix2 (0 : Fin 1) h)) := by
  pointwise [decayT, const2]

/-- A value spread over a state, at an element. -/
theorem wide_at (v : FVec Ideal S320x32 .f32) (r : Fin 320) (h : Fin 32) (p : Fin 64) (n : Fin 128) : wide v (ix4 r h p n) = v (ix2 r h) := by
  pointwise [wide]
/-- A value spread over the rows of a head. -/
theorem wide3_at (v : FVec Ideal S320x32 .f32) (r : Fin 320) (h : Fin 32) (p : Fin 64) : wide3 v (ix3 r h p) = v (ix2 r h) := by
  pointwise [wide3]
/-- An input at an element. -/
theorem xOf_at (x : Vec Ideal S320x1x32x64 .bf16) (r : Fin 320) (h : Fin 32) (p : Fin 64) : xOf x (ix3 r h p) = x (ix4 r (0 : Fin 1) h p) := by
  pointwise [xOf]
/-- A row spread over the heads. -/
theorem rowT_at (b : Vec Ideal S320x1x1x128 .bf16) (r : Fin 320) (h : Fin 32) (p : Fin 64) (n : Fin 128) :
    rowT b (ix4 r h p n) = b (ix4 r (0 : Fin 1) (0 : Fin 1) n) := by
  pointwise [rowT]

/-- A column spread over the lanes. -/
theorem spread_at (v : FVec Ideal S320x32x64 .f32) (r : Fin 320) (h : Fin 32) (p : Fin 64) (n : Fin 128) :
    broadcastTo S320x32x64x128 (shapeCast S320x32x64x1 v shapeCasts_S320x32x64_S320x32x64x1) broadcasts_S320x32x64x1_S320x32x64x128 (ix4 r h p n) = v (ix3 r h p) := by
  pointwise []

/-- The state after a token, at an element. -/
theorem nextT_at (h : FVec Ideal S320x32x64x128 .f32) (rate : FVec Ideal S1x32 .f32) (x : Vec Ideal S320x1x32x64 .bf16) (b : Vec Ideal S320x1x1x128 .bf16)
    (d : FVec Ideal S320x32 .f32) (r : Fin 320) (hh : Fin 32) (p : Fin 64) (n : Fin 128) :
    nextT h rate x b d (ix4 r hh p n) = Ideal.exp ((0 - d (ix2 r hh)) * rate (ix2 (0 : Fin 1) hh)) * h (ix4 r hh p n)
      + (d (ix2 r hh) * x (ix4 r (0 : Fin 1) hh p)) * b (ix4 r (0 : Fin 1) (0 : Fin 1) n) := by
  exact congrArg₂ (· + ·) (congrArg (· * h (ix4 r hh p n)) ((wide_at _ r hh p n).trans (decayT_at d rate r hh)))
    (congrArg₂ (· * ·) ((spread_at _ r hh p n).trans (congrArg₂ (· * ·) (wide3_at d r hh p) (xOf_at x r hh p))) (rowT_at b r hh p n))

/-- The codes at an element. -/
theorem codesT_at (w : FVec Ideal S320x32x64x128 .f32) (r : Fin 320) (h : Fin 32) (p : Fin 64) (n : Fin 128) :
    codesT w (ix4 r h p n) = cut (w (ix4 r h p n) * invT (mT w) (ix2 r h)) := by
  rw [← wide_at (invT (mT w)) r h p n]
  unfold codesT
  generalize wide (invT (mT w)) = i
  pointwise []
  rfl

/-- What codes and scale stand for, at an element. -/
theorem backT_at (w : FVec Ideal S320x32x64x128 .f32) (r : Fin 320) (h : Fin 32) (p : Fin 64) (n : Fin 128) :
    backT w (ix4 r h p n) = codesT w (ix4 r h p n) * scaleT (mT w) (ix2 r h) := by
  rw [← wide_at (scaleT (mT w)) r h p n]
  rfl

/-- The sum over the lanes. -/
theorem sumOf_at (v : FVec Ideal S320x32x64x128 .f32) (r : Fin 320) (h : Fin 32) (p : Fin 64) :
    multiReduction .add [3] S320x32x64 v 0x00000000#32 reduces_S320x32x64x128_S320x32x64 (.inl rfl) rfl (ix3 r h p) = ∑ n : Fin 128, v (ix4 r h p n) := by
  pointwise []

/-- The skips spread over the rows. -/
theorem skip_at (s : FVec Ideal S1x32 .f32) (r : Fin 320) (h : Fin 32) (p : Fin 64) :
    broadcastTo S320x32x64 (shapeCast S1x32x1 s shapeCasts_S1x32_S1x32x1) broadcasts_S1x32x1_S320x32x64 (ix3 r h p) = s (ix2 (0 : Fin 1) h) := by
  pointwise []

/-- The product with C: a sum over the lanes. -/
theorem sum_at (w : FVec Ideal S320x32x64x128 .f32) (cc : Vec Ideal S320x1x1x128 .bf16) (r : Fin 320) (h : Fin 32) (p : Fin 64) :
    multiReduction .add [3] S320x32x64 (mulf (extf .f32 (extf .bf16 (codesT w) bitsLt_fp8e4m3_bf16) bitsLt_bf16_f32) (rowT cc)) 0x00000000#32
        reduces_S320x32x64x128_S320x32x64 (.inl rfl) rfl (ix3 r h p)
      = ∑ n : Fin 128, codesT w (ix4 r h p n) * cc (ix4 r (0 : Fin 1) (0 : Fin 1) n) := by
  rw [sumOf_at]
  refine Finset.sum_congr rfl fun n _ => ?_
  rw [← rowT_at cc r h p n]
  rfl

/-- The output at an element. -/
theorem yT_at (w : FVec Ideal S320x32x64x128 .f32) (skip : FVec Ideal S1x32 .f32) (x : Vec Ideal S320x1x32x64 .bf16) (cc : Vec Ideal S320x1x1x128 .bf16)
    (r : Fin 320) (h : Fin 32) (p : Fin 64) :
    yT w skip x cc (ix3 r h p) = (∑ n : Fin 128, codesT w (ix4 r h p n) * cc (ix4 r (0 : Fin 1) (0 : Fin 1) n)) * scaleT (mT w) (ix2 r h)
      + skip (ix2 (0 : Fin 1) h) * x (ix4 r (0 : Fin 1) h p) :=
  congrArg₂ (· + ·) (congrArg₂ (· * ·) (sum_at w cc r h p) (wide3_at (scaleT (mT w)) r h p)) (congrArg₂ (· * ·) (skip_at skip r h p) (xOf_at x r h p))

/-- What the first codes and scales stand for. -/
theorem back_first (k : Vec Ideal S320x32x64x128 .fp8e4m3) (s : Vec Ideal S320x32 .f32) (r : Fin 320) (h : Fin 32) (p : Fin 64) (n : Fin 128) :
    mulf (extf (F := Ideal) .f32 k bitsLt_fp8e4m3_f32) (wide s) (ix4 r h p n) = k (ix4 r h p n) * s (ix2 r h) :=
  congrArg (_ * ·) (wide_at s r h p n)

end Cert.Proof.ReferenceIdeal

end
-- ==== Proof.RefMax.lean ====
/- A head's largest magnitude in the reference, as the greatest of the same elements the kernel's is of. -/
module

public import proofs.«01_k».proof.Proof.RefSteps
public import proofs.«01_k».proof.Proof.Spec

@[expose] public section

set_option maxRecDepth 16384

noncomputable section

namespace Cert.Proof.ReferenceIdeal

open Cert.ReferenceIdeal Cert.ReferenceIdeal.Gen
open Idealize Idealize.ShloMosaic Idealize.ShloMosaic.TcCoe
open Cert.Proof.KernelIdeal (mag lowest over cut soft amax tmax)

/-- A bound carried along an equation. -/
theorem le_of_eq_iff {a b : EReal} (h : a = b) (c : EReal) : a ≤ c ↔ b ≤ c := by rw [h]

/-- A bound of a fold of maxima. -/
theorem max_le_iff (v : FVec Ideal S320x32x64x128 .f32) (r : Fin 320) (h : Fin 32) (c : EReal) :
    multiReduction .maximumf [2, 3] S320x32 v 0xFF800000#32 reduces_S320x32x64x128_S320x32 (.inl rfl) rfl (ix2 r h) ≤ c
      ↔ lowest ≤ c ∧ ∀ (p : Fin 64) (n : Fin 128), v (ix4 r h p n) ≤ c := by
  refine (le_of_eq_iff (multiReduction_maximumf_eq_fold v 0xFF800000#32 reduces_S320x32x64x128_S320x32 (.inl rfl) rfl (ix2 r h)) c).trans ?_
  refine (Finset.fold_max_le c).trans (and_congr Iff.rfl ⟨fun H p n => H _ ?_, fun H i hi => ?_⟩)
  · rw [Finset.mem_filter]
    refine ⟨Finset.mem_univ _, ?_⟩
    funext b; apply Fin.ext
    fin_cases b
    · exact reduces_S320x32x64x128_S320x32.drop_apply_val_of_eq (ix4 r h p n) 0 0
    · exact reduces_S320x32x64x128_S320x32.drop_apply_val_of_eq (ix4 r h p n) 1 1
  · have hd := (Finset.mem_filter.1 hi).2
    have e0 : (i 0).val = r.val := (reduces_S320x32x64x128_S320x32.drop_apply_val_of_eq i 0 0).symm.trans (congrArg (fun j : S320x32.Idx => (j 0).val) hd)
    have e1 : (i 1).val = h.val := (reduces_S320x32x64x128_S320x32.drop_apply_val_of_eq i 1 1).symm.trans (congrArg (fun j : S320x32.Idx => (j 1).val) hd)
    have e : i = ix4 r h (i 2) (i 3) := by
      funext b; apply Fin.ext
      fin_cases b
      · exact e0
      · exact e1
      · rfl
      · rfl
    rw [e]; exact H _ _

/-- What bounds the largest magnitude of a head: whatever bounds −∞ and every magnitude. -/
theorem amax_le_iff (W : Fin 64 → Fin 128 → EReal) (c : EReal) : amax W ≤ c ↔ lowest ≤ c ∧ ∀ p n, mag (W p n) ≤ c := by
  unfold amax tmax
  simp only [Finset.fold_max_le, Finset.mem_univ, forall_true_left]
  constructor
  · rintro ⟨h, H⟩
    refine ⟨h, fun p n => ?_⟩
    have := (((H ⟨p.val % 8, by omega⟩).2 n).2 ⟨p.val / 8, by omega⟩)
    have e : (⟨p.val / 8 * 8 + p.val % 8, by omega⟩ : Fin 64) = p := Fin.ext (Nat.div_add_mod' p.val 8)
    simpa only [e] using this
  · rintro ⟨h, H⟩
    exact ⟨h, fun r => ⟨h, fun n => ⟨h, fun j => H _ n⟩⟩⟩

/-- What bounds the reference's maximum over both axes. -/
theorem maxT_at (w : FVec Ideal S320x32x64x128 .f32) (r : Fin 320) (h : Fin 32) :
    multiReduction .maximumf [2, 3] S320x32 (absf w) 0xFF800000#32 reduces_S320x32x64x128_S320x32 (.inl rfl) rfl (ix2 r h) = amax fun p n => w (ix4 r h p n) := by
  have A := max_le_iff (absf w) r h
  have E : ∀ (p : Fin 64) (n : Fin 128), absf w (ix4 r h p n) = mag (w (ix4 r h p n)) := fun p n => rfl
  simp only [E] at A
  exact eq_of_forall_ge_iff fun c => (A c).trans (amax_le_iff _ c).symm

/-- Over 448 at an element. -/
theorem over_at (z : FVec Ideal S320x32 .f32) (r : Fin 320) (h : Fin 32) : mulf z (const2 0x3B124925#32) (ix2 r h) = over (z (ix2 r h)) := by
  pointwise [const2]
  unfold over; rfl

/-- The reference's maximum over both axes is the kernel's, taken sublane by sublane. -/
theorem mT_at (w : FVec Ideal S320x32x64x128 .f32) (r : Fin 320) (h : Fin 32) :
    mT w (ix2 r h) = over (amax fun p n => w (ix4 r h p n)) := by
  unfold mT
  exact (over_at _ r h).trans (congrArg over (maxT_at w r h))

end Cert.Proof.ReferenceIdeal

end
-- ==== Proof.Exponent.lean ====
/- The kernel finds the exponent of a scale by a search over the powers of two; the reference by a logarithm rounded
   down. On nonnegative values the two agree. -/
module

public import proofs.«01_k».proof.Proof.Values

@[expose] public section

set_option maxRecDepth 16384

noncomputable section

namespace Cert.Proof

open Idealize.ShloMosaic
open Cert.Proof.KernelIdeal (bs field expo scl inv₁)

/-! ### The powers of two as single-precision patterns -/

/-- What the pattern with exponent field `n` and nothing else denotes: 0, a power of two, or ⊤. -/
def thr (n : ℕ) : EReal := if n = 0 then 0 else if n = 255 then ⊤ else (((2 : ℝ) ^ ((n : ℤ) - 127) : ℝ) : EReal)

/-- Sign, exponent and mantissa of the float with exponent field `n` and nothing else. -/
theorem fields (n : Fin 256) : ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by
  revert n; decide +kernel

/-- A float without mantissa by its exponent field. -/
theorem ieee_of {b : BitVec 32} {n : ℕ} (h1 : (b.extractLsb' 31 1 == 1#1) = false) (h2 : (b.extractLsb' 23 8).toNat = n) (h3 : (b.extractLsb' 0 23).toNat = 0) :
    Ideal.ieee 8 23 b = if n = 255 then ⊤ else if n = 0 then (((1 : ℝ) * ((0 : ℕ) : ℝ) * (2 : ℝ) ^ ((1 : ℤ) - (2 ^ (8 - 1) - 1) - (23 : ℕ)) : ℝ) : EReal)
      else (((1 : ℝ) * ((2 ^ 23 + 0 : ℕ) : ℝ) * (2 : ℝ) ^ ((n : ℤ) - (2 ^ (8 - 1) - 1) - (23 : ℕ)) : ℝ) : EReal) := by
  subst h2
  unfold Ideal.ieee
  rw [show 8 + 23 = 31 from rfl, h1, h3]
  rfl

/-- The float with exponent field `n` is `thr n`. -/
theorem ofBits_thr (n : ℕ) (h : n < 256) : Ideal.ofBits .f32 (BitVec.ofNat 32 n <<< 23) = thr n := by
  obtain ⟨h1, h2, h3⟩ := fields ⟨n, h⟩
  refine (ieee_of h1 h2 h3).trans ?_
  unfold thr
  by_cases hT : n = 255
  · rw [if_pos hT, if_neg (by omega), if_pos hT]
  rw [if_neg hT, if_neg hT]
  by_cases h0 : n = 0
  · rw [if_pos h0, if_pos h0, Nat.cast_zero, mul_zero, zero_mul, EReal.coe_zero]
  rw [if_neg h0, if_neg h0]
  refine congrArg Real.toEReal ?_
  have : (n : ℤ) - (2 ^ (8 - 1) - 1) - (23 : ℕ) = ((n : ℤ) - 127) - 23 := by norm_num
  rw [this, zpow_sub₀ (by norm_num : (2 : ℝ) ≠ 0), one_mul]
  have e : ((2 ^ 23 + 0 : ℕ) : ℝ) = (2 : ℝ) ^ (23 : ℤ) := by norm_num
  rw [e, mul_div_cancel₀ _ (by positivity)]

/-- The same of the field shifted into place. -/
theorem shl_thr (n : ℕ) (h : n < 256) : Ideal.ofBits .f32 (IntOp.shli .vector (BitVec.ofNat 32 n) 23#32) = thr n := ofBits_thr n h

/-- Between the ends it is a power of two. -/
theorem thr_mid {n : ℕ} (h0 : n ≠ 0) (h1 : n ≠ 255) : thr n = (((2 : ℝ) ^ ((n : ℤ) - 127) : ℝ) : EReal) := by
  unfold thr; rw [if_neg h0, if_neg h1]

/-- Field 0. -/
theorem thr_zero : thr 0 = 0 := by unfold thr; rw [if_pos rfl]
/-- Field 255. -/
theorem thr_top : thr 255 = ⊤ := by unfold thr; rw [if_neg (by decide), if_pos rfl]
/-- Field 127. -/
theorem thr_one : thr 127 = 1 := by rw [thr_mid (by decide) (by decide)]; norm_num

/-! ### The search -/

/-- The field lies between `n` and `n + w`. -/
def Between (m : EReal) (n w : ℕ) : Prop := n + w ≤ 256 ∧ thr n ≤ m ∧ (m < thr (n + w) ∨ n + w = 256)

/-- A step of the search halves the range. -/
theorem bs_step {m : EReal} {f : BitVec 32} (b : ℕ) (hb : 0 < b) (h : ∃ n, f = BitVec.ofNat 32 n ∧ Between m n (b + b)) :
    ∃ n, bs m (BitVec.ofNat 32 b) f = BitVec.ofNat 32 n ∧ Between m n b := by
  obtain ⟨n, rfl, hn, hl, hr⟩ := h
  have ea : IntOp.addi (BitVec.ofNat 32 n) (BitVec.ofNat 32 b) = BitVec.ofNat 32 (n + b) := (BitVec.ofNat_add n b).symm
  have e : bs m (BitVec.ofNat 32 b) (BitVec.ofNat 32 n) = if thr (n + b) ≤ m then BitVec.ofNat 32 (n + b) else BitVec.ofNat 32 n := by
    unfold bs
    rw [ea, shl_thr (n + b) (by omega)]
    show Scalar.select (Ideal.cmp .oge m (thr (n + b))) _ _ = _
    unfold Scalar.select Ideal.cmp
    by_cases hc : thr (n + b) ≤ m <;> simp [hc]
  rw [e]
  by_cases hc : thr (n + b) ≤ m
  · refine ⟨n + b, if_pos hc, by omega, hc, ?_⟩
    rw [show n + b + b = n + (b + b) by omega]; exact hr
  · exact ⟨n, if_neg hc, by omega, hl, .inl (not_le.1 hc)⟩

/-- The field the search finds. -/
theorem field_between {m : EReal} (hm : 0 ≤ m) : ∃ n, field m = BitVec.ofNat 32 n ∧ Between m n 1 :=
  bs_step 1 (by decide) (bs_step 2 (by decide) (bs_step 4 (by decide) (bs_step 8 (by decide) (bs_step 16 (by decide) (bs_step 32 (by decide)
    (bs_step 64 (by decide) (bs_step 128 (by decide) ⟨0, rfl, by decide, by rw [thr_zero]; exact hm, .inr rfl⟩)))))))

/-- At the ends of the range the exponent is zero. -/
theorem expo_out (n : Fin 256) (h : n.val = 0 ∨ n.val = 255) : IntOp.addi (expo (BitVec.ofNat 32 n.val)) 127#32 = BitVec.ofNat 32 127
    ∧ IntOp.subi 127#32 (expo (BitVec.ofNat 32 n.val)) = BitVec.ofNat 32 127 := by
  revert n; decide +kernel
/-- Between them it is the field moved. -/
theorem expo_in (n : Fin 256) (h : n.val ≠ 0 ∧ n.val ≠ 255) : IntOp.addi (expo (BitVec.ofNat 32 n.val)) 127#32 = BitVec.ofNat 32 (n.val + 1)
    ∧ (n.val ≠ 254 → IntOp.subi 127#32 (expo (BitVec.ofNat 32 n.val)) = BitVec.ofNat 32 (253 - n.val)) := by
  revert n; decide +kernel

/-- The pattern of −∞. -/
theorem ofBits_bot : Ideal.ofBits .f32 0xFF800000#32 = ⊥ := by
  show Ideal.ieee 8 23 0xFF800000#32 = ⊥
  unfold Ideal.ieee
  rw [if_pos (by decide), if_pos (by decide), if_pos (by decide)]

/-- The scale and its inverse by the field. -/
theorem scl_field {m : EReal} {n : ℕ} (hn : n < 256) (e : field m = BitVec.ofNat 32 n) :
    scl m = (if n = 0 ∨ n = 255 then 1 else thr (n + 1))
      ∧ inv₁ m = (if n = 0 ∨ n = 255 then 1 else if n = 254 then ⊥ else thr (253 - n)) := by
  unfold scl inv₁
  rw [e]
  by_cases h : n = 0 ∨ n = 255
  · obtain ⟨h1, h2⟩ := expo_out ⟨n, hn⟩ h
    simp only at h1 h2
    rw [h1, h2, if_pos h, if_pos h, shl_thr 127 (by decide), thr_one]
    exact ⟨rfl, rfl⟩
  · have h' : n ≠ 0 ∧ n ≠ 255 := ⟨fun x => h (.inl x), fun x => h (.inr x)⟩
    obtain ⟨h1, h2⟩ := expo_in ⟨n, hn⟩ h'
    simp only at h1 h2
    rw [h1, if_neg h, if_neg h, shl_thr (n + 1) (by omega)]
    refine ⟨rfl, ?_⟩
    by_cases h254 : n = 254
    · subst h254; rw [if_pos rfl]; exact ofBits_bot
    · rw [h2 h254, if_neg h254, shl_thr (253 - n) (by omega)]

/-! ### The logarithm -/

/-- The reference's exponent, scale and inverse of `m`. -/
def eR (m : EReal) : EReal :=
  if m < thr 1 then 0 else if m = ⊤ then 0 else Ideal.liftRound Int.floor (Ideal.div (Ideal.log m) (Ideal.log (thr 128))) + 1
/-- The scale by the logarithm, -/
def sclR (m : EReal) : EReal := if thr 254 ≤ m ∧ m < ⊤ then ⊤ else Ideal.exp2 (eR m)
/-- and its inverse. -/
def invR (m : EReal) : EReal := if thr 254 ≤ m ∧ m < ⊤ then ⊥ else if eR m = ((127 : ℝ) : EReal) then 0 else Ideal.exp2 (0 - eR m)

/-- Two to the zeroth. -/
theorem exp2_zero : Ideal.exp2 0 = 1 := by
  show ((Real.rpow 2 0 : ℝ) : EReal) = 1
  rw [show Real.rpow 2 0 = 1 from Real.rpow_zero 2, EReal.coe_one]

/-- Two to an integer. -/
theorem exp2_int (k : ℤ) : Ideal.exp2 (((k : ℝ) : ℝ) : EReal) = (((2 : ℝ) ^ k : ℝ) : EReal) := by
  show ((Real.rpow 2 (k : ℝ) : ℝ) : EReal) = _
  exact congrArg _ (Real.rpow_intCast 2 k)

/-- The exponent of a value between two powers of two. -/
theorem floor_log (n : ℕ) (h0 : n ≠ 0) (h1 : n < 254) (x : ℝ) (hl : (2 : ℝ) ^ ((n : ℤ) - 127) ≤ x) (hr : x < (2 : ℝ) ^ (((n + 1 : ℕ) : ℤ) - 127)) :
    Ideal.liftRound Int.floor (Ideal.div (Ideal.log (x : EReal)) (Ideal.log (thr 128))) + 1 = (((((n : ℤ) - 126 : ℤ) : ℝ) : ℝ) : EReal) := by
  have hx : 0 < x := lt_of_lt_of_le (by positivity) hl
  have e2 : thr 128 = ((2 : ℝ) : EReal) := by rw [thr_mid (by decide) (by decide)]; norm_num
  have l1 : Ideal.log (x : EReal) = ((Real.log x : ℝ) : EReal) := by
    show (if x ≤ 0 then ⊥ else ((Real.log x : ℝ) : EReal)) = _
    rw [if_neg (not_le.2 hx)]
  have l2 : Ideal.log (thr 128) = ((Real.log 2 : ℝ) : EReal) := by
    rw [e2]
    show (if (2 : ℝ) ≤ 0 then ⊥ else ((Real.log 2 : ℝ) : EReal)) = _
    rw [if_neg (by norm_num)]
  have p2 : (0 : ℝ) < Real.log 2 := Real.log_pos (by norm_num)
  have d : Ideal.div ((Real.log x : ℝ) : EReal) ((Real.log 2 : ℝ) : EReal) = ((Real.log x / Real.log 2 : ℝ) : EReal) := by
    unfold Ideal.div
    rw [if_neg (by exact_mod_cast p2.ne'), ← EReal.coe_inv, ← EReal.coe_mul, div_eq_mul_inv]
  rw [l1, l2, d]
  show (((⌊Real.log x / Real.log 2⌋ : ℝ) : ℝ) : EReal) + 1 = _
  have f : ⌊Real.log x / Real.log 2⌋ = (n : ℤ) - 127 := by
    rw [Int.floor_eq_iff]
    constructor
    · rw [le_div_iff₀ p2, ← Real.log_zpow]
      exact Real.log_le_log (by positivity) hl
    · rw [div_lt_iff₀ p2, ← Int.cast_one, ← Int.cast_add, ← Real.log_zpow]
      refine Real.log_lt_log hx ?_
      rwa [show (n : ℤ) - 127 + 1 = ((n + 1 : ℕ) : ℤ) - 127 by push_cast; ring]
  rw [f]
  rw [← EReal.coe_one, ← EReal.coe_add]
  congr 1
  push_cast; ring

/-- The search and the logarithm agree. -/
theorem search_eq_log {m : EReal} (hm : 0 ≤ m) : scl m = sclR m ∧ inv₁ m = invR m := by
  obtain ⟨n, e, hn, hl, hr⟩ := field_between hm
  obtain ⟨es, ei⟩ := scl_field (by omega) e
  rw [es, ei]
  have one254 : thr 1 ≤ thr 254 := by
    rw [thr_mid (by decide) (by decide), thr_mid (by decide) (by decide)]
    exact EReal.coe_le_coe_iff.2 (zpow_le_zpow_right₀ (by norm_num) (by norm_num))
  have ne127 : (0 : EReal) ≠ ((127 : ℝ) : EReal) := by
    rw [← EReal.coe_zero]; intro h; have := EReal.coe_eq_coe_iff.1 h; norm_num at this
  by_cases h0 : n = 0
  · subst h0
    have hlt : m < thr 1 := hr.resolve_right (by decide)
    have np : ¬ (thr 254 ≤ m ∧ m < ⊤) := fun h => absurd hlt (not_lt.2 (one254.trans h.1))
    have e0 : eR m = 0 := by unfold eR; rw [if_pos hlt]
    unfold sclR invR
    rw [if_neg np, if_neg np, e0, if_neg ne127, exp2_zero, sub_zero, exp2_zero]
    exact ⟨rfl, rfl⟩
  by_cases hT : n = 255
  · subst hT
    have et : m = ⊤ := top_le_iff.1 (by rw [← thr_top]; exact hl)
    have np : ¬ (thr 254 ≤ m ∧ m < ⊤) := fun h => absurd et h.2.ne
    have e0 : eR m = 0 := by unfold eR; rw [if_pos et, ite_self]
    unfold sclR invR
    rw [if_neg np, if_neg np, e0, if_neg ne127, exp2_zero, sub_zero, exp2_zero]
    exact ⟨rfl, rfl⟩
  rw [if_neg (by omega), if_neg (by omega)]
  have hlt : m < thr (n + 1) := hr.resolve_right (by omega)
  by_cases h254 : n = 254
  · subst h254
    rw [thr_top] at hlt
    have p : thr 254 ≤ m ∧ m < ⊤ := ⟨hl, hlt⟩
    unfold sclR invR
    rw [if_pos p, if_pos p, if_pos rfl, thr_top]
    exact ⟨rfl, rfl⟩
  rw [if_neg h254]
  have e1 := thr_mid (n := n) h0 hT
  have e2 := thr_mid (n := n + 1) (by omega) (by omega)
  rw [e1] at hl
  rw [e2] at hlt
  induction m with
  | bot => exact absurd hl (by simp)
  | top => exact absurd hlt (by simp)
  | coe x =>
    have hl' := EReal.coe_le_coe_iff.1 hl
    have hr' := EReal.coe_lt_coe_iff.1 hlt
    have np : ¬ (thr 254 ≤ (x : EReal) ∧ (x : EReal) < ⊤) := by
      rw [thr_mid (by decide) (by decide)]
      intro h
      have h1 := EReal.coe_le_coe_iff.1 h.1
      have h2 : (2 : ℝ) ^ (((n + 1 : ℕ) : ℤ) - 127) ≤ (2 : ℝ) ^ (((254 : ℕ) : ℤ) - 127) := zpow_le_zpow_right₀ (by norm_num) (by omega)
      exact absurd hr' (not_lt.2 (h2.trans h1))
    have n1 : ¬ (x : EReal) < thr 1 := by
      rw [thr_mid (by decide) (by decide)]
      have h2 : (2 : ℝ) ^ (((1 : ℕ) : ℤ) - 127) ≤ (2 : ℝ) ^ ((n : ℤ) - 127) := zpow_le_zpow_right₀ (by norm_num) (by omega)
      exact not_lt.2 (EReal.coe_le_coe_iff.2 (h2.trans hl'))
    have ee : eR (x : EReal) = (((((n : ℤ) - 126 : ℤ) : ℝ) : ℝ) : EReal) := by
      unfold eR
      rw [if_neg n1, if_neg (EReal.coe_ne_top x), floor_log n h0 (by omega) x hl' hr']
    unfold sclR invR
    rw [if_neg np, if_neg np, ee, exp2_int, e2]
    refine ⟨by congr 2; push_cast; ring, ?_⟩
    by_cases h253 : n = 253
    · subst h253
      rw [if_pos (by norm_num)]; exact thr_zero
    · rw [if_neg (by
          intro h; have := EReal.coe_eq_coe_iff.1 h
          have h' : ((n : ℤ) - 126 : ℤ) = 127 := by exact_mod_cast this
          omega), thr_mid (by omega) (by omega), ← EReal.coe_zero, ← EReal.coe_sub, zero_sub, ← Int.cast_neg, exp2_int]
      congr 2
      omega

end Cert.Proof

end
-- ==== Proof.RefScale.lean ====
/- The reference's scale and inverse at a head, as the logarithm states them. -/
module

public import proofs.«01_k».proof.Proof.RefSteps
public import proofs.«01_k».proof.Proof.RefMax
public import proofs.«01_k».proof.Proof.Exponent

@[expose] public section

set_option maxRecDepth 16384

noncomputable section

namespace Cert.Proof.ReferenceIdeal

open Cert.ReferenceIdeal Cert.ReferenceIdeal.Gen
open Idealize Idealize.ShloMosaic Idealize.ShloMosaic.TcCoe
open Cert.Proof.KernelIdeal (mag lowest over cut soft amax tmax scl inv₁)

/-! ### The constants -/

/-- A pattern that is an exponent field alone. -/
theorem bits_thr {b : BitVec 32} (n : ℕ) (h : n < 256) (e : b = BitVec.ofNat 32 n <<< 23) : Ideal.ofBits .f32 b = thr n := e ▸ ofBits_thr n h

/-- The float 127. -/
theorem bits_127 : Ideal.ofBits .f32 0x42FE0000#32 = ((127 : ℝ) : EReal) := by
  have : Ideal.ofBits .f32 0x42FE0000#32 = (((1 : ℝ) * ((2 ^ 23 + 0x7E0000 : ℕ) : ℝ) * (2 : ℝ) ^ ((133 : ℤ) - (2 ^ (8 - 1) - 1) - (23 : ℕ)) : ℝ) : EReal) := rfl
  rw [this]
  refine congrArg Real.toEReal ?_
  norm_num

/-- The smallest power of two in the exponent range. -/
theorem bits_1 : Ideal.ofBits .f32 0x00800000#32 = thr 1 := bits_thr 1 (by decide) (by decide)
/-- The float 2. -/
theorem bits_128 : Ideal.ofBits .f32 0x40000000#32 = thr 128 := bits_thr 128 (by decide) (by decide)
/-- The largest power of two. -/
theorem bits_254 : Ideal.ofBits .f32 0x7F000000#32 = thr 254 := bits_thr 254 (by decide) (by decide)
/-- The pattern of +∞. -/
theorem bits_top : Ideal.ofBits .f32 0x7F800000#32 = ⊤ := (bits_thr 255 (by decide) (by decide)).trans thr_top
/-- 1/448 is not negative. -/
theorem bits_448_nonneg : (0 : EReal) ≤ Ideal.ofBits .f32 0x3B124925#32 := by
  have : Ideal.ofBits .f32 0x3B124925#32 = (((1 : ℝ) * ((2 ^ 23 + 0x124925 : ℕ) : ℝ) * (2 : ℝ) ^ ((118 : ℤ) - (2 ^ (8 - 1) - 1) - (23 : ℕ)) : ℝ) : EReal) := rfl
  rw [this]
  exact EReal.coe_nonneg.2 (by positivity)

variable (m : FVec Ideal S320x32 .f32) (r : Fin 320) (h : Fin 32)

/-- The exponent. -/
theorem eT_at : eT m (ix2 r h) = eR (m (ix2 r h)) := by
  pointwise [eT, const2]
  rw [bits_1, bits_top, bits_128]
  rfl

/-- Whether the scale would be past the largest power of two. -/
theorem pastT_at : pastT m (ix2 r h) = if thr 254 ≤ m (ix2 r h) ∧ m (ix2 r h) < ⊤ then 1 else 0 := by
  pointwise [pastT, const2]
  rw [bits_254, bits_top]
  by_cases h1 : thr 254 ≤ m (ix2 r h) <;> by_cases h2 : m (ix2 r h) < ⊤ <;> simp only [h1, h2, and_true, and_false, if_true, if_false, decide_true, decide_false] <;> rfl

/-- A choice by a comparison. -/
theorem select_ite {c : Prop} [Decidable c] (x y : EReal) : Scalar.select (if c then (1 : BitVec 1) else 0) x y = if c then x else y := by
  by_cases hc : c
  · rw [if_pos hc, if_pos hc]; rfl
  · rw [if_neg hc, if_neg hc]; rfl

/-- The scale. -/
theorem scaleT_at : scaleT m (ix2 r h) = sclR (m (ix2 r h)) := by
  have e1 := pastT_at m r h
  have e2 := eT_at m r h
  unfold scaleT
  generalize pastT m = P at *
  generalize eT m = E at *
  pointwise [const2]
  rw [e1, e2, bits_top, select_ite]
  rfl

/-- Its inverse. -/
theorem invT_at : invT m (ix2 r h) = invR (m (ix2 r h)) := by
  have e1 := pastT_at m r h
  have e2 := eT_at m r h
  unfold invT
  generalize pastT m = P at *
  generalize eT m = E at *
  pointwise [const2]
  rw [e1, e2, bits_127, ofBits_bot, select_ite]
  rfl

/-! ### The reference's scale is the kernel's -/

/-- A head's largest magnitude over 448 is not negative. -/
theorem over_nonneg (W : Fin 64 → Fin 128 → EReal) : 0 ≤ over (amax W) := by
  have h0 : mag (W 0 0) ≤ amax W := ((amax_le_iff W (amax W)).1 le_rfl).2 0 0
  have h1 : 0 ≤ amax W := by
    refine le_trans ?_ h0
    rcases le_total 0 (W 0 0) with h | h
    · exact le_max_of_le_left h
    · exact le_max_of_le_right (EReal.neg_nonneg.2 h)
  exact mul_nonneg h1 bits_448_nonneg

/-- The scale of a head's state, as the kernel finds it. -/
theorem scale_at (w : FVec Ideal S320x32x64x128 .f32) : scaleT (mT w) (ix2 r h) = scl (over (amax fun p n => w (ix4 r h p n))) := by
  rw [scaleT_at, mT_at, (search_eq_log (over_nonneg _)).1]

/-- The scale's inverse, as the kernel finds it. -/
theorem inv_at (w : FVec Ideal S320x32x64x128 .f32) : invT (mT w) (ix2 r h) = inv₁ (over (amax fun p n => w (ix4 r h p n))) := by
  rw [invT_at, mT_at, (search_eq_log (over_nonneg _)).2]

end Cert.Proof.ReferenceIdeal

end
-- ==== Proof.RefOut.lean ====
/- What the reference's body leaves: the arrays it stores token by token, read element by element. -/
module

public import proofs.«01_k».proof.Proof.RefSteps
public import Idealize.ShloMosaic.Lib.Pipeline.Value
public import Idealize.ShloMosaic.Lib.Pointwise

@[expose] public section

set_option maxRecDepth 16384

noncomputable section

namespace Cert.Proof.ReferenceIdeal

open Cert.ReferenceIdeal Cert.ReferenceIdeal.Gen
open Idealize Idealize.ShloMosaic Idealize.ShloMosaic.TcCoe

variable {F : FTy → Type} [FloatOps F] (a : Args F)

/-- A token lies within the codes. -/
theorem inb5 (t : Fin 7) : ∀ i : Fin 5, (![0, t.val, 0, 0, 0] : Fin 5 → ℕ) i + S320x1x32x64x128.size i ≤ S320x7x32x64x128.size i := by
  intro i; have := t.isLt; fin_cases i <;> simp [S320x1x32x64x128, S320x7x32x64x128] <;> omega

/-- Token `t`'s rectangle of each output. -/
abbrev ry (t : Fin 7) : Rect S320x7x32x64 := Rect.unit (s := S320x7x32x64) ![0, t.val, 0, 0] S320x1x32x64.size (inb4 t)
/-- The same of the codes, -/
abbrev rc (t : Fin 7) : Rect S320x7x32x64x128 := Rect.unit (s := S320x7x32x64x128) ![0, t.val, 0, 0, 0] S320x1x32x64x128.size (inb5 t)
/-- and of the scales. -/
abbrev rs (t : Fin 7) : Rect S320x7x32 := Rect.unit (s := S320x7x32) ![0, t.val, 0] S320x1x32.size (inb3 t)

/-- What is stored for token `t` whose state is `w`. -/
def pieceY (w : FVec F S320x32x64x128 .f32) (t : Fin 7) : View.Piece (Elt F) S320x7x32x64 .bf16 :=
  ⟨ry t, shapeCast S320x1x32x64 (yT w a.skip (a.x t) (a.c t)) shapeCasts_S320x32x64_S320x1x32x64⟩
/-- The same of the codes, -/
def pieceC (w : FVec F S320x32x64x128 .f32) (t : Fin 7) : View.Piece (Elt F) S320x7x32x64x128 .fp8e4m3 :=
  ⟨rc t, shapeCast S320x1x32x64x128 (codesT w) shapeCasts_S320x32x64x128_S320x1x32x64x128⟩
/-- and of the scales. -/
def pieceS (w : FVec F S320x32x64x128 .f32) (t : Fin 7) : View.Piece (Elt F) S320x7x32 .f32 :=
  ⟨rs t, shapeCast S320x1x32 (scaleT (mT w)) shapeCasts_S320x32_S320x1x32⟩

/-- The outputs as stored, token by token; -/
theorem stored_y : out0_9 a.x0 a.x1 a.x2 a.x3 a.x4 a.x5 a.x6 a.x7 a.x8 = View.canon
    [pieceY a (k0_pay187 a.x0 a.x1 a.x2 a.x3 a.x4 a.x5 a.x6 a.x7 a.x8) 6, pieceY a (k0_pay173 a.x0 a.x1 a.x2 a.x3 a.x4 a.x5 a.x6 a.x7 a.x8) 5,
      pieceY a (k0_pay166 a.x0 a.x1 a.x2 a.x3 a.x4 a.x5 a.x6 a.x7 a.x8) 4, pieceY a (k0_pay159 a.x0 a.x1 a.x2 a.x3 a.x4 a.x5 a.x6 a.x7 a.x8) 3,
      pieceY a (k0_pay154 a.x0 a.x1 a.x2 a.x3 a.x4 a.x5 a.x6 a.x7 a.x8) 2, pieceY a (k0_pay144 a.x0 a.x1 a.x2 a.x3 a.x4 a.x5 a.x6 a.x7 a.x8) 1,
      pieceY a (k0_pay136 a.x0 a.x1 a.x2 a.x3 a.x4 a.x5 a.x6 a.x7 a.x8) 0] := rfl

/-- the codes; -/
theorem stored_c : out0_10 a.x0 a.x1 a.x2 a.x3 a.x4 a.x5 a.x6 a.x7 a.x8 = View.canon
    [pieceC (k0_pay187 a.x0 a.x1 a.x2 a.x3 a.x4 a.x5 a.x6 a.x7 a.x8) 6, pieceC (k0_pay173 a.x0 a.x1 a.x2 a.x3 a.x4 a.x5 a.x6 a.x7 a.x8) 5,
      pieceC (k0_pay166 a.x0 a.x1 a.x2 a.x3 a.x4 a.x5 a.x6 a.x7 a.x8) 4, pieceC (k0_pay159 a.x0 a.x1 a.x2 a.x3 a.x4 a.x5 a.x6 a.x7 a.x8) 3,
      pieceC (k0_pay154 a.x0 a.x1 a.x2 a.x3 a.x4 a.x5 a.x6 a.x7 a.x8) 2, pieceC (k0_pay144 a.x0 a.x1 a.x2 a.x3 a.x4 a.x5 a.x6 a.x7 a.x8) 1,
      pieceC (k0_pay136 a.x0 a.x1 a.x2 a.x3 a.x4 a.x5 a.x6 a.x7 a.x8) 0] := rfl

/-- the scales. -/
theorem stored_s : out0_11 a.x0 a.x1 a.x2 a.x3 a.x4 a.x5 a.x6 a.x7 a.x8 = View.canon
    [pieceS (k0_pay187 a.x0 a.x1 a.x2 a.x3 a.x4 a.x5 a.x6 a.x7 a.x8) 6, pieceS (k0_pay173 a.x0 a.x1 a.x2 a.x3 a.x4 a.x5 a.x6 a.x7 a.x8) 5,
      pieceS (k0_pay166 a.x0 a.x1 a.x2 a.x3 a.x4 a.x5 a.x6 a.x7 a.x8) 4, pieceS (k0_pay159 a.x0 a.x1 a.x2 a.x3 a.x4 a.x5 a.x6 a.x7 a.x8) 3,
      pieceS (k0_pay154 a.x0 a.x1 a.x2 a.x3 a.x4 a.x5 a.x6 a.x7 a.x8) 2, pieceS (k0_pay144 a.x0 a.x1 a.x2 a.x3 a.x4 a.x5 a.x6 a.x7 a.x8) 1,
      pieceS (k0_pay136 a.x0 a.x1 a.x2 a.x3 a.x4 a.x5 a.x6 a.x7 a.x8) 0] := rfl

/-- The tokens, the last first. -/
def tokens : List (Fin 7) := [6, 5, 4, 3, 2, 1, 0]

/-- The outputs by the state of every token; -/
theorem out_y : out0_9 a.x0 a.x1 a.x2 a.x3 a.x4 a.x5 a.x6 a.x7 a.x8 = View.canon (tokens.map fun t => pieceY a (a.pre t.val) t) := by
  rw [stored_y, pre0, pre1, pre2, pre3, pre4, pre5, pre6]; rfl
/-- the codes; -/
theorem out_c : out0_10 a.x0 a.x1 a.x2 a.x3 a.x4 a.x5 a.x6 a.x7 a.x8 = View.canon (tokens.map fun t => pieceC (a.pre t.val) t) := by
  rw [stored_c, pre0, pre1, pre2, pre3, pre4, pre5, pre6]; rfl
/-- the scales. -/
theorem out_s : out0_11 a.x0 a.x1 a.x2 a.x3 a.x4 a.x5 a.x6 a.x7 a.x8 = View.canon (tokens.map fun t => pieceS (a.pre t.val) t) := by
  rw [stored_s, pre0, pre1, pre2, pre3, pre4, pre5, pre6]; rfl

/-- Every token is among them. -/
theorem mem_tokens (t : Fin 7) : t ∈ tokens := by revert t; decide

/-- An array stored token by token is, at an element of a token's rectangle, what that token stored there. -/
theorem canon_tokens {S : Shape} {e : EltTy} (P : Fin 7 → View.Piece (Elt F) S e) (tok : S.Idx → Fin 7) (G : S.Idx → Elt F e)
    (h : ∀ t x, (P t).2 x = G ((P t).1.emb x)) (hc : ∀ y, y ∈ (P (tok y)).1.set) : View.canon (tokens.map P) = G := by
  funext y
  refine View.canon_apply_of_pieces G _ (fun p hp => ?_) y ⟨P (tok y), List.mem_map.2 ⟨_, mem_tokens _, rfl⟩, hc y⟩
  obtain ⟨t, -, rfl⟩ := List.mem_map.1 hp
  exact h t

end Cert.Proof.ReferenceIdeal

end
-- ==== Proof.RefArray.lean ====
/- The reference's three result arrays: token by token, the request recursion. -/
module

public import proofs.«01_k».proof.Proof.RefValue
public import proofs.«01_k».proof.Proof.RefScale
public import proofs.«01_k».proof.Proof.RefOut
public import proofs.«01_k».proof.Proof.Request
public import Idealize.ShloMosaic.Lib.Pipeline.ValueKit
public import Idealize.ShloMosaic.Lib.Claim

@[expose] public section

set_option maxRecDepth 16384

noncomputable section

namespace Cert.Proof.ReferenceIdeal

open Cert.ReferenceIdeal Cert.ReferenceIdeal.Gen
open Idealize Idealize.ShloMosaic Idealize.ShloMosaic.TcCoe Idealize.ShloMosaic.Tactic
open Cert.Proof.KernelIdeal (mag lowest over cut soft amax tmax scl inv₁ Req tk tk_val)

/-- The body's arrays are those of the batch. -/
structure Reads (a : Args Ideal) (b : Batch) : Prop where
  x : a.x0 = b.x
  codes : a.x1 = b.codes
  sscale : a.x2 = b.sscale
  B : a.x3 = b.B
  C : a.x4 = b.C
  dt : a.x5 = b.dt
  bias : ∀ h, a.x6 (ix2 (0 : Fin 1) h) = b.bias (ix1 h)
  alog : ∀ h, a.x7 (ix2 (0 : Fin 1) h) = b.alog (ix1 h)
  dskip : ∀ h, a.x8 (ix2 (0 : Fin 1) h) = b.dskip (ix1 h)

variable {a : Args Ideal} {b : Batch} (R : Reads a b)

/-! ### The reads -/

section
variable (a)
/-- The inputs of a token read from x. -/
theorem x_at (t : Fin 7) (r : Fin 320) (h : Fin 32) (p : Fin 64) : a.x t (ix4 r (0 : Fin 1) h p) = a.x0 (ix4 r t h p) := by
  refine congrArg a.x0 (?_ : Rect.emb _ _ = _)
  blk_ext
/-- The rows of B. -/
theorem b_at (t : Fin 7) (r : Fin 320) (n : Fin 128) : a.b t (ix4 r (0 : Fin 1) (0 : Fin 1) n) = a.x3 (ix4 r t (0 : Fin 1) n) := by
  refine congrArg a.x3 (?_ : Rect.emb _ _ = _)
  blk_ext
/-- The rows of C. -/
theorem c_at (t : Fin 7) (r : Fin 320) (n : Fin 128) : a.c t (ix4 r (0 : Fin 1) (0 : Fin 1) n) = a.x4 (ix4 r t (0 : Fin 1) n) := by
  refine congrArg a.x4 (?_ : Rect.emb _ _ = _)
  blk_ext
/-- The rows of dt. -/
theorem dt_at (t : Fin 7) (r : Fin 320) (h : Fin 32) : a.dt t (ix3 r (0 : Fin 1) h) = a.x5 (ix3 r t h) := by
  refine congrArg a.x5 (?_ : Rect.emb _ _ = _)
  blk_ext
/-- The bias. -/
theorem bias_at (h : Fin 32) : a.bias (ix2 (0 : Fin 1) h) = a.x6 (ix2 (0 : Fin 1) h) := by
  refine congrArg a.x6 (?_ : Rect.emb _ _ = _)
  blk_ext
/-- The rates. -/
theorem rate_at (h : Fin 32) : a.rate (ix2 (0 : Fin 1) h) = Ideal.exp (a.x7 (ix2 (0 : Fin 1) h)) := by
  pointwise [Args.rate]
  blk_ext
/-- The skips. -/
theorem skip_row (h : Fin 32) : a.skip (ix2 (0 : Fin 1) h) = a.x8 (ix2 (0 : Fin 1) h) := by
  pointwise [Args.skip]
  blk_ext
/-- The first state. -/
theorem h0_at (r : Fin 320) (h : Fin 32) (p : Fin 64) (n : Fin 128) : a.h0 (ix4 r h p n) = a.x1 (ix4 r h p n) * a.x2 (ix2 r h) := by
  unfold Args.h0
  rw [back_first]
  exact congrArg₂ (· * ·) (congrArg a.x1 (by blk_ext : Rect.emb r0_0 (ix4 r h p n) = _)) (congrArg a.x2 (by blk_ext : Rect.emb r0_1 (ix2 r h) = _))
end

/-! ### The recursion -/

include R

/-- A gate. -/
theorem gate_at (t : ℕ) (r : Fin 320) (h : Fin 32) :
    softT (preact (a.dt (tk t)) a.bias) (ix2 r h) = (b.req r).dl t h := by
  rw [softT_at, preact_at, dt_at, bias_at, R.dt, R.bias]
  rfl

/-- One token: the state after it, where the state before it stands for the request's codes and scales. -/
theorem step_at {t : ℕ} {H : FVec Ideal S320x32x64x128 .f32} (hH : ∀ r h p n, H (ix4 r h p n) = ((b.req r).st t).1 h p n * ((b.req r).st t).2 h)
    (r : Fin 320) (h : Fin 32) (p : Fin 64) (n : Fin 128) : a.next (tk t) H (ix4 r h p n) = (b.req r).W t h p n := by
  have hk : Ideal.exp ((0 - softT (preact (a.dt (tk t)) a.bias) (ix2 r h)) * a.rate (ix2 (0 : Fin 1) h)) = (b.req r).dk t h := by
    rw [gate_at R, rate_at, R.alog]
    rfl
  unfold Args.next
  rw [nextT_at, hk, gate_at R, hH, x_at, b_at, R.x, R.B]
  refine congrArg₂ (· + ·) (mul_left_comm _ _ _) ?_
  exact congrArg (· * (b.req r).B t n) (mul_comm _ _)

/-- The state before token `t` stands for the request's codes and scales; -/
theorem back_at (t : ℕ) (r : Fin 320) (h : Fin 32) (p : Fin 64) (n : Fin 128) :
    a.back t (ix4 r h p n) = ((b.req r).st t).1 h p n * ((b.req r).st t).2 h := by
  induction t generalizing r h p n with
  | zero =>
    refine (h0_at a r h p n).trans ?_
    rw [R.codes, R.sscale]
    rfl
  | succ t ih =>
    have hw := fun p n => step_at R ih r h p n
    refine (backT_at (a.next (tk t) (a.back t)) r h p n).trans ?_
    rw [codesT_at, inv_at, scale_at, funext fun p => funext fun n => hw p n, hw]
    rfl

/-- the state after it is the request's. -/
theorem pre_at (t : ℕ) (r : Fin 320) (h : Fin 32) (p : Fin 64) (n : Fin 128) : a.pre t (ix4 r h p n) = (b.req r).W t h p n :=
  step_at R (back_at R t) r h p n

/-- The scale after token `t`. -/
theorem out_scale (t : ℕ) (r : Fin 320) (h : Fin 32) : scaleT (mT (a.pre t)) (ix2 r h) = ((b.req r).st (t + 1)).2 h := by
  rw [scale_at, funext fun p => funext fun n => pre_at R t r h p n]
  rfl

/-- The codes after token `t`. -/
theorem out_codes (t : ℕ) (r : Fin 320) (h : Fin 32) (p : Fin 64) (n : Fin 128) : codesT (a.pre t) (ix4 r h p n) = ((b.req r).st (t + 1)).1 h p n := by
  rw [codesT_at, inv_at, pre_at R, funext fun p => funext fun n => pre_at R t r h p n]
  rfl

/-- The output of token `t`. -/
theorem out_token (t : Fin 7) (r : Fin 320) (h : Fin 32) (p : Fin 64) :
    yT (a.pre t.val) a.skip (a.x t) (a.c t) (ix3 r h p) = (b.req r).y t.val h p := by
  have ht : tk t.val = t := tk_val t
  rw [yT_at, out_scale R, skip_row, x_at, R.dskip, R.x]
  refine congrArg₂ (· + ·) (congrArg (· * ((b.req r).st (t.val + 1)).2 h) (Finset.sum_congr rfl fun n _ => ?_)) ?_
  · rw [out_codes R, c_at, R.C]
    refine (mul_comm _ _).trans (congrArg (· * ((b.req r).st (t.val + 1)).1 h p n) ?_)
    show _ = b.C (ix4 r (tk t.val) (0 : Fin 1) n)
    rw [ht]
  · show _ = b.dskip (ix1 h) * b.x (ix4 r (tk t.val) h p)
    rw [ht]

/-! ### What the body leaves -/

omit R in
/-- Where a token's outputs go in the array. -/
theorem emb_y (t : Fin 7) (j : S320x1x32x64.Idx) : (ry t).emb j = ix4 (j 0) t (j 2) (j 3) := by
  unfold ry
  blk_ext
omit R in
/-- Where a token's codes go in the array. -/
theorem emb_c (t : Fin 7) (j : S320x1x32x64x128.Idx) : (rc t).emb j = ix5 (j 0) t (j 2) (j 3) (j 4) := by
  unfold rc
  blk_ext
omit R in
/-- Where a token's scales go in the array. -/
theorem emb_s (t : Fin 7) (j : S320x1x32.Idx) : (rs t).emb j = ix3 (j 0) t (j 2) := by
  unfold rs
  blk_ext

omit R in
/-- Every output lies in its token's rectangle; -/
theorem mem_y (y : S320x7x32x64.Idx) : y ∈ (ry (y 1)).set := by
  refine Rect.mem_set_unit.2 fun i => ?_
  fin_cases i <;> simp [S320x1x32x64] <;> first | exact (y 0).isLt | exact (y 2).isLt | exact (y 3).isLt
omit R in
/-- every code; -/
theorem mem_c (y : S320x7x32x64x128.Idx) : y ∈ (rc (y 1)).set := by
  refine Rect.mem_set_unit.2 fun i => ?_
  fin_cases i <;> simp [S320x1x32x64x128] <;> first | exact (y 0).isLt | exact (y 2).isLt | exact (y 3).isLt | exact (y 4).isLt
omit R in
/-- every scale. -/
theorem mem_s (y : S320x7x32.Idx) : y ∈ (rs (y 1)).set := by
  refine Rect.mem_set_unit.2 fun i => ?_
  fin_cases i <;> simp [S320x1x32] <;> first | exact (y 0).isLt | exact (y 2).isLt

omit R in
/-- What is stored for a token, at an element: the outputs; -/
theorem cast_y (Y : FVec Ideal S320x32x64 .bf16) (j : S320x1x32x64.Idx) :
    shapeCast S320x1x32x64 Y shapeCasts_S320x32x64_S320x1x32x64 j = Y (ix3 (j 0) (j 2) (j 3)) := by
  refine (congrArg (shapeCast S320x1x32x64 Y shapeCasts_S320x32x64_S320x1x32x64) (by blk_ext : j = ix4 (j 0) (0 : Fin 1) (j 2) (j 3))).trans ?_
  generalize j 0 = r
  generalize j 2 = h
  generalize j 3 = p
  pointwise []
omit R in
/-- the codes; -/
theorem cast_c (Y : FVec Ideal S320x32x64x128 .fp8e4m3) (j : S320x1x32x64x128.Idx) :
    shapeCast S320x1x32x64x128 Y shapeCasts_S320x32x64x128_S320x1x32x64x128 j = Y (ix4 (j 0) (j 2) (j 3) (j 4)) := by
  refine (congrArg (shapeCast S320x1x32x64x128 Y shapeCasts_S320x32x64x128_S320x1x32x64x128) (by blk_ext : j = ix5 (j 0) (0 : Fin 1) (j 2) (j 3) (j 4))).trans ?_
  pointwise []
omit R in
/-- the scales. -/
theorem cast_s (Y : FVec Ideal S320x32 .f32) (j : S320x1x32.Idx) :
    shapeCast S320x1x32 Y shapeCasts_S320x32_S320x1x32 j = Y (ix2 (j 0) (j 2)) := by
  refine (congrArg (shapeCast S320x1x32 Y shapeCasts_S320x32_S320x1x32) (by blk_ext : j = ix3 (j 0) (0 : Fin 1) (j 2))).trans ?_
  pointwise []

omit R in
/-- A token's outputs are those of `G`; -/
theorem piece_y {w : FVec Ideal S320x32x64x128 .f32} {G : S320x7x32x64.Idx → EReal} (t : Fin 7)
    (hG : ∀ r h p, yT w a.skip (a.x t) (a.c t) (ix3 r h p) = G (ix4 r t h p)) (j : S320x1x32x64.Idx) :
    (pieceY a w t).2 j = G ((ry t).emb j) := by
  rw [emb_y]
  exact (cast_y _ j).trans (hG _ _ _)
omit R in
/-- its codes; -/
theorem piece_c {w : FVec Ideal S320x32x64x128 .f32} {G : S320x7x32x64x128.Idx → EReal} (t : Fin 7)
    (hG : ∀ r h p n, codesT w (ix4 r h p n) = G (ix5 r t h p n)) (j : S320x1x32x64x128.Idx) :
    (pieceC w t).2 j = G ((rc t).emb j) := by
  rw [emb_c]
  exact (cast_c _ j).trans (hG _ _ _ _)
omit R in
/-- its scales. -/
theorem piece_s {w : FVec Ideal S320x32x64x128 .f32} {G : S320x7x32.Idx → EReal} (t : Fin 7)
    (hG : ∀ r h, scaleT (mT w) (ix2 r h) = G (ix3 r t h)) (j : S320x1x32.Idx) :
    (pieceS w t).2 j = G ((rs t).emb j) := by
  rw [emb_s]
  exact (cast_s _ j).trans (hG _ _)

/-- The outputs. -/
theorem body_y : out0_9 a.x0 a.x1 a.x2 a.x3 a.x4 a.x5 a.x6 a.x7 a.x8 = b.y := by
  rw [out_y]
  refine canon_tokens (fun t => pieceY a (a.pre t.val) t) (fun j : S320x7x32x64.Idx => j 1) b.y (fun t => ?_) fun j => ?_
  · exact piece_y t fun r h p => out_token R t r h p
  · exact mem_y j

/-- The codes of the state after every token. -/
theorem body_codes : out0_10 a.x0 a.x1 a.x2 a.x3 a.x4 a.x5 a.x6 a.x7 a.x8 = b.codesOut := by
  rw [out_c]
  refine canon_tokens (fun t => pieceC (a.pre t.val) t) (fun j : S320x7x32x64x128.Idx => j 1) b.codesOut (fun t => ?_) fun j => ?_
  · exact piece_c t fun r h p n => out_codes R t.val r h p n
  · exact mem_c j

/-- Their scales. -/
theorem body_scale : out0_11 a.x0 a.x1 a.x2 a.x3 a.x4 a.x5 a.x6 a.x7 a.x8 = b.scales := by
  rw [out_s]
  refine canon_tokens (fun t => pieceS (a.pre t.val) t) (fun j : S320x7x32.Idx => j 1) b.scales (fun t => ?_) fun j => ?_
  · exact piece_s t fun r h => out_scale R t.val r h
  · exact mem_s j

end Cert.Proof.ReferenceIdeal

end
-- ==== Proof.RefRun.lean ====
/- The reference's run: its three result arrays are the batch's. -/
module

public import proofs.«01_k».proof.Proof.RefArray
public import proofs.«01_k».proof.Proof.Gen.ReferenceIdeal.Value

@[expose] public section

set_option maxRecDepth 16384

noncomputable section

namespace Cert.Proof.ReferenceIdeal

open Cert.ReferenceIdeal Cert.ReferenceIdeal.Gen
open Idealize Idealize.ShloMosaic Idealize.ShloMosaic.TcCoe Idealize.ShloMosaic.Tactic Idealize.SL.Sem

variable (m : (ℓ : Loc nD τ sig) → Buf (Elt Ideal) ℓ) (c : Dev nD)

/-- The batch in the argument arrays. -/
def batchOf : Batch :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩

/-- The body's arrays at the one grid point. -/
def argsOf (t : Fin cfg0.N) : Args Ideal :=
  ⟨iblk m c 0 t, iblk m c 1 t, iblk m c 2 t, iblk m c 3 t, iblk m c 4 t, iblk m c 5 t, iblk m c 6 t, iblk m c 7 t, iblk m c 8 t⟩

/-! ### Every window is its whole array -/

/-- Window 0. -/
theorem idx0 : ∀ t : Fin cfg0.N, win0_0.index t = ![0, 0, 0, 0] := (by decide +kernel : ∀ t : Fin grid0.N, _)
/-- Window 1. -/
theorem idx1 : ∀ t : Fin cfg0.N, win0_1.index t = ![0, 0, 0, 0] := (by decide +kernel : ∀ t : Fin grid0.N, _)
/-- Window 2. -/
theorem idx2 : ∀ t : Fin cfg0.N, win0_2.index t = ![0, 0] := (by decide +kernel : ∀ t : Fin grid0.N, _)
/-- Window 3. -/
theorem idx3 : ∀ t : Fin cfg0.N, win0_3.index t = ![0, 0, 0, 0] := (by decide +kernel : ∀ t : Fin grid0.N, _)
/-- Window 4. -/
theorem idx4 : ∀ t : Fin cfg0.N, win0_4.index t = ![0, 0, 0, 0] := (by decide +kernel : ∀ t : Fin grid0.N, _)
/-- Window 5. -/
theorem idx5 : ∀ t : Fin cfg0.N, win0_5.index t = ![0, 0, 0] := (by decide +kernel : ∀ t : Fin grid0.N, _)
/-- Window 6. -/
theorem idx6 : ∀ t : Fin cfg0.N, win0_6.index t = ![0, 0] := (by decide +kernel : ∀ t : Fin grid0.N, _)
/-- Window 7. -/
theorem idx7 : ∀ t : Fin cfg0.N, win0_7.index t = ![0, 0] := (by decide +kernel : ∀ t : Fin grid0.N, _)
/-- Window 8. -/
theorem idx8 : ∀ t : Fin cfg0.N, win0_8.index t = ![0, 0] := (by decide +kernel : ∀ t : Fin grid0.N, _)
/-- Window 9. -/
theorem idx9 : ∀ t : Fin cfg0.N, win0_9.index t = ![0, 0, 0, 0] := (by decide +kernel : ∀ t : Fin grid0.N, _)
/-- Window 10. -/
theorem idx10 : ∀ t : Fin cfg0.N, win0_10.index t = ![0, 0, 0, 0, 0] := (by decide +kernel : ∀ t : Fin grid0.N, _)
/-- Window 11. -/
theorem idx11 : ∀ t : Fin cfg0.N, win0_11.index t = ![0, 0, 0] := (by decide +kernel : ∀ t : Fin grid0.N, _)

variable (t : Fin cfg0.N)

/-- x, whole. -/
theorem arr_x : (iblk m c 0 t : Vec Ideal S320x7x32x64 .bf16) = (batchOf m c).x := by
  funext j
  blk_ext [iblk, V_main_arg0 m c, idx0 t]
/-- The codes, whole. -/
theorem arr_codes : (iblk m c 1 t : Vec Ideal S320x32x64x128 .fp8e4m3) = (batchOf m c).codes := by
  funext j
  blk_ext [iblk, V_main_arg1 m c, idx1 t]
/-- The scales, whole. -/
theorem arr_sscale : (iblk m c 2 t : Vec Ideal S320x32 .f32) = (batchOf m c).sscale := by
  funext j
  blk_ext [iblk, V_main_arg2 m c, idx2 t]
/-- B, whole. -/
theorem arr_B : (iblk m c 3 t : Vec Ideal S320x7x1x128 .bf16) = (batchOf m c).B := by
  funext j
  blk_ext [iblk, V_main_arg3 m c, idx3 t]
/-- C, whole. -/
theorem arr_C : (iblk m c 4 t : Vec Ideal S320x7x1x128 .bf16) = (batchOf m c).C := by
  funext j
  blk_ext [iblk, V_main_arg4 m c, idx4 t]
/-- dt, whole. -/
theorem arr_dt : (iblk m c 5 t : Vec Ideal S320x7x32 .f32) = (batchOf m c).dt := by
  funext j
  blk_ext [iblk, V_main_arg5 m c, idx5 t]
/-- The bias as one row. -/
theorem arr_bias (h : Fin 32) : (iblk m c 6 t : Vec Ideal S1x32 .f32) (ix2 (0 : Fin 1) h) = (batchOf m c).bias (ix1 h) := by
  refine (by blk_ext [iblk, idx6 t] : (iblk m c 6 t : Vec Ideal S1x32 .f32) (ix2 (0 : Fin 1) h) = (V m c main_v0 : Vec Ideal S1x32 .f32) (ix2 (0 : Fin 1) h)).trans ?_
  entry_read
  pointwise []
  rfl
/-- The log rates as one row. -/
theorem arr_alog (h : Fin 32) : (iblk m c 7 t : Vec Ideal S1x32 .f32) (ix2 (0 : Fin 1) h) = (batchOf m c).alog (ix1 h) := by
  refine (by blk_ext [iblk, idx7 t] : (iblk m c 7 t : Vec Ideal S1x32 .f32) (ix2 (0 : Fin 1) h) = (V m c main_v1 : Vec Ideal S1x32 .f32) (ix2 (0 : Fin 1) h)).trans ?_
  entry_read
  pointwise []
  rfl
/-- The skips as one row. -/
theorem arr_dskip (h : Fin 32) : (iblk m c 8 t : Vec Ideal S1x32 .f32) (ix2 (0 : Fin 1) h) = (batchOf m c).dskip (ix1 h) := by
  refine (by blk_ext [iblk, idx8 t] : (iblk m c 8 t : Vec Ideal S1x32 .f32) (ix2 (0 : Fin 1) h) = (V m c main_v2 : Vec Ideal S1x32 .f32) (ix2 (0 : Fin 1) h)).trans ?_
  entry_read
  pointwise []
  rfl

/-- What the body reads is the batch. -/
theorem reads : Reads (argsOf m c t) (batchOf m c) :=
  ⟨arr_x m c t, arr_codes m c t, arr_sscale m c t, arr_B m c t, arr_C m c t, arr_dt m c t, arr_bias m c t, arr_alog m c t, arr_dskip m c t⟩

/-! ### The three arrays -/

omit t in
/-- The outputs. -/
theorem array_y : (dats m 0 c).arrAt 9 cfg0.N = (batchOf m c).y := by
  refine (dats m 0 c).arrAt_eq_of_after_last 9 t0_0 (by decide +kernel) (batchOf m c).y fun j => ?_
  blk_simp
  rw [after0_9]
  exact congrFun (body_y (reads m c t0_0)) j

omit t in
/-- The codes of the state after every token. -/
theorem array_codes : (dats m 0 c).arrAt 10 cfg0.N = (batchOf m c).codesOut := by
  refine (dats m 0 c).arrAt_eq_of_after_last 10 t0_0 (by decide +kernel) (batchOf m c).codesOut fun j => ?_
  blk_simp
  rw [after0_10]
  exact congrFun (body_codes (reads m c t0_0)) j

omit t in
/-- Their scales. -/
theorem array_scale : (dats m 0 c).arrAt 11 cfg0.N = (batchOf m c).scales := by
  refine (dats m 0 c).arrAt_eq_of_after_last 11 t0_0 (by decide +kernel) (batchOf m c).scales fun j => ?_
  blk_simp
  rw [after0_11]
  exact congrFun (body_scale (reads m c t0_0)) j

omit c t in
/-- The run: the three results are the batch's, the arguments are unchanged. -/
theorem run_batch (ρ : Dev nD → PrngReg) : θ_run defs (onTc (τ := τ) (main (F := Ideal))) ⟨m, fun _ => 0, ρ⟩ (fun r => ∀ c : Dev nD,
      r.2.mem ((c.tc : Thread nD τ).loc main_v3_0) = (batchOf m c).y
      ∧ r.2.mem ((c.tc : Thread nD τ).loc main_v3_1) = (batchOf m c).codesOut
      ∧ r.2.mem ((c.tc : Thread nD τ).loc main_v3_2) = (batchOf m c).scales
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (array_y m c), (h c).2.1.trans (array_codes m c), (h c).2.2.1.trans (array_scale m c), (h c).2.2.2⟩)
    (Cert.ReferenceIdeal.Value.run_blocks m ρ)

end Cert.Proof.ReferenceIdeal

end
-- ==== Proof.lean ====
module

public import proofs.«01_k».proof.Defs
public import proofs.«01_k».proof.Proof.KernelFrame
public import proofs.«01_k».proof.Proof.KernelArray
public import proofs.«01_k».proof.Proof.RefRun
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

/-- The idealized kernel runs, its arguments end unchanged and every semaphore counter at zero. -/
theorem frame_ideal [Cert.KernelIdeal.Facts] : Cert.quiescent_KernelIdeal := fun m g _ =>
  (θ_run _ _ _).mono (fun _ hr => ⟨fun c => (hr.1 c).2.2.2, hr.2⟩) (KernelIdeal.Exact.run_batch m g)

/-- On equal arguments the kernel and the reference end with equal results. -/
theorem algebraic [Cert.KernelIdeal.Facts] [Cert.ReferenceIdeal.Facts] : Cert.algebraic_KernelIdeal_ReferenceIdeal := by
  intro m g m' g' _ h
  have hb : ∀ c : Dev Cert.KernelIdeal.nD, ReferenceIdeal.batchOf m' c = KernelIdeal.Exact.batchOf m c := fun c => by
    obtain ⟨h0, h1, h2, h3, h4, h5, h6, h7, h8⟩ := h c
    unfold ReferenceIdeal.batchOf KernelIdeal.Exact.batchOf
    rw [Batch.mk.injEq]
    exact ⟨h0, h1, h2, h3, h4, h5, h6, h7, h8⟩
  refine ⟨fun c => (KernelIdeal.Exact.batchOf m c).y, fun c => (KernelIdeal.Exact.batchOf m c).codesOut, fun c => (KernelIdeal.Exact.batchOf m c).scales,
    (θ_run _ _ _).mono (fun _ hr => hr.1) (KernelIdeal.Exact.run_batch m g), (θ_run _ _ _).mono (fun r hr c => ?_) (ReferenceIdeal.run_batch m' g')⟩
  obtain ⟨y, k, s, rest⟩ := hr c
  have e := hb c
  exact ⟨y.trans (congrArg Batch.y e), k.trans (congrArg Batch.codesOut e), s.trans (congrArg Batch.scales e), rest⟩

/-- All five claims. -/
theorem claim : Cert.Claim := ⟨Cert.Kernel.Gen.facts, Cert.KernelIdeal.Gen.facts, Cert.ReferenceIdeal.Gen.facts,
  fun m ρ _ => Cert.Proof.Kernel.frame m ρ, frame_ideal,
  fun m ρ _ => Cert.ReferenceIdeal.Gen.frame m ρ, trivial, algebraic⟩

end Cert.Proof

end
